-- ==== Defs.lean ====
def Pre_Model (m : (ℓ : Loc Cert.Model.nD Cert.Model.τ Cert.Model.sig) → Buf (Elt Bits) ℓ) : Prop :=
  True

def Pre_ModelIdeal (m : (ℓ : Loc Cert.ModelIdeal.nD Cert.ModelIdeal.τ Cert.ModelIdeal.sig) → Buf (Elt Ideal) ℓ) : Prop :=
  True

def Pre_ModelRefIdeal (m : (ℓ : Loc Cert.ModelRefIdeal.nD Cert.ModelRefIdeal.τ Cert.ModelRefIdeal.sig) → Buf (Elt Ideal) ℓ) : Prop :=
  True

def Pre_Head (m : (ℓ : Loc Cert.Head.nD Cert.Head.τ Cert.Head.sig) → Buf (Elt Bits) ℓ) : Prop :=
  True

def Pre_HeadIdeal (m : (ℓ : Loc Cert.HeadIdeal.nD Cert.HeadIdeal.τ Cert.HeadIdeal.sig) → Buf (Elt Ideal) ℓ) : Prop :=
  True

def Pre_HeadRefIdeal (m : (ℓ : Loc Cert.HeadRefIdeal.nD Cert.HeadRefIdeal.τ Cert.HeadRefIdeal.sig) → Buf (Elt Ideal) ℓ) : Prop :=
  True

def quiescent_Model [hModel : Cert.Model.Facts] : Prop :=
  ∀ (m : (ℓ : Loc Cert.Model.nD Cert.Model.τ Cert.Model.sig) → Buf (Elt Bits) ℓ) (g : Dev Cert.Model.nD → PrngReg), Pre_Model m →
    θ_run (Cert.Model.defs (F := Bits)) (onTc (τ := Cert.Model.τ) (Cert.Model.main (F := Bits))) ⟨m, fun _ => 0, g⟩ (fun r => (∀ c : Dev Cert.Model.nD,
      r.2.mem ((c.tc : Thread Cert.Model.nD Cert.Model.τ).loc Cert.Model.main_arg0) = m ((c.tc : Thread Cert.Model.nD Cert.Model.τ).loc Cert.Model.main_arg0)
      ∧ r.2.mem ((c.tc : Thread Cert.Model.nD Cert.Model.τ).loc Cert.Model.main_arg1) = m ((c.tc : Thread Cert.Model.nD Cert.Model.τ).loc Cert.Model.main_arg1)
      ∧ r.2.mem ((c.tc : Thread Cert.Model.nD Cert.Model.τ).loc Cert.Model.main_arg2) = m ((c.tc : Thread Cert.Model.nD Cert.Model.τ).loc Cert.Model.main_arg2)
      ∧ r.2.mem ((c.tc : Thread Cert.Model.nD Cert.Model.τ).loc Cert.Model.main_arg3) = m ((c.tc : Thread Cert.Model.nD Cert.Model.τ).loc Cert.Model.main_arg3)
      ∧ r.2.mem ((c.tc : Thread Cert.Model.nD Cert.Model.τ).loc Cert.Model.main_arg4) = m ((c.tc : Thread Cert.Model.nD Cert.Model.τ).loc Cert.Model.main_arg4)
      ∧ r.2.mem ((c.tc : Thread Cert.Model.nD Cert.Model.τ).loc Cert.Model.main_arg5) = m ((c.tc : Thread Cert.Model.nD Cert.Model.τ).loc Cert.Model.main_arg5)
      ∧ r.2.mem ((c.tc : Thread Cert.Model.nD Cert.Model.τ).loc Cert.Model.main_arg6) = m ((c.tc : Thread Cert.Model.nD Cert.Model.τ).loc Cert.Model.main_arg6)
      ∧ r.2.mem ((c.tc : Thread Cert.Model.nD Cert.Model.τ).loc Cert.Model.main_arg7) = m ((c.tc : Thread Cert.Model.nD Cert.Model.τ).loc Cert.Model.main_arg7)
      ∧ r.2.mem ((c.tc : Thread Cert.Model.nD Cert.Model.τ).loc Cert.Model.main_arg8) = m ((c.tc : Thread Cert.Model.nD Cert.Model.τ).loc Cert.Model.main_arg8)
      ∧ r.2.mem ((c.tc : Thread Cert.Model.nD Cert.Model.τ).loc Cert.Model.main_arg9) = m ((c.tc : Thread Cert.Model.nD Cert.Model.τ).loc Cert.Model.main_arg9)
      ∧ r.2.mem ((c.tc : Thread Cert.Model.nD Cert.Model.τ).loc Cert.Model.main_arg10) = m ((c.tc : Thread Cert.Model.nD Cert.Model.τ).loc Cert.Model.main_arg10)
      ∧ r.2.mem ((c.tc : Thread Cert.Model.nD Cert.Model.τ).loc Cert.Model.main_arg11) = m ((c.tc : Thread Cert.Model.nD Cert.Model.τ).loc Cert.Model.main_arg11)
      ∧ r.2.mem ((c.tc : Thread Cert.Model.nD Cert.Model.τ).loc Cert.Model.main_arg12) = m ((c.tc : Thread Cert.Model.nD Cert.Model.τ).loc Cert.Model.main_arg12))
      ∧ r.2.sem = fun _ => 0)

def quiescent_ModelIdeal [hModelIdeal : Cert.ModelIdeal.Facts] : Prop :=
  ∀ (m : (ℓ : Loc Cert.ModelIdeal.nD Cert.ModelIdeal.τ Cert.ModelIdeal.sig) → Buf (Elt Ideal) ℓ) (g : Dev Cert.ModelIdeal.nD → PrngReg), Pre_ModelIdeal m →
    θ_run (Cert.ModelIdeal.defs (F := Ideal)) (onTc (τ := Cert.ModelIdeal.τ) (Cert.ModelIdeal.main (F := Ideal))) ⟨m, fun _ => 0, g⟩ (fun r => (∀ c : Dev Cert.ModelIdeal.nD,
      r.2.mem ((c.tc : Thread Cert.ModelIdeal.nD Cert.ModelIdeal.τ).loc Cert.ModelIdeal.main_arg0) = m ((c.tc : Thread Cert.ModelIdeal.nD Cert.ModelIdeal.τ).loc Cert.ModelIdeal.main_arg0)
      ∧ r.2.mem ((c.tc : Thread Cert.ModelIdeal.nD Cert.ModelIdeal.τ).loc Cert.ModelIdeal.main_arg1) = m ((c.tc : Thread Cert.ModelIdeal.nD Cert.ModelIdeal.τ).loc Cert.ModelIdeal.main_arg1)
      ∧ r.2.mem ((c.tc : Thread Cert.ModelIdeal.nD Cert.ModelIdeal.τ).loc Cert.ModelIdeal.main_arg2) = m ((c.tc : Thread Cert.ModelIdeal.nD Cert.ModelIdeal.τ).loc Cert.ModelIdeal.main_arg2)
      ∧ r.2.mem ((c.tc : Thread Cert.ModelIdeal.nD Cert.ModelIdeal.τ).loc Cert.ModelIdeal.main_arg3) = m ((c.tc : Thread Cert.ModelIdeal.nD Cert.ModelIdeal.τ).loc Cert.ModelIdeal.main_arg3)
      ∧ r.2.mem ((c.tc : Thread Cert.ModelIdeal.nD Cert.ModelIdeal.τ).loc Cert.ModelIdeal.main_arg4) = m ((c.tc : Thread Cert.ModelIdeal.nD Cert.ModelIdeal.τ).loc Cert.ModelIdeal.main_arg4)
      ∧ r.2.mem ((c.tc : Thread Cert.ModelIdeal.nD Cert.ModelIdeal.τ).loc Cert.ModelIdeal.main_arg5) = m ((c.tc : Thread Cert.ModelIdeal.nD Cert.ModelIdeal.τ).loc Cert.ModelIdeal.main_arg5)
      ∧ r.2.mem ((c.tc : Thread Cert.ModelIdeal.nD Cert.ModelIdeal.τ).loc Cert.ModelIdeal.main_arg6) = m ((c.tc : Thread Cert.ModelIdeal.nD Cert.ModelIdeal.τ).loc Cert.ModelIdeal.main_arg6)
      ∧ r.2.mem ((c.tc : Thread Cert.ModelIdeal.nD Cert.ModelIdeal.τ).loc Cert.ModelIdeal.main_arg7) = m ((c.tc : Thread Cert.ModelIdeal.nD Cert.ModelIdeal.τ).loc Cert.ModelIdeal.main_arg7)
      ∧ r.2.mem ((c.tc : Thread Cert.ModelIdeal.nD Cert.ModelIdeal.τ).loc Cert.ModelIdeal.main_arg8) = m ((c.tc : Thread Cert.ModelIdeal.nD Cert.ModelIdeal.τ).loc Cert.ModelIdeal.main_arg8)
      ∧ r.2.mem ((c.tc : Thread Cert.ModelIdeal.nD Cert.ModelIdeal.τ).loc Cert.ModelIdeal.main_arg9) = m ((c.tc : Thread Cert.ModelIdeal.nD Cert.ModelIdeal.τ).loc Cert.ModelIdeal.main_arg9)
      ∧ r.2.mem ((c.tc : Thread Cert.ModelIdeal.nD Cert.ModelIdeal.τ).loc Cert.ModelIdeal.main_arg10) = m ((c.tc : Thread Cert.ModelIdeal.nD Cert.ModelIdeal.τ).loc Cert.ModelIdeal.main_arg10)
      ∧ r.2.mem ((c.tc : Thread Cert.ModelIdeal.nD Cert.ModelIdeal.τ).loc Cert.ModelIdeal.main_arg11) = m ((c.tc : Thread Cert.ModelIdeal.nD Cert.ModelIdeal.τ).loc Cert.ModelIdeal.main_arg11)
      ∧ r.2.mem ((c.tc : Thread Cert.ModelIdeal.nD Cert.ModelIdeal.τ).loc Cert.ModelIdeal.main_arg12) = m ((c.tc : Thread Cert.ModelIdeal.nD Cert.ModelIdeal.τ).loc Cert.ModelIdeal.main_arg12))
      ∧ r.2.sem = fun _ => 0)

def quiescent_ModelRefIdeal [hModelRefIdeal : Cert.ModelRefIdeal.Facts] : Prop :=
  ∀ (m : (ℓ : Loc Cert.ModelRefIdeal.nD Cert.ModelRefIdeal.τ Cert.ModelRefIdeal.sig) → Buf (Elt Ideal) ℓ) (g : Dev Cert.ModelRefIdeal.nD → PrngReg), Pre_ModelRefIdeal m →
    θ_run (Cert.ModelRefIdeal.defs (F := Ideal)) (onTc (τ := Cert.ModelRefIdeal.τ) (Cert.ModelRefIdeal.main (F := Ideal))) ⟨m, fun _ => 0, g⟩ (fun r => (∀ c : Dev Cert.ModelRefIdeal.nD,
      r.2.mem ((c.tc : Thread Cert.ModelRefIdeal.nD Cert.ModelRefIdeal.τ).loc Cert.ModelRefIdeal.main_arg0) = m ((c.tc : Thread Cert.ModelRefIdeal.nD Cert.ModelRefIdeal.τ).loc Cert.ModelRefIdeal.main_arg0)
      ∧ r.2.mem ((c.tc : Thread Cert.ModelRefIdeal.nD Cert.ModelRefIdeal.τ).loc Cert.ModelRefIdeal.main_arg1) = m ((c.tc : Thread Cert.ModelRefIdeal.nD Cert.ModelRefIdeal.τ).loc Cert.ModelRefIdeal.main_arg1)
      ∧ r.2.mem ((c.tc : Thread Cert.ModelRefIdeal.nD Cert.ModelRefIdeal.τ).loc Cert.ModelRefIdeal.main_arg2) = m ((c.tc : Thread Cert.ModelRefIdeal.nD Cert.ModelRefIdeal.τ).loc Cert.ModelRefIdeal.main_arg2)
      ∧ r.2.mem ((c.tc : Thread Cert.ModelRefIdeal.nD Cert.ModelRefIdeal.τ).loc Cert.ModelRefIdeal.main_arg3) = m ((c.tc : Thread Cert.ModelRefIdeal.nD Cert.ModelRefIdeal.τ).loc Cert.ModelRefIdeal.main_arg3)
      ∧ r.2.mem ((c.tc : Thread Cert.ModelRefIdeal.nD Cert.ModelRefIdeal.τ).loc Cert.ModelRefIdeal.main_arg4) = m ((c.tc : Thread Cert.ModelRefIdeal.nD Cert.ModelRefIdeal.τ).loc Cert.ModelRefIdeal.main_arg4)
      ∧ r.2.mem ((c.tc : Thread Cert.ModelRefIdeal.nD Cert.ModelRefIdeal.τ).loc Cert.ModelRefIdeal.main_arg5) = m ((c.tc : Thread Cert.ModelRefIdeal.nD Cert.ModelRefIdeal.τ).loc Cert.ModelRefIdeal.main_arg5)
      ∧ r.2.mem ((c.tc : Thread Cert.ModelRefIdeal.nD Cert.ModelRefIdeal.τ).loc Cert.ModelRefIdeal.main_arg6) = m ((c.tc : Thread Cert.ModelRefIdeal.nD Cert.ModelRefIdeal.τ).loc Cert.ModelRefIdeal.main_arg6)
      ∧ r.2.mem ((c.tc : Thread Cert.ModelRefIdeal.nD Cert.ModelRefIdeal.τ).loc Cert.ModelRefIdeal.main_arg7) = m ((c.tc : Thread Cert.ModelRefIdeal.nD Cert.ModelRefIdeal.τ).loc Cert.ModelRefIdeal.main_arg7)
      ∧ r.2.mem ((c.tc : Thread Cert.ModelRefIdeal.nD Cert.ModelRefIdeal.τ).loc Cert.ModelRefIdeal.main_arg8) = m ((c.tc : Thread Cert.ModelRefIdeal.nD Cert.ModelRefIdeal.τ).loc Cert.ModelRefIdeal.main_arg8)
      ∧ r.2.mem ((c.tc : Thread Cert.ModelRefIdeal.nD Cert.ModelRefIdeal.τ).loc Cert.ModelRefIdeal.main_arg9) = m ((c.tc : Thread Cert.ModelRefIdeal.nD Cert.ModelRefIdeal.τ).loc Cert.ModelRefIdeal.main_arg9)
      ∧ r.2.mem ((c.tc : Thread Cert.ModelRefIdeal.nD Cert.ModelRefIdeal.τ).loc Cert.ModelRefIdeal.main_arg10) = m ((c.tc : Thread Cert.ModelRefIdeal.nD Cert.ModelRefIdeal.τ).loc Cert.ModelRefIdeal.main_arg10)
      ∧ r.2.mem ((c.tc : Thread Cert.ModelRefIdeal.nD Cert.ModelRefIdeal.τ).loc Cert.ModelRefIdeal.main_arg11) = m ((c.tc : Thread Cert.ModelRefIdeal.nD Cert.ModelRefIdeal.τ).loc Cert.ModelRefIdeal.main_arg11)
      ∧ r.2.mem ((c.tc : Thread Cert.ModelRefIdeal.nD Cert.ModelRefIdeal.τ).loc Cert.ModelRefIdeal.main_arg12) = m ((c.tc : Thread Cert.ModelRefIdeal.nD Cert.ModelRefIdeal.τ).loc Cert.ModelRefIdeal.main_arg12))
      ∧ r.2.sem = fun _ => 0)

def quiescent_Head [hHead : Cert.Head.Facts] : Prop :=
  ∀ (m : (ℓ : Loc Cert.Head.nD Cert.Head.τ Cert.Head.sig) → Buf (Elt Bits) ℓ) (g : Dev Cert.Head.nD → PrngReg), Pre_Head m →
    θ_run (Cert.Head.defs (F := Bits)) (onTc (τ := Cert.Head.τ) (Cert.Head.main (F := Bits))) ⟨m, fun _ => 0, g⟩ (fun r => (∀ c : Dev Cert.Head.nD,
      r.2.mem ((c.tc : Thread Cert.Head.nD Cert.Head.τ).loc Cert.Head.main_arg0) = m ((c.tc : Thread Cert.Head.nD Cert.Head.τ).loc Cert.Head.main_arg0)
      ∧ r.2.mem ((c.tc : Thread Cert.Head.nD Cert.Head.τ).loc Cert.Head.main_arg1) = m ((c.tc : Thread Cert.Head.nD Cert.Head.τ).loc Cert.Head.main_arg1))
      ∧ r.2.sem = fun _ => 0)

def quiescent_HeadIdeal [hHeadIdeal : Cert.HeadIdeal.Facts] : Prop :=
  ∀ (m : (ℓ : Loc Cert.HeadIdeal.nD Cert.HeadIdeal.τ Cert.HeadIdeal.sig) → Buf (Elt Ideal) ℓ) (g : Dev Cert.HeadIdeal.nD → PrngReg), Pre_HeadIdeal m →
    θ_run (Cert.HeadIdeal.defs (F := Ideal)) (onTc (τ := Cert.HeadIdeal.τ) (Cert.HeadIdeal.main (F := Ideal))) ⟨m, fun _ => 0, g⟩ (fun r => (∀ c : Dev Cert.HeadIdeal.nD,
      r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
      ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ r.2.sem = fun _ => 0)

def quiescent_HeadRefIdeal [hHeadRefIdeal : Cert.HeadRefIdeal.Facts] : Prop :=
  ∀ (m : (ℓ : Loc Cert.HeadRefIdeal.nD Cert.HeadRefIdeal.τ Cert.HeadRefIdeal.sig) → Buf (Elt Ideal) ℓ) (g : Dev Cert.HeadRefIdeal.nD → PrngReg), Pre_HeadRefIdeal m →
    θ_run (Cert.HeadRefIdeal.defs (F := Ideal)) (onTc (τ := Cert.HeadRefIdeal.τ) (Cert.HeadRefIdeal.main (F := Ideal))) ⟨m, fun _ => 0, g⟩ (fun r => (∀ c : Dev Cert.HeadRefIdeal.nD,
      r.2.mem ((c.tc : Thread Cert.HeadRefIdeal.nD Cert.HeadRefIdeal.τ).loc Cert.HeadRefIdeal.main_arg0) = m ((c.tc : Thread Cert.HeadRefIdeal.nD Cert.HeadRefIdeal.τ).loc Cert.HeadRefIdeal.main_arg0)
      ∧ r.2.mem ((c.tc : Thread Cert.HeadRefIdeal.nD Cert.HeadRefIdeal.τ).loc Cert.HeadRefIdeal.main_arg1) = m ((c.tc : Thread Cert.HeadRefIdeal.nD Cert.HeadRefIdeal.τ).loc Cert.HeadRefIdeal.main_arg1))
      ∧ r.2.sem = fun _ => 0)

def preserves_Model_ModelIdeal : Prop :=
  IdealRules.named_const.Statement Cert.ModelIdeal.κ "never" .f32 0x41A00000#32 ⊤
  ∧ IdealRules.named_const.Statement Cert.ModelIdeal.κ "neg_log2_e" .f32 0xBFB8AA3B#32 ((-((Real.log 2)⁻¹) : ℝ) : EReal)

def algebraic_ModelIdeal_ModelRefIdeal [hModelIdeal : Cert.ModelIdeal.Facts] [hModelRefIdeal : Cert.ModelRefIdeal.Facts] : Prop :=
  ∀ (m : (ℓ : Loc Cert.ModelIdeal.nD Cert.ModelIdeal.τ Cert.ModelIdeal.sig) → Buf (Elt Ideal) ℓ) (g : Dev Cert.ModelIdeal.nD → PrngReg)
    (m' : (ℓ : Loc Cert.ModelRefIdeal.nD Cert.ModelRefIdeal.τ Cert.ModelRefIdeal.sig) → Buf (Elt Ideal) ℓ) (g' : Dev Cert.ModelRefIdeal.nD → PrngReg), Pre_ModelIdeal m →
    (∀ c : Dev Cert.ModelIdeal.nD,
      m' ((c.tc : Thread Cert.ModelRefIdeal.nD Cert.ModelRefIdeal.τ).loc Cert.ModelRefIdeal.main_arg0) = m ((c.tc : Thread Cert.ModelIdeal.nD Cert.ModelIdeal.τ).loc Cert.ModelIdeal.main_arg0)
      ∧ m' ((c.tc : Thread Cert.ModelRefIdeal.nD Cert.ModelRefIdeal.τ).loc Cert.ModelRefIdeal.main_arg1) = m ((c.tc : Thread Cert.ModelIdeal.nD Cert.ModelIdeal.τ).loc Cert.ModelIdeal.main_arg1)
      ∧ m' ((c.tc : Thread Cert.ModelRefIdeal.nD Cert.ModelRefIdeal.τ).loc Cert.ModelRefIdeal.main_arg2) = m ((c.tc : Thread Cert.ModelIdeal.nD Cert.ModelIdeal.τ).loc Cert.ModelIdeal.main_arg2)
      ∧ m' ((c.tc : Thread Cert.ModelRefIdeal.nD Cert.ModelRefIdeal.τ).loc Cert.ModelRefIdeal.main_arg3) = m ((c.tc : Thread Cert.ModelIdeal.nD Cert.ModelIdeal.τ).loc Cert.ModelIdeal.main_arg3)
      ∧ m' ((c.tc : Thread Cert.ModelRefIdeal.nD Cert.ModelRefIdeal.τ).loc Cert.ModelRefIdeal.main_arg4) = m ((c.tc : Thread Cert.ModelIdeal.nD Cert.ModelIdeal.τ).loc Cert.ModelIdeal.main_arg4)
      ∧ m' ((c.tc : Thread Cert.ModelRefIdeal.nD Cert.ModelRefIdeal.τ).loc Cert.ModelRefIdeal.main_arg5) = m ((c.tc : Thread Cert.ModelIdeal.nD Cert.ModelIdeal.τ).loc Cert.ModelIdeal.main_arg5)
      ∧ m' ((c.tc : Thread Cert.ModelRefIdeal.nD Cert.ModelRefIdeal.τ).loc Cert.ModelRefIdeal.main_arg6) = m ((c.tc : Thread Cert.ModelIdeal.nD Cert.ModelIdeal.τ).loc Cert.ModelIdeal.main_arg6)
      ∧ m' ((c.tc : Thread Cert.ModelRefIdeal.nD Cert.ModelRefIdeal.τ).loc Cert.ModelRefIdeal.main_arg7) = m ((c.tc : Thread Cert.ModelIdeal.nD Cert.ModelIdeal.τ).loc Cert.ModelIdeal.main_arg7)
      ∧ m' ((c.tc : Thread Cert.ModelRefIdeal.nD Cert.ModelRefIdeal.τ).loc Cert.ModelRefIdeal.main_arg8) = m ((c.tc : Thread Cert.ModelIdeal.nD Cert.ModelIdeal.τ).loc Cert.ModelIdeal.main_arg8)
      ∧ m' ((c.tc : Thread Cert.ModelRefIdeal.nD Cert.ModelRefIdeal.τ).loc Cert.ModelRefIdeal.main_arg9) = m ((c.tc : Thread Cert.ModelIdeal.nD Cert.ModelIdeal.τ).loc Cert.ModelIdeal.main_arg9)
      ∧ m' ((c.tc : Thread Cert.ModelRefIdeal.nD Cert.ModelRefIdeal.τ).loc Cert.ModelRefIdeal.main_arg10) = m ((c.tc : Thread Cert.ModelIdeal.nD Cert.ModelIdeal.τ).loc Cert.ModelIdeal.main_arg10)
      ∧ m' ((c.tc : Thread Cert.ModelRefIdeal.nD Cert.ModelRefIdeal.τ).loc Cert.ModelRefIdeal.main_arg11) = m ((c.tc : Thread Cert.ModelIdeal.nD Cert.ModelIdeal.τ).loc Cert.ModelIdeal.main_arg11)
      ∧ m' ((c.tc : Thread Cert.ModelRefIdeal.nD Cert.ModelRefIdeal.τ).loc Cert.ModelRefIdeal.main_arg12) = m ((c.tc : Thread Cert.ModelIdeal.nD Cert.ModelIdeal.τ).loc Cert.ModelIdeal.main_arg12)) →
    ∃ (v0 : (c : Dev Cert.ModelIdeal.nD) → Buf (Elt Ideal) ((c.tc : Thread Cert.ModelIdeal.nD Cert.ModelIdeal.τ).loc Cert.ModelIdeal.main_v2)),
      θ_run (Cert.ModelIdeal.defs (F := Ideal)) (onTc (τ := Cert.ModelIdeal.τ) (Cert.ModelIdeal.main (F := Ideal))) ⟨m, fun _ => 0, g⟩ (fun r => ∀ c : Dev Cert.ModelIdeal.nD,
          r.2.mem ((c.tc : Thread Cert.ModelIdeal.nD Cert.ModelIdeal.τ).loc Cert.ModelIdeal.main_v2) = v0 c
          ∧ r.2.mem ((c.tc : Thread Cert.ModelIdeal.nD Cert.ModelIdeal.τ).loc Cert.ModelIdeal.main_arg0) = m ((c.tc : Thread Cert.ModelIdeal.nD Cert.ModelIdeal.τ).loc Cert.ModelIdeal.main_arg0)
          ∧ r.2.mem ((c.tc : Thread Cert.ModelIdeal.nD Cert.ModelIdeal.τ).loc Cert.ModelIdeal.main_arg1) = m ((c.tc : Thread Cert.ModelIdeal.nD Cert.ModelIdeal.τ).loc Cert.ModelIdeal.main_arg1)
          ∧ r.2.mem ((c.tc : Thread Cert.ModelIdeal.nD Cert.ModelIdeal.τ).loc Cert.ModelIdeal.main_arg2) = m ((c.tc : Thread Cert.ModelIdeal.nD Cert.ModelIdeal.τ).loc Cert.ModelIdeal.main_arg2)
          ∧ r.2.mem ((c.tc : Thread Cert.ModelIdeal.nD Cert.ModelIdeal.τ).loc Cert.ModelIdeal.main_arg3) = m ((c.tc : Thread Cert.ModelIdeal.nD Cert.ModelIdeal.τ).loc Cert.ModelIdeal.main_arg3)
          ∧ r.2.mem ((c.tc : Thread Cert.ModelIdeal.nD Cert.ModelIdeal.τ).loc Cert.ModelIdeal.main_arg4) = m ((c.tc : Thread Cert.ModelIdeal.nD Cert.ModelIdeal.τ).loc Cert.ModelIdeal.main_arg4)
          ∧ r.2.mem ((c.tc : Thread Cert.ModelIdeal.nD Cert.ModelIdeal.τ).loc Cert.ModelIdeal.main_arg5) = m ((c.tc : Thread Cert.ModelIdeal.nD Cert.ModelIdeal.τ).loc Cert.ModelIdeal.main_arg5)
          ∧ r.2.mem ((c.tc : Thread Cert.ModelIdeal.nD Cert.ModelIdeal.τ).loc Cert.ModelIdeal.main_arg6) = m ((c.tc : Thread Cert.ModelIdeal.nD Cert.ModelIdeal.τ).loc Cert.ModelIdeal.main_arg6)
          ∧ r.2.mem ((c.tc : Thread Cert.ModelIdeal.nD Cert.ModelIdeal.τ).loc Cert.ModelIdeal.main_arg7) = m ((c.tc : Thread Cert.ModelIdeal.nD Cert.ModelIdeal.τ).loc Cert.ModelIdeal.main_arg7)
          ∧ r.2.mem ((c.tc : Thread Cert.ModelIdeal.nD Cert.ModelIdeal.τ).loc Cert.ModelIdeal.main_arg8) = m ((c.tc : Thread Cert.ModelIdeal.nD Cert.ModelIdeal.τ).loc Cert.ModelIdeal.main_arg8)
          ∧ r.2.mem ((c.tc : Thread Cert.ModelIdeal.nD Cert.ModelIdeal.τ).loc Cert.ModelIdeal.main_arg9) = m ((c.tc : Thread Cert.ModelIdeal.nD Cert.ModelIdeal.τ).loc Cert.ModelIdeal.main_arg9)
          ∧ r.2.mem ((c.tc : Thread Cert.ModelIdeal.nD Cert.ModelIdeal.τ).loc Cert.ModelIdeal.main_arg10) = m ((c.tc : Thread Cert.ModelIdeal.nD Cert.ModelIdeal.τ).loc Cert.ModelIdeal.main_arg10)
          ∧ r.2.mem ((c.tc : Thread Cert.ModelIdeal.nD Cert.ModelIdeal.τ).loc Cert.ModelIdeal.main_arg11) = m ((c.tc : Thread Cert.ModelIdeal.nD Cert.ModelIdeal.τ).loc Cert.ModelIdeal.main_arg11)
          ∧ r.2.mem ((c.tc : Thread Cert.ModelIdeal.nD Cert.ModelIdeal.τ).loc Cert.ModelIdeal.main_arg12) = m ((c.tc : Thread Cert.ModelIdeal.nD Cert.ModelIdeal.τ).loc Cert.ModelIdeal.main_arg12))
      ∧ θ_run (Cert.ModelRefIdeal.defs (F := Ideal)) (onTc (τ := Cert.ModelRefIdeal.τ) (Cert.ModelRefIdeal.main (F := Ideal))) ⟨m', fun _ => 0, g'⟩ (fun r => ∀ c : Dev Cert.ModelRefIdeal.nD,
          r.2.mem ((c.tc : Thread Cert.ModelRefIdeal.nD Cert.ModelRefIdeal.τ).loc Cert.ModelRefIdeal.main_v25) = v0 c
          ∧ r.2.mem ((c.tc : Thread Cert.ModelRefIdeal.nD Cert.ModelRefIdeal.τ).loc Cert.ModelRefIdeal.main_arg0) = m' ((c.tc : Thread Cert.ModelRefIdeal.nD Cert.ModelRefIdeal.τ).loc Cert.ModelRefIdeal.main_arg0)
          ∧ r.2.mem ((c.tc : Thread Cert.ModelRefIdeal.nD Cert.ModelRefIdeal.τ).loc Cert.ModelRefIdeal.main_arg1) = m' ((c.tc : Thread Cert.ModelRefIdeal.nD Cert.ModelRefIdeal.τ).loc Cert.ModelRefIdeal.main_arg1)
          ∧ r.2.mem ((c.tc : Thread Cert.ModelRefIdeal.nD Cert.ModelRefIdeal.τ).loc Cert.ModelRefIdeal.main_arg2) = m' ((c.tc : Thread Cert.ModelRefIdeal.nD Cert.ModelRefIdeal.τ).loc Cert.ModelRefIdeal.main_arg2)
          ∧ r.2.mem ((c.tc : Thread Cert.ModelRefIdeal.nD Cert.ModelRefIdeal.τ).loc Cert.ModelRefIdeal.main_arg3) = m' ((c.tc : Thread Cert.ModelRefIdeal.nD Cert.ModelRefIdeal.τ).loc Cert.ModelRefIdeal.main_arg3)
          ∧ r.2.mem ((c.tc : Thread Cert.ModelRefIdeal.nD Cert.ModelRefIdeal.τ).loc Cert.ModelRefIdeal.main_arg4) = m' ((c.tc : Thread Cert.ModelRefIdeal.nD Cert.ModelRefIdeal.τ).loc Cert.ModelRefIdeal.main_arg4)
          ∧ r.2.mem ((c.tc : Thread Cert.ModelRefIdeal.nD Cert.ModelRefIdeal.τ).loc Cert.ModelRefIdeal.main_arg5) = m' ((c.tc : Thread Cert.ModelRefIdeal.nD Cert.ModelRefIdeal.τ).loc Cert.ModelRefIdeal.main_arg5)
          ∧ r.2.mem ((c.tc : Thread Cert.ModelRefIdeal.nD Cert.ModelRefIdeal.τ).loc Cert.ModelRefIdeal.main_arg6) = m' ((c.tc : Thread Cert.ModelRefIdeal.nD Cert.ModelRefIdeal.τ).loc Cert.ModelRefIdeal.main_arg6)
          ∧ r.2.mem ((c.tc : Thread Cert.ModelRefIdeal.nD Cert.ModelRefIdeal.τ).loc Cert.ModelRefIdeal.main_arg7) = m' ((c.tc : Thread Cert.ModelRefIdeal.nD Cert.ModelRefIdeal.τ).loc Cert.ModelRefIdeal.main_arg7)
          ∧ r.2.mem ((c.tc : Thread Cert.ModelRefIdeal.nD Cert.ModelRefIdeal.τ).loc Cert.ModelRefIdeal.main_arg8) = m' ((c.tc : Thread Cert.ModelRefIdeal.nD Cert.ModelRefIdeal.τ).loc Cert.ModelRefIdeal.main_arg8)
          ∧ r.2.mem ((c.tc : Thread Cert.ModelRefIdeal.nD Cert.ModelRefIdeal.τ).loc Cert.ModelRefIdeal.main_arg9) = m' ((c.tc : Thread Cert.ModelRefIdeal.nD Cert.ModelRefIdeal.τ).loc Cert.ModelRefIdeal.main_arg9)
          ∧ r.2.mem ((c.tc : Thread Cert.ModelRefIdeal.nD Cert.ModelRefIdeal.τ).loc Cert.ModelRefIdeal.main_arg10) = m' ((c.tc : Thread Cert.ModelRefIdeal.nD Cert.ModelRefIdeal.τ).loc Cert.ModelRefIdeal.main_arg10)
          ∧ r.2.mem ((c.tc : Thread Cert.ModelRefIdeal.nD Cert.ModelRefIdeal.τ).loc Cert.ModelRefIdeal.main_arg11) = m' ((c.tc : Thread Cert.ModelRefIdeal.nD Cert.ModelRefIdeal.τ).loc Cert.ModelRefIdeal.main_arg11)
          ∧ r.2.mem ((c.tc : Thread Cert.ModelRefIdeal.nD Cert.ModelRefIdeal.τ).loc Cert.ModelRefIdeal.main_arg12) = m' ((c.tc : Thread Cert.ModelRefIdeal.nD Cert.ModelRefIdeal.τ).loc Cert.ModelRefIdeal.main_arg12))

def preserves_Head_HeadIdeal : Prop :=
  True

def algebraic_HeadIdeal_HeadRefIdeal [hHeadIdeal : Cert.HeadIdeal.Facts] [hHeadRefIdeal : Cert.HeadRefIdeal.Facts] : Prop :=
  ∀ (m : (ℓ : Loc Cert.HeadIdeal.nD Cert.HeadIdeal.τ Cert.HeadIdeal.sig) → Buf (Elt Ideal) ℓ) (g : Dev Cert.HeadIdeal.nD → PrngReg)
    (m' : (ℓ : Loc Cert.HeadRefIdeal.nD Cert.HeadRefIdeal.τ Cert.HeadRefIdeal.sig) → Buf (Elt Ideal) ℓ) (g' : Dev Cert.HeadRefIdeal.nD → PrngReg), Pre_HeadIdeal m →
    (∀ c : Dev Cert.HeadIdeal.nD,
      m' ((c.tc : Thread Cert.HeadRefIdeal.nD Cert.HeadRefIdeal.τ).loc Cert.HeadRefIdeal.main_arg0) = m ((c.tc : Thread Cert.HeadIdeal.nD Cert.HeadIdeal.τ).loc Cert.HeadIdeal.main_arg0)
      ∧ m' ((c.tc : Thread Cert.HeadRefIdeal.nD Cert.HeadRefIdeal.τ).loc Cert.HeadRefIdeal.main_arg1) = m ((c.tc : Thread Cert.HeadIdeal.nD Cert.HeadIdeal.τ).loc Cert.HeadIdeal.main_arg1)) →
    ∃ (v0 : (c : Dev Cert.HeadIdeal.nD) → Buf (Elt Ideal) ((c.tc : Thread Cert.HeadIdeal.nD Cert.HeadIdeal.τ).loc Cert.HeadIdeal.main_v0)),
      θ_run (Cert.HeadIdeal.defs (F := Ideal)) (onTc (τ := Cert.HeadIdeal.τ) (Cert.HeadIdeal.main (F := Ideal))) ⟨m, fun _ => 0, g⟩ (fun r => ∀ c : Dev Cert.HeadIdeal.nD,
          r.2.mem ((c.tc : Thread Cert.HeadIdeal.nD Cert.HeadIdeal.τ).loc Cert.HeadIdeal.main_v0) = v0 c
          ∧ r.2.mem ((c.tc : Thread Cert.HeadIdeal.nD Cert.HeadIdeal.τ).loc Cert.HeadIdeal.main_arg0) = m ((c.tc : Thread Cert.HeadIdeal.nD Cert.HeadIdeal.τ).loc Cert.HeadIdeal.main_arg0)
          ∧ r.2.mem ((c.tc : Thread Cert.HeadIdeal.nD Cert.HeadIdeal.τ).loc Cert.HeadIdeal.main_arg1) = m ((c.tc : Thread Cert.HeadIdeal.nD Cert.HeadIdeal.τ).loc Cert.HeadIdeal.main_arg1))
      ∧ θ_run (Cert.HeadRefIdeal.defs (F := Ideal)) (onTc (τ := Cert.HeadRefIdeal.τ) (Cert.HeadRefIdeal.main (F := Ideal))) ⟨m', fun _ => 0, g'⟩ (fun r => ∀ c : Dev Cert.HeadRefIdeal.nD,
          r.2.mem ((c.tc : Thread Cert.HeadRefIdeal.nD Cert.HeadRefIdeal.τ).loc Cert.HeadRefIdeal.main_v1) = v0 c
          ∧ r.2.mem ((c.tc : Thread Cert.HeadRefIdeal.nD Cert.HeadRefIdeal.τ).loc Cert.HeadRefIdeal.main_arg0) = m' ((c.tc : Thread Cert.HeadRefIdeal.nD Cert.HeadRefIdeal.τ).loc Cert.HeadRefIdeal.main_arg0)
          ∧ r.2.mem ((c.tc : Thread Cert.HeadRefIdeal.nD Cert.HeadRefIdeal.τ).loc Cert.HeadRefIdeal.main_arg1) = m' ((c.tc : Thread Cert.HeadRefIdeal.nD Cert.HeadRefIdeal.τ).loc Cert.HeadRefIdeal.main_arg1))

def Claim : Prop :=
  ∃ (hModel : Cert.Model.Facts) (hModelIdeal : Cert.ModelIdeal.Facts) (hModelRefIdeal : Cert.ModelRefIdeal.Facts) (hHead : Cert.Head.Facts) (hHeadIdeal : Cert.HeadIdeal.Facts) (hHeadRefIdeal : Cert.HeadRefIdeal.Facts),
    quiescent_Model (hModel := hModel)
    ∧ quiescent_ModelIdeal (hModelIdeal := hModelIdeal)
    ∧ quiescent_ModelRefIdeal (hModelRefIdeal := hModelRefIdeal)
    ∧ quiescent_Head (hHead := hHead)
    ∧ quiescent_HeadIdeal (hHeadIdeal := hHeadIdeal)
    ∧ quiescent_HeadRefIdeal (hHeadRefIdeal := hHeadRefIdeal)
    ∧ preserves_Model_ModelIdeal
    ∧ algebraic_ModelIdeal_ModelRefIdeal (hModelIdeal := hModelIdeal) (hModelRefIdeal := hModelRefIdeal)
    ∧ preserves_Head_HeadIdeal
    ∧ algebraic_HeadIdeal_HeadRefIdeal (hHeadIdeal := hHeadIdeal) (hHeadRefIdeal := hHeadRefIdeal)
-- ==== Model.lean ====
abbrev S1024x768 : Shape := ⟨2, ![1024, 768]⟩
abbrev S4x1x768 : Shape := ⟨3, ![4, 1, 768]⟩
abbrev S4x3072x768 : Shape := ⟨3, ![4, 3072, 768]⟩
abbrev S4x4x1536 : Shape := ⟨3, ![4, 4, 1536]⟩
abbrev S4x1x1536 : Shape := ⟨3, ![4, 1, 1536]⟩
abbrev S4x80x1536 : Shape := ⟨3, ![4, 80, 1536]⟩
abbrev S4x1536x48 : Shape := ⟨3, ![4, 1536, 48]⟩
abbrev S4x16x1536 : Shape := ⟨3, ![4, 16, 1536]⟩
abbrev S4x768x1536 : Shape := ⟨3, ![4, 768, 1536]⟩
abbrev S768 : Shape := ⟨1, ![768]⟩
abbrev S32000x768 : Shape := ⟨2, ![32000, 768]⟩
abbrev S1x1x768 : Shape := ⟨3, ![1, 1, 768]⟩
abbrev S1x3072x768 : Shape := ⟨3, ![1, 3072, 768]⟩
abbrev S1x4x1536 : Shape := ⟨3, ![1, 4, 1536]⟩
abbrev S1x1x1536 : Shape := ⟨3, ![1, 1, 1536]⟩
abbrev S1x80x1536 : Shape := ⟨3, ![1, 80, 1536]⟩
abbrev S1x1536x48 : Shape := ⟨3, ![1, 1536, 48]⟩
abbrev S1x16x1536 : Shape := ⟨3, ![1, 16, 1536]⟩
abbrev S1x768x1536 : Shape := ⟨3, ![1, 768, 1536]⟩
abbrev S128x8x1536 : Shape := ⟨3, ![128, 8, 1536]⟩
abbrev S16x1024 : Shape := ⟨2, ![16, 1024]⟩
abbrev S128x16x8 : Shape := ⟨3, ![128, 16, 8]⟩
abbrev S1x768 : Shape := ⟨2, ![1, 768]⟩
abbrev S1024 : Shape := ⟨1, ![1024]⟩
abbrev S1024x1 : Shape := ⟨2, ![1024, 1]⟩
abbrev S1x1536x768 : Shape := ⟨3, ![1, 1536, 768]⟩
abbrev S1536x768 : Shape := ⟨2, ![1536, 768]⟩
abbrev S1024x1536 : Shape := ⟨2, ![1024, 1536]⟩
abbrev S1x1536 : Shape := ⟨2, ![1, 1536]⟩
abbrev S1023x1536 : Shape := ⟨2, ![1023, 1536]⟩
abbrev S2x1536 : Shape := ⟨2, ![2, 1536]⟩
abbrev S1022x1536 : Shape := ⟨2, ![1022, 1536]⟩
abbrev S3x1536 : Shape := ⟨2, ![3, 1536]⟩
abbrev S1021x1536 : Shape := ⟨2, ![1021, 1536]⟩
abbrev S1x48x1536 : Shape := ⟨3, ![1, 48, 1536]⟩
abbrev S48x1536 : Shape := ⟨2, ![48, 1536]⟩
abbrev S1024x48 : Shape := ⟨2, ![1024, 48]⟩
abbrev S16x1536 : Shape := ⟨2, ![16, 1536]⟩
abbrev S1536x48 : Shape := ⟨2, ![1536, 48]⟩
abbrev S16x8 : Shape := ⟨2, ![16, 8]⟩
abbrev S1x16x8 : Shape := ⟨3, ![1, 16, 8]⟩
abbrev S1x8x1536 : Shape := ⟨3, ![1, 8, 1536]⟩
abbrev S8x1536 : Shape := ⟨2, ![8, 1536]⟩
abbrev S16x1 : Shape := ⟨2, ![16, 1]⟩
abbrev S16x128 : Shape := ⟨2, ![16, 128]⟩
abbrev S1536 : Shape := ⟨1, ![1536]⟩
abbrev S768x1536 : Shape := ⟨2, ![768, 1536]⟩
abbrev S1024x32000 : Shape := ⟨2, ![1024, 32000]⟩
abbrev S3200x768 : Shape := ⟨2, ![3200, 768]⟩
abbrev S1024x3200 : Shape := ⟨2, ![1024, 3200]⟩

abbrev nBuf : Space → Nat
  | .hbm => 16
  | .vmem => 37
  | .smem => 0
  | _ => 0

abbrev bufTy : (tb : Table) → Fin (tcTables nBuf tb) → BufTy
  | .hbm, ⟨0, _⟩ => ⟨S1024x768, .f32⟩
  | .hbm, ⟨1, _⟩ => ⟨S4x1x768, .f32⟩
  | .hbm, ⟨2, _⟩ => ⟨S4x3072x768, .bf16⟩
  | .hbm, ⟨3, _⟩ => ⟨S4x4x1536, .f32⟩
  | .hbm, ⟨4, _⟩ => ⟨S4x1x1536, .f32⟩
  | .hbm, ⟨5, _⟩ => ⟨S4x80x1536, .bf16⟩
  | .hbm, ⟨6, _⟩ => ⟨S4x1536x48, .bf16⟩
  | .hbm, ⟨7, _⟩ => ⟨S4x1x1536, .f32⟩
  | .hbm, ⟨8, _⟩ => ⟨S4x16x1536, .f32⟩
  | .hbm, ⟨9, _⟩ => ⟨S4x1x1536, .f32⟩
  | .hbm, ⟨10, _⟩ => ⟨S4x768x1536, .bf16⟩
  | .hbm, ⟨11, _⟩ => ⟨S768, .f32⟩
  | .hbm, ⟨12, _⟩ => ⟨S32000x768, .f32⟩
  | .hbm, ⟨13, _⟩ => ⟨S1x1x768, .f32⟩
  | .hbm, ⟨14, _⟩ => ⟨S1024x768, .bf16⟩
  | .hbm, ⟨15, _⟩ => ⟨S1024x32000, .f32⟩
  | .local _ .vmem, ⟨0, _⟩ => ⟨S1024x768, .f32⟩
  | .local _ .vmem, ⟨1, _⟩ => ⟨S1x1x768, .f32⟩
  | .local _ .vmem, ⟨2, _⟩ => ⟨S1x1x768, .f32⟩
  | .local _ .vmem, ⟨3, _⟩ => ⟨S1x3072x768, .bf16⟩
  | .local _ .vmem, ⟨4, _⟩ => ⟨S1x3072x768, .bf16⟩
  | .local _ .vmem, ⟨5, _⟩ => ⟨S1x4x1536, .f32⟩
  | .local _ .vmem, ⟨6, _⟩ => ⟨S1x4x1536, .f32⟩
  | .local _ .vmem, ⟨7, _⟩ => ⟨S1x1x1536, .f32⟩
  | .local _ .vmem, ⟨8, _⟩ => ⟨S1x1x1536, .f32⟩
  | .local _ .vmem, ⟨9, _⟩ => ⟨S1x80x1536, .bf16⟩
  | .local _ .vmem, ⟨10, _⟩ => ⟨S1x80x1536, .bf16⟩
  | .local _ .vmem, ⟨11, _⟩ => ⟨S1x1536x48, .bf16⟩
  | .local _ .vmem, ⟨12, _⟩ => ⟨S1x1536x48, .bf16⟩
  | .local _ .vmem, ⟨13, _⟩ => ⟨S1x1x1536, .f32⟩
  | .local _ .vmem, ⟨14, _⟩ => ⟨S1x1x1536, .f32⟩
  | .local _ .vmem, ⟨15, _⟩ => ⟨S1x16x1536, .f32⟩
  | .local _ .vmem, ⟨16, _⟩ => ⟨S1x16x1536, .f32⟩
  | .local _ .vmem, ⟨17, _⟩ => ⟨S1x1x1536, .f32⟩
  | .local _ .vmem, ⟨18, _⟩ => ⟨S1x1x1536, .f32⟩
  | .local _ .vmem, ⟨19, _⟩ => ⟨S1x768x1536, .bf16⟩
  | .local _ .vmem, ⟨20, _⟩ => ⟨S1x768x1536, .bf16⟩
  | .local _ .vmem, ⟨21, _⟩ => ⟨S1x1x768, .f32⟩
  | .local _ .vmem, ⟨22, _⟩ => ⟨S1024x768, .bf16⟩
  | .local _ .vmem, ⟨23, _⟩ => ⟨S1024x768, .f32⟩
  | .local _ .vmem, ⟨24, _⟩ => ⟨S128x8x1536, .f32⟩
  | .local _ .vmem, ⟨25, _⟩ => ⟨S128x8x1536, .bf16⟩
  | .local _ .vmem, ⟨26, _⟩ => ⟨S128x8x1536, .f32⟩
  | .local _ .vmem, ⟨27, _⟩ => ⟨S128x8x1536, .bf16⟩
  | .local _ .vmem, ⟨28, _⟩ => ⟨S16x1024, .f32⟩
  | .local _ .vmem, ⟨29, _⟩ => ⟨S16x1024, .f32⟩
  | .local _ .vmem, ⟨30, _⟩ => ⟨S128x16x8, .f32⟩
  | .local _ .vmem, ⟨31, _⟩ => ⟨S128x16x8, .f32⟩
  | .local _ .vmem, ⟨32, _⟩ => ⟨S1024x768, .bf16⟩
  | .local _ .vmem, ⟨33, _⟩ => ⟨S3200x768, .f32⟩
  | .local _ .vmem, ⟨34, _⟩ => ⟨S3200x768, .f32⟩
  | .local _ .vmem, ⟨35, _⟩ => ⟨S1024x3200, .f32⟩
  | .local _ .vmem, ⟨36, _⟩ => ⟨S1024x3200, .f32⟩
  | _, _ => ⟨S1024x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg12_0 : Ref sig .tc := ⟨.vmem, 22, rfl⟩
abbrev cc0_scratch0 : Ref sig .tc := ⟨.vmem, 23, rfl⟩
abbrev cc0_scratch1 : Ref sig .tc := ⟨.vmem, 24, rfl⟩
abbrev cc0_scratch2 : Ref sig .tc := ⟨.vmem, 25, rfl⟩
abbrev cc0_scratch3 : Ref sig .tc := ⟨.vmem, 26, rfl⟩
abbrev cc0_scratch4 : Ref sig .tc := ⟨.vmem, 27, rfl⟩
abbrev cc0_scratch5 : Ref sig .tc := ⟨.vmem, 28, rfl⟩
abbrev cc0_scratch6 : Ref sig .tc := ⟨.vmem, 29, rfl⟩
abbrev cc0_scratch7 : Ref sig .tc := ⟨.vmem, 30, rfl⟩
abbrev cc0_scratch8 : Ref sig .tc := ⟨.vmem, 31, rfl⟩
abbrev cc1_stg0_0 : Ref sig .tc := ⟨.vmem, 32, rfl⟩
abbrev cc1_stg1_0 : Ref sig .tc := ⟨.vmem, 33, rfl⟩
abbrev cc1_stg1_1 : Ref sig .tc := ⟨.vmem, 34, rfl⟩
abbrev cc1_stg2_0 : Ref sig .tc := ⟨.vmem, 35, rfl⟩
abbrev cc1_stg2_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc1_sem0_0 : DmaSem sig := 23
abbrev cc1_sem1_0 : DmaSem sig := 24
abbrev cc1_sem1_1 : DmaSem sig := 25
abbrev cc1_sem2_0 : DmaSem sig := 26
abbrev cc1_sem2_1 : DmaSem sig := 27

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_1117 : BitVec 32 := 0#32
  let c64_i32 : BitVec 32 := 64#32
  let v1156 : BitVec 32 := Scalar.addi c0_i32_1117 c64_i32
  let c1_i32_1118 : BitVec 32 := 1#32
  ⟨c0_i32_1117, v1156, c1_i32_1118⟩
def k0_off1 (k0_t1 : Fin k0_t1_loop.trips) (c0_i32_1133 : BitVec 32) : Fin 3 → Nat :=
  let c0_i32_1117 : BitVec 32 := 0#32
  let c1_i32_1118 : BitVec 32 := 1#32
  let arg23 : BitVec 32 := Scf.iv c0_i32_1117 c1_i32_1118 k0_t1
  let v1171 : BitVec 32 := Scalar.addi c0_i32_1133 arg23
  let v1172 : Index := Scalar.indexCast v1171
  let c0_1134 : Index := 0#32
  let c0_1135 : Index := 0#32
  ![v1172.toNat, 0, 0]
def k0_off2 (k0_t1 : Fin k0_t1_loop.trips) (c0_i32_1133 : BitVec 32) : Fin 3 → Nat :=
  let c0_i32_1117 : BitVec 32 := 0#32
  let c1_i32_1118 : BitVec 32 := 1#32
  let arg23 : BitVec 32 := Scf.iv c0_i32_1117 c1_i32_1118 k0_t1
  let v1171 : BitVec 32 := Scalar.addi c0_i32_1133 arg23
  let v1178 : Index := Scalar.indexCast v1171
  let c0_1138 : Index := 0#32
  let c0_1139 : Index := 0#32
  ![v1178.toNat, 0, 0]
def k0_cond2 (i : grid0.Coords) : BitVec 1 :=
  let arg0 : BitVec 32 := BitVec.ofNat 32 (i 0).val
  let c3_i32_1131 : BitVec 32 := 3#32
  let v1168 : BitVec 1 := Scalar.cmpi .eq arg0 c3_i32_1131
  let v1169 : BitVec 32 := Scalar.extui v1168
  let c0_i32_1132 : BitVec 32 := 0#32
  let v1170 : BitVec 1 := Scalar.cmpi .ne v1169 c0_i32_1132
  v1170

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3072x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x80x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536x48 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x16x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x768x1536 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x768 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S1024x768 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S3200x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1024x3200 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ModelIdeal.lean ====
variable {F : FTy → Type} [FloatOps F] [Named F]
def κ : String → Option EReal := fun
  | "neg_log2_e" => some ((-((Real.log 2)⁻¹) : ℝ) : EReal)
  | "never" => some ⊤
  | _ => none
-- ==== ModelRefIdeal.lean ====
abbrev S1024x768 : Shape := ⟨2, ![1024, 768]⟩
abbrev S4x1x768 : Shape := ⟨3, ![4, 1, 768]⟩
abbrev S4x3072x768 : Shape := ⟨3, ![4, 3072, 768]⟩
abbrev S4x4x1536 : Shape := ⟨3, ![4, 4, 1536]⟩
abbrev S4x1x1536 : Shape := ⟨3, ![4, 1, 1536]⟩
abbrev S4x80x1536 : Shape := ⟨3, ![4, 80, 1536]⟩
abbrev S4x1536x48 : Shape := ⟨3, ![4, 1536, 48]⟩
abbrev S4x16x1536 : Shape := ⟨3, ![4, 16, 1536]⟩
abbrev S4x768x1536 : Shape := ⟨3, ![4, 768, 1536]⟩
abbrev S768 : Shape := ⟨1, ![768]⟩
abbrev S32000x768 : Shape := ⟨2, ![32000, 768]⟩
abbrev S_ : Shape := ⟨0, ![]⟩
abbrev S2x3x1536 : Shape := ⟨3, ![2, 3, 1536]⟩
abbrev S2x1536x16 : Shape := ⟨3, ![2, 1536, 16]⟩
abbrev S512x2x768 : Shape := ⟨3, ![512, 2, 768]⟩
abbrev S2x512x768 : Shape := ⟨3, ![2, 512, 768]⟩
abbrev S1x2x768 : Shape := ⟨3, ![1, 2, 768]⟩
abbrev S2x768 : Shape := ⟨2, ![2, 768]⟩
abbrev S1x1x768 : Shape := ⟨3, ![1, 1, 768]⟩
abbrev S1x768 : Shape := ⟨2, ![1, 768]⟩
abbrev S1x3072x768 : Shape := ⟨3, ![1, 3072, 768]⟩
abbrev S3072x768 : Shape := ⟨2, ![3072, 768]⟩
abbrev S1x4x1536 : Shape := ⟨3, ![1, 4, 1536]⟩
abbrev S4x1536 : Shape := ⟨2, ![4, 1536]⟩
abbrev S1x1x1536 : Shape := ⟨3, ![1, 1, 1536]⟩
abbrev S1x1536 : Shape := ⟨2, ![1, 1536]⟩
abbrev S1x80x1536 : Shape := ⟨3, ![1, 80, 1536]⟩
abbrev S80x1536 : Shape := ⟨2, ![80, 1536]⟩
abbrev S1x1536x48 : Shape := ⟨3, ![1, 1536, 48]⟩
abbrev S1536x48 : Shape := ⟨2, ![1536, 48]⟩
abbrev S1x16x1536 : Shape := ⟨3, ![1, 16, 1536]⟩
abbrev S16x1536 : Shape := ⟨2, ![16, 1536]⟩
abbrev S1x768x1536 : Shape := ⟨3, ![1, 768, 1536]⟩
abbrev S768x1536 : Shape := ⟨2, ![768, 1536]⟩
abbrev S2 : Shape := ⟨1, ![2]⟩
abbrev S2x1 : Shape := ⟨2, ![2, 1]⟩
abbrev S2x3072 : Shape := ⟨2, ![2, 3072]⟩
abbrev S2x1536 : Shape := ⟨2, ![2, 1536]⟩
abbrev S2x1x1536 : Shape := ⟨3, ![2, 1, 1536]⟩
abbrev S2x4x1536 : Shape := ⟨3, ![2, 4, 1536]⟩
abbrev S2x80 : Shape := ⟨2, ![2, 80]⟩
abbrev S2x48 : Shape := ⟨2, ![2, 48]⟩
abbrev S2x16 : Shape := ⟨2, ![2, 16]⟩
abbrev S1536x16 : Shape := ⟨2, ![1536, 16]⟩
abbrev S2x1536x1 : Shape := ⟨3, ![2, 1536, 1]⟩
abbrev S1x1536x16 : Shape := ⟨3, ![1, 1536, 16]⟩
abbrev S2x1x16 : Shape := ⟨3, ![2, 1, 16]⟩
abbrev S511x2x768 : Shape := ⟨3, ![511, 2, 768]⟩
abbrev S1024 : Shape := ⟨1, ![1024]⟩
abbrev S1024x1 : Shape := ⟨2, ![1024, 1]⟩
abbrev S1024x32000 : Shape := ⟨2, ![1024, 32000]⟩

abbrev nBuf : Space → Nat
  | .hbm => 529
  | .vmem => 0
  | .smem => 0
  | _ => 0

abbrev hbmTy0_0 (i : Nat) : BufTy := match i % 128 with
  | 0 => ⟨S1024x768, .f32⟩
  | 1 => ⟨S4x1x768, .f32⟩
  | 2 => ⟨S4x3072x768, .bf16⟩
  | 3 => ⟨S4x4x1536, .f32⟩
  | 4 => ⟨S4x1x1536, .f32⟩
  | 5 => ⟨S4x80x1536, .bf16⟩
  | 6 => ⟨S4x1536x48, .bf16⟩
  | 7 => ⟨S4x1x1536, .f32⟩
  | 8 => ⟨S4x16x1536, .f32⟩
  | 9 => ⟨S4x1x1536, .f32⟩
  | 10 => ⟨S4x768x1536, .bf16⟩
  | 11 => ⟨S768, .f32⟩
  | 12 => ⟨S32000x768, .f32⟩
  | 13 => ⟨S4x3072x768, .f32⟩
  | 14 => ⟨S4x80x1536, .f32⟩
  | 15 => ⟨S4x1536x48, .f32⟩
  | 16 => ⟨S4x768x1536, .f32⟩
  | 17 => ⟨S_, .f32⟩
  | 18 => ⟨S2x3x1536, .f32⟩
  | 19 => ⟨S_, .f32⟩
  | 20 => ⟨S2x1536x16, .f32⟩
  | 21 => ⟨S_, .f32⟩
  | 22 => ⟨S512x2x768, .f32⟩
  | 23 => ⟨S2x512x768, .f32⟩
  | 24 => ⟨S512x2x768, .f32⟩
  | 25 => ⟨S_, .i32⟩
  | 26 => ⟨S512x2x768, .f32⟩
  | 27 => ⟨S4x1x768, .f32⟩
  | 28 => ⟨S4x3072x768, .f32⟩
  | 29 => ⟨S4x4x1536, .f32⟩
  | 30 => ⟨S4x1x1536, .f32⟩
  | 31 => ⟨S4x80x1536, .f32⟩
  | 32 => ⟨S4x1536x48, .f32⟩
  | 33 => ⟨S4x1x1536, .f32⟩
  | 34 => ⟨S4x16x1536, .f32⟩
  | 35 => ⟨S4x1x1536, .f32⟩
  | 36 => ⟨S4x768x1536, .f32⟩
  | 37 => ⟨S_, .i32⟩
  | 38 => ⟨S2x3x1536, .f32⟩
  | 39 => ⟨S2x3x1536, .f32⟩
  | 40 => ⟨S2x3x1536, .f32⟩
  | 41 => ⟨S2x3x1536, .f32⟩
  | 42 => ⟨S2x1536x16, .f32⟩
  | 43 => ⟨S2x1536x16, .f32⟩
  | 44 => ⟨S2x1536x16, .f32⟩
  | 45 => ⟨S2x1536x16, .f32⟩
  | 46 => ⟨S512x2x768, .f32⟩
  | 47 => ⟨S_, .i32⟩
  | 48 => ⟨S_, .i1⟩
  | 49 => ⟨S_, .i32⟩
  | 50 => ⟨S_, .i32⟩
  | 51 => ⟨S1x2x768, .f32⟩
  | 52 => ⟨S2x768, .f32⟩
  | 53 => ⟨S1x1x768, .f32⟩
  | 54 => ⟨S1x768, .f32⟩
  | 55 => ⟨S1x3072x768, .f32⟩
  | 56 => ⟨S3072x768, .f32⟩
  | 57 => ⟨S1x4x1536, .f32⟩
  | 58 => ⟨S4x1536, .f32⟩
  | 59 => ⟨S1x1x1536, .f32⟩
  | 60 => ⟨S1x1536, .f32⟩
  | 61 => ⟨S1x80x1536, .f32⟩
  | 62 => ⟨S80x1536, .f32⟩
  | 63 => ⟨S1x1536x48, .f32⟩
  | 64 => ⟨S1536x48, .f32⟩
  | 65 => ⟨S1x1x1536, .f32⟩
  | 66 => ⟨S1x1536, .f32⟩
  | 67 => ⟨S1x16x1536, .f32⟩
  | 68 => ⟨S16x1536, .f32⟩
  | 69 => ⟨S1x1x1536, .f32⟩
  | 70 => ⟨S1x1536, .f32⟩
  | 71 => ⟨S1x768x1536, .f32⟩
  | 72 => ⟨S768x1536, .f32⟩
  | 73 => ⟨S2x768, .f32⟩
  | 74 => ⟨S_, .f32⟩
  | 75 => ⟨S2, .f32⟩
  | 76 => ⟨S2x1, .f32⟩
  | 77 => ⟨S_, .f32⟩
  | 78 => ⟨S2x1, .f32⟩
  | 79 => ⟨S2x1, .f32⟩
  | 80 => ⟨S_, .f32⟩
  | 81 => ⟨S2x1, .f32⟩
  | 82 => ⟨S2x1, .f32⟩
  | 83 => ⟨S2x1, .f32⟩
  | 84 => ⟨S2x768, .f32⟩
  | 85 => ⟨S2x768, .f32⟩
  | 86 => ⟨S2x768, .f32⟩
  | 87 => ⟨S2x768, .f32⟩
  | 88 => ⟨S2x3072, .f32⟩
  | 89 => ⟨S2x1536, .f32⟩
  | 90 => ⟨S2x1536, .f32⟩
  | 91 => ⟨S2x1x1536, .f32⟩
  | 92 => ⟨S2x4x1536, .f32⟩
  | 93 => ⟨S1x4x1536, .f32⟩
  | 94 => ⟨S2x4x1536, .f32⟩
  | 95 => ⟨S2x4x1536, .f32⟩
  | 96 => ⟨S_, .f32⟩
  | 97 => ⟨S2x1536, .f32⟩
  | 98 => ⟨S2x1536, .f32⟩
  | 99 => ⟨S2x1536, .f32⟩
  | 100 => ⟨S2x1536, .f32⟩
  | 101 => ⟨S2x1536, .f32⟩
  | 102 => ⟨S_, .f32⟩
  | 103 => ⟨S2x1536, .f32⟩
  | 104 => ⟨S2x1536, .f32⟩
  | 105 => ⟨S_, .f32⟩
  | 106 => ⟨S2x1536, .f32⟩
  | 107 => ⟨S2x1536, .f32⟩
  | 108 => ⟨S2x1536, .f32⟩
  | 109 => ⟨S2x80, .f32⟩
  | 110 => ⟨S2x48, .f32⟩
  | 111 => ⟨S2x16, .f32⟩
  | 112 => ⟨S2x16, .f32⟩
  | 113 => ⟨S2x1536, .f32⟩
  | 114 => ⟨S2x1536, .f32⟩
  | 115 => ⟨S2x1536, .f32⟩
  | 116 => ⟨S_, .f32⟩
  | 117 => ⟨S2x1536, .f32⟩
  | 118 => ⟨S2x1536, .f32⟩
  | 119 => ⟨S2x1536, .f32⟩
  | 120 => ⟨S2x1536, .f32⟩
  | 121 => ⟨S2x1536, .i1⟩
  | 122 => ⟨S2x1536, .f32⟩
  | 123 => ⟨S2x1536, .f32⟩
  | 124 => ⟨S2x1536, .f32⟩
  | 125 => ⟨S2x1536, .f32⟩
  | 126 => ⟨S2x1536, .f32⟩
  | 127 => ⟨S2x1536, .f32⟩
  | _ => ⟨S1024x768, .f32⟩

abbrev hbmTy0_1 (i : Nat) : BufTy := match i % 128 with
  | 0 => ⟨S2x1536, .f32⟩
  | 1 => ⟨S2x1536, .f32⟩
  | 2 => ⟨S1536x16, .f32⟩
  | 3 => ⟨S1536x16, .f32⟩
  | 4 => ⟨S1536x16, .f32⟩
  | 5 => ⟨S2x1536x1, .f32⟩
  | 6 => ⟨S1x1536x16, .f32⟩
  | 7 => ⟨S2x1536x16, .f32⟩
  | 8 => ⟨S2x1536x16, .f32⟩
  | 9 => ⟨S2x1536x16, .f32⟩
  | 10 => ⟨S2x1536x16, .f32⟩
  | 11 => ⟨S2x1536x16, .f32⟩
  | 12 => ⟨S2x1536x1, .f32⟩
  | 13 => ⟨S2x1x16, .f32⟩
  | 14 => ⟨S2x1536x16, .f32⟩
  | 15 => ⟨S2x1536x16, .f32⟩
  | 16 => ⟨S2x1536x16, .f32⟩
  | 17 => ⟨S2x1536x1, .f32⟩
  | 18 => ⟨S2x1536x16, .f32⟩
  | 19 => ⟨S2x1536x16, .f32⟩
  | 20 => ⟨S2x1536x16, .f32⟩
  | 21 => ⟨S2x1536, .f32⟩
  | 22 => ⟨S2x1536, .f32⟩
  | 23 => ⟨S2x1536, .f32⟩
  | 24 => ⟨S2x1536, .f32⟩
  | 25 => ⟨S2x1536, .f32⟩
  | 26 => ⟨S2x1536, .f32⟩
  | 27 => ⟨S_, .f32⟩
  | 28 => ⟨S2x1536, .f32⟩
  | 29 => ⟨S2x1536, .f32⟩
  | 30 => ⟨S_, .f32⟩
  | 31 => ⟨S2x1536, .f32⟩
  | 32 => ⟨S2x1536, .f32⟩
  | 33 => ⟨S2x1536, .f32⟩
  | 34 => ⟨S2x1536, .f32⟩
  | 35 => ⟨S2x768, .f32⟩
  | 36 => ⟨S2x768, .f32⟩
  | 37 => ⟨S2x3x1536, .f32⟩
  | 38 => ⟨S1x1x768, .f32⟩
  | 39 => ⟨S1x768, .f32⟩
  | 40 => ⟨S1x3072x768, .f32⟩
  | 41 => ⟨S3072x768, .f32⟩
  | 42 => ⟨S1x4x1536, .f32⟩
  | 43 => ⟨S4x1536, .f32⟩
  | 44 => ⟨S1x1x1536, .f32⟩
  | 45 => ⟨S1x1536, .f32⟩
  | 46 => ⟨S1x80x1536, .f32⟩
  | 47 => ⟨S80x1536, .f32⟩
  | 48 => ⟨S1x1536x48, .f32⟩
  | 49 => ⟨S1536x48, .f32⟩
  | 50 => ⟨S1x1x1536, .f32⟩
  | 51 => ⟨S1x1536, .f32⟩
  | 52 => ⟨S1x16x1536, .f32⟩
  | 53 => ⟨S16x1536, .f32⟩
  | 54 => ⟨S1x1x1536, .f32⟩
  | 55 => ⟨S1x1536, .f32⟩
  | 56 => ⟨S1x768x1536, .f32⟩
  | 57 => ⟨S768x1536, .f32⟩
  | 58 => ⟨S2x768, .f32⟩
  | 59 => ⟨S_, .f32⟩
  | 60 => ⟨S2, .f32⟩
  | 61 => ⟨S2x1, .f32⟩
  | 62 => ⟨S_, .f32⟩
  | 63 => ⟨S2x1, .f32⟩
  | 64 => ⟨S2x1, .f32⟩
  | 65 => ⟨S_, .f32⟩
  | 66 => ⟨S2x1, .f32⟩
  | 67 => ⟨S2x1, .f32⟩
  | 68 => ⟨S2x1, .f32⟩
  | 69 => ⟨S2x768, .f32⟩
  | 70 => ⟨S2x768, .f32⟩
  | 71 => ⟨S2x768, .f32⟩
  | 72 => ⟨S2x768, .f32⟩
  | 73 => ⟨S2x3072, .f32⟩
  | 74 => ⟨S2x1536, .f32⟩
  | 75 => ⟨S2x1536, .f32⟩
  | 76 => ⟨S2x1x1536, .f32⟩
  | 77 => ⟨S2x4x1536, .f32⟩
  | 78 => ⟨S1x4x1536, .f32⟩
  | 79 => ⟨S2x4x1536, .f32⟩
  | 80 => ⟨S2x4x1536, .f32⟩
  | 81 => ⟨S_, .f32⟩
  | 82 => ⟨S2x1536, .f32⟩
  | 83 => ⟨S2x1536, .f32⟩
  | 84 => ⟨S2x1536, .f32⟩
  | 85 => ⟨S2x1536, .f32⟩
  | 86 => ⟨S2x1536, .f32⟩
  | 87 => ⟨S_, .f32⟩
  | 88 => ⟨S2x1536, .f32⟩
  | 89 => ⟨S2x1536, .f32⟩
  | 90 => ⟨S_, .f32⟩
  | 91 => ⟨S2x1536, .f32⟩
  | 92 => ⟨S2x1536, .f32⟩
  | 93 => ⟨S2x1536, .f32⟩
  | 94 => ⟨S2x80, .f32⟩
  | 95 => ⟨S2x48, .f32⟩
  | 96 => ⟨S2x16, .f32⟩
  | 97 => ⟨S2x16, .f32⟩
  | 98 => ⟨S2x1536, .f32⟩
  | 99 => ⟨S2x1536, .f32⟩
  | 100 => ⟨S2x1536, .f32⟩
  | 101 => ⟨S_, .f32⟩
  | 102 => ⟨S2x1536, .f32⟩
  | 103 => ⟨S2x1536, .f32⟩
  | 104 => ⟨S2x1536, .f32⟩
  | 105 => ⟨S2x1536, .f32⟩
  | 106 => ⟨S2x1536, .i1⟩
  | 107 => ⟨S2x1536, .f32⟩
  | 108 => ⟨S2x1536, .f32⟩
  | 109 => ⟨S2x1536, .f32⟩
  | 110 => ⟨S2x1536, .f32⟩
  | 111 => ⟨S2x1536, .f32⟩
  | 112 => ⟨S2x1536, .f32⟩
  | 113 => ⟨S2x1536, .f32⟩
  | 114 => ⟨S2x1536, .f32⟩
  | 115 => ⟨S1536x16, .f32⟩
  | 116 => ⟨S1536x16, .f32⟩
  | 117 => ⟨S1536x16, .f32⟩
  | 118 => ⟨S2x1536x1, .f32⟩
  | 119 => ⟨S1x1536x16, .f32⟩
  | 120 => ⟨S2x1536x16, .f32⟩
  | 121 => ⟨S2x1536x16, .f32⟩
  | 122 => ⟨S2x1536x16, .f32⟩
  | 123 => ⟨S2x1536x16, .f32⟩
  | 124 => ⟨S2x1536x16, .f32⟩
  | 125 => ⟨S2x1536x1, .f32⟩
  | 126 => ⟨S2x1x16, .f32⟩
  | 127 => ⟨S2x1536x16, .f32⟩
  | _ => ⟨S1024x768, .f32⟩

abbrev hbmTy0_2 (i : Nat) : BufTy := match i % 128 with
  | 0 => ⟨S2x1536x16, .f32⟩
  | 1 => ⟨S2x1536x16, .f32⟩
  | 2 => ⟨S2x1536x1, .f32⟩
  | 3 => ⟨S2x1536x16, .f32⟩
  | 4 => ⟨S2x1536x16, .f32⟩
  | 5 => ⟨S2x1536x16, .f32⟩
  | 6 => ⟨S2x1536, .f32⟩
  | 7 => ⟨S2x1536, .f32⟩
  | 8 => ⟨S2x1536, .f32⟩
  | 9 => ⟨S2x1536, .f32⟩
  | 10 => ⟨S2x1536, .f32⟩
  | 11 => ⟨S2x1536, .f32⟩
  | 12 => ⟨S_, .f32⟩
  | 13 => ⟨S2x1536, .f32⟩
  | 14 => ⟨S2x1536, .f32⟩
  | 15 => ⟨S_, .f32⟩
  | 16 => ⟨S2x1536, .f32⟩
  | 17 => ⟨S2x1536, .f32⟩
  | 18 => ⟨S2x1536, .f32⟩
  | 19 => ⟨S2x1536, .f32⟩
  | 20 => ⟨S2x768, .f32⟩
  | 21 => ⟨S2x768, .f32⟩
  | 22 => ⟨S2x3x1536, .f32⟩
  | 23 => ⟨S1x1x768, .f32⟩
  | 24 => ⟨S1x768, .f32⟩
  | 25 => ⟨S1x3072x768, .f32⟩
  | 26 => ⟨S3072x768, .f32⟩
  | 27 => ⟨S1x4x1536, .f32⟩
  | 28 => ⟨S4x1536, .f32⟩
  | 29 => ⟨S1x1x1536, .f32⟩
  | 30 => ⟨S1x1536, .f32⟩
  | 31 => ⟨S1x80x1536, .f32⟩
  | 32 => ⟨S80x1536, .f32⟩
  | 33 => ⟨S1x1536x48, .f32⟩
  | 34 => ⟨S1536x48, .f32⟩
  | 35 => ⟨S1x1x1536, .f32⟩
  | 36 => ⟨S1x1536, .f32⟩
  | 37 => ⟨S1x16x1536, .f32⟩
  | 38 => ⟨S16x1536, .f32⟩
  | 39 => ⟨S1x1x1536, .f32⟩
  | 40 => ⟨S1x1536, .f32⟩
  | 41 => ⟨S1x768x1536, .f32⟩
  | 42 => ⟨S768x1536, .f32⟩
  | 43 => ⟨S2x768, .f32⟩
  | 44 => ⟨S_, .f32⟩
  | 45 => ⟨S2, .f32⟩
  | 46 => ⟨S2x1, .f32⟩
  | 47 => ⟨S_, .f32⟩
  | 48 => ⟨S2x1, .f32⟩
  | 49 => ⟨S2x1, .f32⟩
  | 50 => ⟨S_, .f32⟩
  | 51 => ⟨S2x1, .f32⟩
  | 52 => ⟨S2x1, .f32⟩
  | 53 => ⟨S2x1, .f32⟩
  | 54 => ⟨S2x768, .f32⟩
  | 55 => ⟨S2x768, .f32⟩
  | 56 => ⟨S2x768, .f32⟩
  | 57 => ⟨S2x768, .f32⟩
  | 58 => ⟨S2x3072, .f32⟩
  | 59 => ⟨S2x1536, .f32⟩
  | 60 => ⟨S2x1536, .f32⟩
  | 61 => ⟨S2x1x1536, .f32⟩
  | 62 => ⟨S2x4x1536, .f32⟩
  | 63 => ⟨S1x4x1536, .f32⟩
  | 64 => ⟨S2x4x1536, .f32⟩
  | 65 => ⟨S2x4x1536, .f32⟩
  | 66 => ⟨S_, .f32⟩
  | 67 => ⟨S2x1536, .f32⟩
  | 68 => ⟨S2x1536, .f32⟩
  | 69 => ⟨S2x1536, .f32⟩
  | 70 => ⟨S2x1536, .f32⟩
  | 71 => ⟨S2x1536, .f32⟩
  | 72 => ⟨S_, .f32⟩
  | 73 => ⟨S2x1536, .f32⟩
  | 74 => ⟨S2x1536, .f32⟩
  | 75 => ⟨S_, .f32⟩
  | 76 => ⟨S2x1536, .f32⟩
  | 77 => ⟨S2x1536, .f32⟩
  | 78 => ⟨S2x1536, .f32⟩
  | 79 => ⟨S2x80, .f32⟩
  | 80 => ⟨S2x48, .f32⟩
  | 81 => ⟨S2x16, .f32⟩
  | 82 => ⟨S2x16, .f32⟩
  | 83 => ⟨S2x1536, .f32⟩
  | 84 => ⟨S2x1536, .f32⟩
  | 85 => ⟨S2x1536, .f32⟩
  | 86 => ⟨S_, .f32⟩
  | 87 => ⟨S2x1536, .f32⟩
  | 88 => ⟨S2x1536, .f32⟩
  | 89 => ⟨S2x1536, .f32⟩
  | 90 => ⟨S2x1536, .f32⟩
  | 91 => ⟨S2x1536, .i1⟩
  | 92 => ⟨S2x1536, .f32⟩
  | 93 => ⟨S2x1536, .f32⟩
  | 94 => ⟨S2x1536, .f32⟩
  | 95 => ⟨S2x1536, .f32⟩
  | 96 => ⟨S2x1536, .f32⟩
  | 97 => ⟨S2x1536, .f32⟩
  | 98 => ⟨S2x1536, .f32⟩
  | 99 => ⟨S2x1536, .f32⟩
  | 100 => ⟨S1536x16, .f32⟩
  | 101 => ⟨S1536x16, .f32⟩
  | 102 => ⟨S1536x16, .f32⟩
  | 103 => ⟨S2x1536x1, .f32⟩
  | 104 => ⟨S1x1536x16, .f32⟩
  | 105 => ⟨S2x1536x16, .f32⟩
  | 106 => ⟨S2x1536x16, .f32⟩
  | 107 => ⟨S2x1536x16, .f32⟩
  | 108 => ⟨S2x1536x16, .f32⟩
  | 109 => ⟨S2x1536x16, .f32⟩
  | 110 => ⟨S2x1536x1, .f32⟩
  | 111 => ⟨S2x1x16, .f32⟩
  | 112 => ⟨S2x1536x16, .f32⟩
  | 113 => ⟨S2x1536x16, .f32⟩
  | 114 => ⟨S2x1536x16, .f32⟩
  | 115 => ⟨S2x1536x1, .f32⟩
  | 116 => ⟨S2x1536x16, .f32⟩
  | 117 => ⟨S2x1536x16, .f32⟩
  | 118 => ⟨S2x1536x16, .f32⟩
  | 119 => ⟨S2x1536, .f32⟩
  | 120 => ⟨S2x1536, .f32⟩
  | 121 => ⟨S2x1536, .f32⟩
  | 122 => ⟨S2x1536, .f32⟩
  | 123 => ⟨S2x1536, .f32⟩
  | 124 => ⟨S2x1536, .f32⟩
  | 125 => ⟨S_, .f32⟩
  | 126 => ⟨S2x1536, .f32⟩
  | 127 => ⟨S2x1536, .f32⟩
  | _ => ⟨S1024x768, .f32⟩

abbrev hbmTy0_3 (i : Nat) : BufTy := match i % 128 with
  | 0 => ⟨S_, .f32⟩
  | 1 => ⟨S2x1536, .f32⟩
  | 2 => ⟨S2x1536, .f32⟩
  | 3 => ⟨S2x1536, .f32⟩
  | 4 => ⟨S2x1536, .f32⟩
  | 5 => ⟨S2x768, .f32⟩
  | 6 => ⟨S2x768, .f32⟩
  | 7 => ⟨S2x3x1536, .f32⟩
  | 8 => ⟨S1x1x768, .f32⟩
  | 9 => ⟨S1x768, .f32⟩
  | 10 => ⟨S1x3072x768, .f32⟩
  | 11 => ⟨S3072x768, .f32⟩
  | 12 => ⟨S1x4x1536, .f32⟩
  | 13 => ⟨S4x1536, .f32⟩
  | 14 => ⟨S1x1x1536, .f32⟩
  | 15 => ⟨S1x1536, .f32⟩
  | 16 => ⟨S1x80x1536, .f32⟩
  | 17 => ⟨S80x1536, .f32⟩
  | 18 => ⟨S1x1536x48, .f32⟩
  | 19 => ⟨S1536x48, .f32⟩
  | 20 => ⟨S1x1x1536, .f32⟩
  | 21 => ⟨S1x1536, .f32⟩
  | 22 => ⟨S1x16x1536, .f32⟩
  | 23 => ⟨S16x1536, .f32⟩
  | 24 => ⟨S1x1x1536, .f32⟩
  | 25 => ⟨S1x1536, .f32⟩
  | 26 => ⟨S1x768x1536, .f32⟩
  | 27 => ⟨S768x1536, .f32⟩
  | 28 => ⟨S2x768, .f32⟩
  | 29 => ⟨S_, .f32⟩
  | 30 => ⟨S2, .f32⟩
  | 31 => ⟨S2x1, .f32⟩
  | 32 => ⟨S_, .f32⟩
  | 33 => ⟨S2x1, .f32⟩
  | 34 => ⟨S2x1, .f32⟩
  | 35 => ⟨S_, .f32⟩
  | 36 => ⟨S2x1, .f32⟩
  | 37 => ⟨S2x1, .f32⟩
  | 38 => ⟨S2x1, .f32⟩
  | 39 => ⟨S2x768, .f32⟩
  | 40 => ⟨S2x768, .f32⟩
  | 41 => ⟨S2x768, .f32⟩
  | 42 => ⟨S2x768, .f32⟩
  | 43 => ⟨S2x3072, .f32⟩
  | 44 => ⟨S2x1536, .f32⟩
  | 45 => ⟨S2x1536, .f32⟩
  | 46 => ⟨S2x1x1536, .f32⟩
  | 47 => ⟨S2x4x1536, .f32⟩
  | 48 => ⟨S1x4x1536, .f32⟩
  | 49 => ⟨S2x4x1536, .f32⟩
  | 50 => ⟨S2x4x1536, .f32⟩
  | 51 => ⟨S_, .f32⟩
  | 52 => ⟨S2x1536, .f32⟩
  | 53 => ⟨S2x1536, .f32⟩
  | 54 => ⟨S2x1536, .f32⟩
  | 55 => ⟨S2x1536, .f32⟩
  | 56 => ⟨S2x1536, .f32⟩
  | 57 => ⟨S_, .f32⟩
  | 58 => ⟨S2x1536, .f32⟩
  | 59 => ⟨S2x1536, .f32⟩
  | 60 => ⟨S_, .f32⟩
  | 61 => ⟨S2x1536, .f32⟩
  | 62 => ⟨S2x1536, .f32⟩
  | 63 => ⟨S2x1536, .f32⟩
  | 64 => ⟨S2x80, .f32⟩
  | 65 => ⟨S2x48, .f32⟩
  | 66 => ⟨S2x16, .f32⟩
  | 67 => ⟨S2x16, .f32⟩
  | 68 => ⟨S2x1536, .f32⟩
  | 69 => ⟨S2x1536, .f32⟩
  | 70 => ⟨S2x1536, .f32⟩
  | 71 => ⟨S_, .f32⟩
  | 72 => ⟨S2x1536, .f32⟩
  | 73 => ⟨S2x1536, .f32⟩
  | 74 => ⟨S2x1536, .f32⟩
  | 75 => ⟨S2x1536, .f32⟩
  | 76 => ⟨S2x1536, .i1⟩
  | 77 => ⟨S2x1536, .f32⟩
  | 78 => ⟨S2x1536, .f32⟩
  | 79 => ⟨S2x1536, .f32⟩
  | 80 => ⟨S2x1536, .f32⟩
  | 81 => ⟨S2x1536, .f32⟩
  | 82 => ⟨S2x1536, .f32⟩
  | 83 => ⟨S2x1536, .f32⟩
  | 84 => ⟨S2x1536, .f32⟩
  | 85 => ⟨S1536x16, .f32⟩
  | 86 => ⟨S1536x16, .f32⟩
  | 87 => ⟨S1536x16, .f32⟩
  | 88 => ⟨S2x1536x1, .f32⟩
  | 89 => ⟨S1x1536x16, .f32⟩
  | 90 => ⟨S2x1536x16, .f32⟩
  | 91 => ⟨S2x1536x16, .f32⟩
  | 92 => ⟨S2x1536x16, .f32⟩
  | 93 => ⟨S2x1536x16, .f32⟩
  | 94 => ⟨S2x1536x16, .f32⟩
  | 95 => ⟨S2x1536x1, .f32⟩
  | 96 => ⟨S2x1x16, .f32⟩
  | 97 => ⟨S2x1536x16, .f32⟩
  | 98 => ⟨S2x1536x16, .f32⟩
  | 99 => ⟨S2x1536x16, .f32⟩
  | 100 => ⟨S2x1536x1, .f32⟩
  | 101 => ⟨S2x1536x16, .f32⟩
  | 102 => ⟨S2x1536x16, .f32⟩
  | 103 => ⟨S2x1536x16, .f32⟩
  | 104 => ⟨S2x1536, .f32⟩
  | 105 => ⟨S2x1536, .f32⟩
  | 106 => ⟨S2x1536, .f32⟩
  | 107 => ⟨S2x1536, .f32⟩
  | 108 => ⟨S2x1536, .f32⟩
  | 109 => ⟨S2x1536, .f32⟩
  | 110 => ⟨S_, .f32⟩
  | 111 => ⟨S2x1536, .f32⟩
  | 112 => ⟨S2x1536, .f32⟩
  | 113 => ⟨S_, .f32⟩
  | 114 => ⟨S2x1536, .f32⟩
  | 115 => ⟨S2x1536, .f32⟩
  | 116 => ⟨S2x1536, .f32⟩
  | 117 => ⟨S2x1536, .f32⟩
  | 118 => ⟨S2x768, .f32⟩
  | 119 => ⟨S2x768, .f32⟩
  | 120 => ⟨S2x3x1536, .f32⟩
  | 121 => ⟨S511x2x768, .f32⟩
  | 122 => ⟨S1x2x768, .f32⟩
  | 123 => ⟨S512x2x768, .f32⟩
  | 124 => ⟨S_, .i32⟩
  | 125 => ⟨S_, .i32⟩
  | 126 => ⟨S2x512x768, .f32⟩
  | 127 => ⟨S1024x768, .f32⟩
  | _ => ⟨S1024x768, .f32⟩

abbrev hbmTy0_4 (i : Nat) : BufTy := match i % 128 with
  | 0 => ⟨S1024x768, .f32⟩
  | 1 => ⟨S_, .f32⟩
  | 2 => ⟨S1024, .f32⟩
  | 3 => ⟨S1024x1, .f32⟩
  | 4 => ⟨S_, .f32⟩
  | 5 => ⟨S1024x1, .f32⟩
  | 6 => ⟨S1024x1, .f32⟩
  | 7 => ⟨S_, .f32⟩
  | 8 => ⟨S1024x1, .f32⟩
  | 9 => ⟨S1024x1, .f32⟩
  | 10 => ⟨S1024x1, .f32⟩
  | 11 => ⟨S1024x768, .f32⟩
  | 12 => ⟨S1024x768, .f32⟩
  | 13 => ⟨S1x768, .f32⟩
  | 14 => ⟨S1024x768, .f32⟩
  | 15 => ⟨S1024x768, .f32⟩
  | 16 => ⟨S1024x32000, .f32⟩
  | _ => ⟨S1024x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S1024x768, .f32⟩

abbrev bufTy : (tb : Table) → Fin (tcTables nBuf tb) → BufTy
  | .hbm, ⟨i, _⟩ => hbmTy i
  | _, _ => ⟨S1024x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_cst_1 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_c : Ref sig .tc := ⟨.hbm, 25, rfl⟩
abbrev main_v9_0 : Ref sig .tc := ⟨.hbm, 26, rfl⟩
abbrev main_v9_1 : Ref sig .tc := ⟨.hbm, 27, rfl⟩
abbrev main_v9_2 : Ref sig .tc := ⟨.hbm, 28, rfl⟩
abbrev main_v9_3 : Ref sig .tc := ⟨.hbm, 29, rfl⟩
abbrev main_v9_4 : Ref sig .tc := ⟨.hbm, 30, rfl⟩
abbrev main_v9_5 : Ref sig .tc := ⟨.hbm, 31, rfl⟩
abbrev main_v9_6 : Ref sig .tc := ⟨.hbm, 32, rfl⟩
abbrev main_v9_7 : Ref sig .tc := ⟨.hbm, 33, rfl⟩
abbrev main_v9_8 : Ref sig .tc := ⟨.hbm, 34, rfl⟩
abbrev main_v9_9 : Ref sig .tc := ⟨.hbm, 35, rfl⟩
abbrev main_v9_10 : Ref sig .tc := ⟨.hbm, 36, rfl⟩
abbrev main_v9_11 : Ref sig .tc := ⟨.hbm, 37, rfl⟩
abbrev main_v9_12 : Ref sig .tc := ⟨.hbm, 38, rfl⟩
abbrev main_v9_13 : Ref sig .tc := ⟨.hbm, 39, rfl⟩
abbrev main_v9_14 : Ref sig .tc := ⟨.hbm, 40, rfl⟩
abbrev main_v9_15 : Ref sig .tc := ⟨.hbm, 41, rfl⟩
abbrev main_v9_16 : Ref sig .tc := ⟨.hbm, 42, rfl⟩
abbrev main_v9_17 : Ref sig .tc := ⟨.hbm, 43, rfl⟩
abbrev main_v9_18 : Ref sig .tc := ⟨.hbm, 44, rfl⟩
abbrev main_v9_19 : Ref sig .tc := ⟨.hbm, 45, rfl⟩
abbrev main_v9_20 : Ref sig .tc := ⟨.hbm, 46, rfl⟩
abbrev main_while0c_c_25 : Ref sig .tc := ⟨.hbm, 47, rfl⟩
abbrev main_while0c_v26 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_v0 : Ref sig .tc := ⟨.hbm, 51, rfl⟩
abbrev main_while0b_v26 : Ref sig .tc := ⟨.hbm, 52, rfl⟩
abbrev main_while0b_v27 : Ref sig .tc := ⟨.hbm, 53, rfl⟩
abbrev main_while0b_v28 : Ref sig .tc := ⟨.hbm, 54, rfl⟩
abbrev main_while0b_v29 : Ref sig .tc := ⟨.hbm, 55, rfl⟩
abbrev main_while0b_v30 : Ref sig .tc := ⟨.hbm, 56, rfl⟩
abbrev main_while0b_v31 : Ref sig .tc := ⟨.hbm, 57, rfl⟩
abbrev main_while0b_v32 : Ref sig .tc := ⟨.hbm, 58, rfl⟩
abbrev main_while0b_v33 : Ref sig .tc := ⟨.hbm, 59, rfl⟩
abbrev main_while0b_v34 : Ref sig .tc := ⟨.hbm, 60, rfl⟩
abbrev main_while0b_v35 : Ref sig .tc := ⟨.hbm, 61, rfl⟩
abbrev main_while0b_v36 : Ref sig .tc := ⟨.hbm, 62, rfl⟩
abbrev main_while0b_v37 : Ref sig .tc := ⟨.hbm, 63, rfl⟩
abbrev main_while0b_v38 : Ref sig .tc := ⟨.hbm, 64, rfl⟩
abbrev main_while0b_v39 : Ref sig .tc := ⟨.hbm, 65, rfl⟩
abbrev main_while0b_v40 : Ref sig .tc := ⟨.hbm, 66, rfl⟩
abbrev main_while0b_v41 : Ref sig .tc := ⟨.hbm, 67, rfl⟩
abbrev main_while0b_v42 : Ref sig .tc := ⟨.hbm, 68, rfl⟩
abbrev main_while0b_v43 : Ref sig .tc := ⟨.hbm, 69, rfl⟩
abbrev main_while0b_v44 : Ref sig .tc := ⟨.hbm, 70, rfl⟩
abbrev main_while0b_v45 : Ref sig .tc := ⟨.hbm, 71, rfl⟩
abbrev main_while0b_v46 : Ref sig .tc := ⟨.hbm, 72, rfl⟩
abbrev main_while0b_v47 : Ref sig .tc := ⟨.hbm, 73, rfl⟩
abbrev main_while0b_cst_25 : Ref sig .tc := ⟨.hbm, 74, rfl⟩
abbrev main_while0b_v48 : Ref sig .tc := ⟨.hbm, 75, rfl⟩
abbrev main_while0b_v49 : Ref sig .tc := ⟨.hbm, 76, rfl⟩
abbrev main_while0b_cst_26 : Ref sig .tc := ⟨.hbm, 77, rfl⟩
abbrev main_while0b_v50 : Ref sig .tc := ⟨.hbm, 78, rfl⟩
abbrev main_while0b_v51 : Ref sig .tc := ⟨.hbm, 79, rfl⟩
abbrev main_while0b_cst_27 : Ref sig .tc := ⟨.hbm, 80, rfl⟩
abbrev main_while0b_v52 : Ref sig .tc := ⟨.hbm, 81, rfl⟩
abbrev main_while0b_v53 : Ref sig .tc := ⟨.hbm, 82, rfl⟩
abbrev main_while0b_v54 : Ref sig .tc := ⟨.hbm, 83, rfl⟩
abbrev main_while0b_v55 : Ref sig .tc := ⟨.hbm, 84, rfl⟩
abbrev main_while0b_v56 : Ref sig .tc := ⟨.hbm, 85, rfl⟩
abbrev main_while0b_v57 : Ref sig .tc := ⟨.hbm, 86, rfl⟩
abbrev main_while0b_v58 : Ref sig .tc := ⟨.hbm, 87, rfl⟩
abbrev main_while0b_v59 : Ref sig .tc := ⟨.hbm, 88, rfl⟩
abbrev main_while0b_v60 : Ref sig .tc := ⟨.hbm, 89, rfl⟩
abbrev main_while0b_v61 : Ref sig .tc := ⟨.hbm, 90, rfl⟩
abbrev main_while0b_v62 : Ref sig .tc := ⟨.hbm, 91, rfl⟩
abbrev main_while0b_v63 : Ref sig .tc := ⟨.hbm, 92, rfl⟩
abbrev main_while0b_v64 : Ref sig .tc := ⟨.hbm, 93, rfl⟩
abbrev main_while0b_v65 : Ref sig .tc := ⟨.hbm, 94, rfl⟩
abbrev main_while0b_v66 : Ref sig .tc := ⟨.hbm, 95, rfl⟩
abbrev main_while0b_cst_28 : Ref sig .tc := ⟨.hbm, 96, rfl⟩
abbrev main_while0b_v67 : Ref sig .tc := ⟨.hbm, 97, rfl⟩
abbrev main_while0b_v68 : Ref sig .tc := ⟨.hbm, 98, rfl⟩
abbrev main_while0b_v69 : Ref sig .tc := ⟨.hbm, 99, rfl⟩
abbrev main_while0b_call1_v0 : Ref sig .tc := ⟨.hbm, 100, rfl⟩
abbrev main_while0b_call1_v1 : Ref sig .tc := ⟨.hbm, 101, rfl⟩
abbrev main_while0b_call1_cst : Ref sig .tc := ⟨.hbm, 102, rfl⟩
abbrev main_while0b_call1_v2 : Ref sig .tc := ⟨.hbm, 103, rfl⟩
abbrev main_while0b_call1_v3 : Ref sig .tc := ⟨.hbm, 104, rfl⟩
abbrev main_while0b_call1_cst_0 : Ref sig .tc := ⟨.hbm, 105, rfl⟩
abbrev main_while0b_call1_v4 : Ref sig .tc := ⟨.hbm, 106, rfl⟩
abbrev main_while0b_call1_v5 : Ref sig .tc := ⟨.hbm, 107, rfl⟩
abbrev main_while0b_v70 : Ref sig .tc := ⟨.hbm, 108, rfl⟩
abbrev main_while0b_v71 : Ref sig .tc := ⟨.hbm, 109, rfl⟩
abbrev main_while0b_v72 : Ref sig .tc := ⟨.hbm, 110, rfl⟩
abbrev main_while0b_v73 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_v77 : Ref sig .tc := ⟨.hbm, 115, rfl⟩
abbrev main_while0b_call2_cst : Ref sig .tc := ⟨.hbm, 116, rfl⟩
abbrev main_while0b_call2_v0 : Ref sig .tc := ⟨.hbm, 117, rfl⟩
abbrev main_while0b_call2_v1 : Ref sig .tc := ⟨.hbm, 118, rfl⟩
abbrev main_while0b_call2_v2 : Ref sig .tc := ⟨.hbm, 119, rfl⟩
abbrev main_while0b_call2_v3 : Ref sig .tc := ⟨.hbm, 120, rfl⟩
abbrev main_while0b_call2_v4 : Ref sig .tc := ⟨.hbm, 121, rfl⟩
abbrev main_while0b_call2_v5 : Ref sig .tc := ⟨.hbm, 122, rfl⟩
abbrev main_while0b_call2_v6 : Ref sig .tc := ⟨.hbm, 123, rfl⟩
abbrev main_while0b_call2_v7 : Ref sig .tc := ⟨.hbm, 124, rfl⟩
abbrev main_while0b_call2_v8 : Ref sig .tc := ⟨.hbm, 125, rfl⟩
abbrev main_while0b_call2_v9 : Ref sig .tc := ⟨.hbm, 126, rfl⟩
abbrev main_while0b_call2_v10 : Ref sig .tc := ⟨.hbm, 127, rfl⟩
abbrev main_while0b_call2_v11 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_v82 : Ref sig .tc := ⟨.hbm, 133, rfl⟩
abbrev main_while0b_v83 : Ref sig .tc := ⟨.hbm, 134, rfl⟩
abbrev main_while0b_v84 : Ref sig .tc := ⟨.hbm, 135, rfl⟩
abbrev main_while0b_v85 : Ref sig .tc := ⟨.hbm, 136, rfl⟩
abbrev main_while0b_v86 : Ref sig .tc := ⟨.hbm, 137, rfl⟩
abbrev main_while0b_v87 : Ref sig .tc := ⟨.hbm, 138, rfl⟩
abbrev main_while0b_v88 : Ref sig .tc := ⟨.hbm, 139, rfl⟩
abbrev main_while0b_v89 : Ref sig .tc := ⟨.hbm, 140, rfl⟩
abbrev main_while0b_v90 : Ref sig .tc := ⟨.hbm, 141, rfl⟩
abbrev main_while0b_v91 : Ref sig .tc := ⟨.hbm, 142, rfl⟩
abbrev main_while0b_v92 : Ref sig .tc := ⟨.hbm, 143, rfl⟩
abbrev main_while0b_v93 : Ref sig .tc := ⟨.hbm, 144, rfl⟩
abbrev main_while0b_v94 : Ref sig .tc := ⟨.hbm, 145, rfl⟩
abbrev main_while0b_v95 : Ref sig .tc := ⟨.hbm, 146, rfl⟩
abbrev main_while0b_v96 : Ref sig .tc := ⟨.hbm, 147, rfl⟩
abbrev main_while0b_v97 : Ref sig .tc := ⟨.hbm, 148, rfl⟩
abbrev main_while0b_v98 : Ref sig .tc := ⟨.hbm, 149, rfl⟩
abbrev main_while0b_v99 : Ref sig .tc := ⟨.hbm, 150, rfl⟩
abbrev main_while0b_v100 : Ref sig .tc := ⟨.hbm, 151, rfl⟩
abbrev main_while0b_v101 : Ref sig .tc := ⟨.hbm, 152, rfl⟩
abbrev main_while0b_call3_v0 : Ref sig .tc := ⟨.hbm, 153, rfl⟩
abbrev main_while0b_call3_v1 : Ref sig .tc := ⟨.hbm, 154, rfl⟩
abbrev main_while0b_call3_cst : Ref sig .tc := ⟨.hbm, 155, rfl⟩
abbrev main_while0b_call3_v2 : Ref sig .tc := ⟨.hbm, 156, rfl⟩
abbrev main_while0b_call3_v3 : Ref sig .tc := ⟨.hbm, 157, rfl⟩
abbrev main_while0b_call3_cst_0 : Ref sig .tc := ⟨.hbm, 158, rfl⟩
abbrev main_while0b_call3_v4 : Ref sig .tc := ⟨.hbm, 159, rfl⟩
abbrev main_while0b_call3_v5 : Ref sig .tc := ⟨.hbm, 160, rfl⟩
abbrev main_while0b_v102 : Ref sig .tc := ⟨.hbm, 161, rfl⟩
abbrev main_while0b_v103 : Ref sig .tc := ⟨.hbm, 162, rfl⟩
abbrev main_while0b_v104 : Ref sig .tc := ⟨.hbm, 163, rfl⟩
abbrev main_while0b_v105 : Ref sig .tc := ⟨.hbm, 164, rfl⟩
abbrev main_while0b_v106 : Ref sig .tc := ⟨.hbm, 165, rfl⟩
abbrev main_while0b_v107 : Ref sig .tc := ⟨.hbm, 166, rfl⟩
abbrev main_while0b_v108 : Ref sig .tc := ⟨.hbm, 167, rfl⟩
abbrev main_while0b_v109 : Ref sig .tc := ⟨.hbm, 168, rfl⟩
abbrev main_while0b_v110 : Ref sig .tc := ⟨.hbm, 169, rfl⟩
abbrev main_while0b_v111 : Ref sig .tc := ⟨.hbm, 170, rfl⟩
abbrev main_while0b_v112 : Ref sig .tc := ⟨.hbm, 171, rfl⟩
abbrev main_while0b_v113 : Ref sig .tc := ⟨.hbm, 172, rfl⟩
abbrev main_while0b_v114 : Ref sig .tc := ⟨.hbm, 173, rfl⟩
abbrev main_while0b_v115 : Ref sig .tc := ⟨.hbm, 174, rfl⟩
abbrev main_while0b_v116 : Ref sig .tc := ⟨.hbm, 175, rfl⟩
abbrev main_while0b_v117 : Ref sig .tc := ⟨.hbm, 176, rfl⟩
abbrev main_while0b_v118 : Ref sig .tc := ⟨.hbm, 177, rfl⟩
abbrev main_while0b_v119 : Ref sig .tc := ⟨.hbm, 178, rfl⟩
abbrev main_while0b_v120 : Ref sig .tc := ⟨.hbm, 179, rfl⟩
abbrev main_while0b_v121 : Ref sig .tc := ⟨.hbm, 180, rfl⟩
abbrev main_while0b_v122 : Ref sig .tc := ⟨.hbm, 181, rfl⟩
abbrev main_while0b_v123 : Ref sig .tc := ⟨.hbm, 182, rfl⟩
abbrev main_while0b_v124 : Ref sig .tc := ⟨.hbm, 183, rfl⟩
abbrev main_while0b_v125 : Ref sig .tc := ⟨.hbm, 184, rfl⟩
abbrev main_while0b_v126 : Ref sig .tc := ⟨.hbm, 185, rfl⟩
abbrev main_while0b_v127 : Ref sig .tc := ⟨.hbm, 186, rfl⟩
abbrev main_while0b_cst_29 : Ref sig .tc := ⟨.hbm, 187, rfl⟩
abbrev main_while0b_v128 : Ref sig .tc := ⟨.hbm, 188, rfl⟩
abbrev main_while0b_v129 : Ref sig .tc := ⟨.hbm, 189, rfl⟩
abbrev main_while0b_cst_30 : Ref sig .tc := ⟨.hbm, 190, rfl⟩
abbrev main_while0b_v130 : Ref sig .tc := ⟨.hbm, 191, rfl⟩
abbrev main_while0b_v131 : Ref sig .tc := ⟨.hbm, 192, rfl⟩
abbrev main_while0b_cst_31 : Ref sig .tc := ⟨.hbm, 193, rfl⟩
abbrev main_while0b_v132 : Ref sig .tc := ⟨.hbm, 194, rfl⟩
abbrev main_while0b_v133 : Ref sig .tc := ⟨.hbm, 195, rfl⟩
abbrev main_while0b_v134 : Ref sig .tc := ⟨.hbm, 196, rfl⟩
abbrev main_while0b_v135 : Ref sig .tc := ⟨.hbm, 197, rfl⟩
abbrev main_while0b_v136 : Ref sig .tc := ⟨.hbm, 198, rfl⟩
abbrev main_while0b_v137 : Ref sig .tc := ⟨.hbm, 199, rfl⟩
abbrev main_while0b_v138 : Ref sig .tc := ⟨.hbm, 200, rfl⟩
abbrev main_while0b_v139 : Ref sig .tc := ⟨.hbm, 201, rfl⟩
abbrev main_while0b_v140 : Ref sig .tc := ⟨.hbm, 202, rfl⟩
abbrev main_while0b_v141 : Ref sig .tc := ⟨.hbm, 203, rfl⟩
abbrev main_while0b_v142 : Ref sig .tc := ⟨.hbm, 204, rfl⟩
abbrev main_while0b_v143 : Ref sig .tc := ⟨.hbm, 205, rfl⟩
abbrev main_while0b_v144 : Ref sig .tc := ⟨.hbm, 206, rfl⟩
abbrev main_while0b_v145 : Ref sig .tc := ⟨.hbm, 207, rfl⟩
abbrev main_while0b_v146 : Ref sig .tc := ⟨.hbm, 208, rfl⟩
abbrev main_while0b_cst_32 : Ref sig .tc := ⟨.hbm, 209, rfl⟩
abbrev main_while0b_v147 : Ref sig .tc := ⟨.hbm, 210, rfl⟩
abbrev main_while0b_v148 : Ref sig .tc := ⟨.hbm, 211, rfl⟩
abbrev main_while0b_v149 : Ref sig .tc := ⟨.hbm, 212, rfl⟩
abbrev main_while0b_call4_v0 : Ref sig .tc := ⟨.hbm, 213, rfl⟩
abbrev main_while0b_call4_v1 : Ref sig .tc := ⟨.hbm, 214, rfl⟩
abbrev main_while0b_call4_cst : Ref sig .tc := ⟨.hbm, 215, rfl⟩
abbrev main_while0b_call4_v2 : Ref sig .tc := ⟨.hbm, 216, rfl⟩
abbrev main_while0b_call4_v3 : Ref sig .tc := ⟨.hbm, 217, rfl⟩
abbrev main_while0b_call4_cst_0 : Ref sig .tc := ⟨.hbm, 218, rfl⟩
abbrev main_while0b_call4_v4 : Ref sig .tc := ⟨.hbm, 219, rfl⟩
abbrev main_while0b_call4_v5 : Ref sig .tc := ⟨.hbm, 220, rfl⟩
abbrev main_while0b_v150 : Ref sig .tc := ⟨.hbm, 221, rfl⟩
abbrev main_while0b_v151 : Ref sig .tc := ⟨.hbm, 222, rfl⟩
abbrev main_while0b_v152 : Ref sig .tc := ⟨.hbm, 223, rfl⟩
abbrev main_while0b_v153 : Ref sig .tc := ⟨.hbm, 224, rfl⟩
abbrev main_while0b_v154 : Ref sig .tc := ⟨.hbm, 225, rfl⟩
abbrev main_while0b_v155 : Ref sig .tc := ⟨.hbm, 226, rfl⟩
abbrev main_while0b_v156 : Ref sig .tc := ⟨.hbm, 227, rfl⟩
abbrev main_while0b_v157 : Ref sig .tc := ⟨.hbm, 228, rfl⟩
abbrev main_while0b_call5_cst : Ref sig .tc := ⟨.hbm, 229, rfl⟩
abbrev main_while0b_call5_v0 : Ref sig .tc := ⟨.hbm, 230, rfl⟩
abbrev main_while0b_call5_v1 : Ref sig .tc := ⟨.hbm, 231, rfl⟩
abbrev main_while0b_call5_v2 : Ref sig .tc := ⟨.hbm, 232, rfl⟩
abbrev main_while0b_call5_v3 : Ref sig .tc := ⟨.hbm, 233, rfl⟩
abbrev main_while0b_call5_v4 : Ref sig .tc := ⟨.hbm, 234, rfl⟩
abbrev main_while0b_call5_v5 : Ref sig .tc := ⟨.hbm, 235, rfl⟩
abbrev main_while0b_call5_v6 : Ref sig .tc := ⟨.hbm, 236, rfl⟩
abbrev main_while0b_call5_v7 : Ref sig .tc := ⟨.hbm, 237, rfl⟩
abbrev main_while0b_call5_v8 : Ref sig .tc := ⟨.hbm, 238, rfl⟩
abbrev main_while0b_call5_v9 : Ref sig .tc := ⟨.hbm, 239, rfl⟩
abbrev main_while0b_call5_v10 : Ref sig .tc := ⟨.hbm, 240, rfl⟩
abbrev main_while0b_call5_v11 : Ref sig .tc := ⟨.hbm, 241, rfl⟩
abbrev main_while0b_v158 : Ref sig .tc := ⟨.hbm, 242, rfl⟩
abbrev main_while0b_v159 : Ref sig .tc := ⟨.hbm, 243, rfl⟩
abbrev main_while0b_v160 : Ref sig .tc := ⟨.hbm, 244, rfl⟩
abbrev main_while0b_v161 : Ref sig .tc := ⟨.hbm, 245, rfl⟩
abbrev main_while0b_v162 : Ref sig .tc := ⟨.hbm, 246, rfl⟩
abbrev main_while0b_v163 : Ref sig .tc := ⟨.hbm, 247, rfl⟩
abbrev main_while0b_v164 : Ref sig .tc := ⟨.hbm, 248, rfl⟩
abbrev main_while0b_v165 : Ref sig .tc := ⟨.hbm, 249, rfl⟩
abbrev main_while0b_v166 : Ref sig .tc := ⟨.hbm, 250, rfl⟩
abbrev main_while0b_v167 : Ref sig .tc := ⟨.hbm, 251, rfl⟩
abbrev main_while0b_v168 : Ref sig .tc := ⟨.hbm, 252, rfl⟩
abbrev main_while0b_v169 : Ref sig .tc := ⟨.hbm, 253, rfl⟩
abbrev main_while0b_v170 : Ref sig .tc := ⟨.hbm, 254, rfl⟩
abbrev main_while0b_v171 : Ref sig .tc := ⟨.hbm, 255, rfl⟩
abbrev main_while0b_v172 : Ref sig .tc := ⟨.hbm, 256, rfl⟩
abbrev main_while0b_v173 : Ref sig .tc := ⟨.hbm, 257, rfl⟩
abbrev main_while0b_v174 : Ref sig .tc := ⟨.hbm, 258, rfl⟩
abbrev main_while0b_v175 : Ref sig .tc := ⟨.hbm, 259, rfl⟩
abbrev main_while0b_v176 : Ref sig .tc := ⟨.hbm, 260, rfl⟩
abbrev main_while0b_v177 : Ref sig .tc := ⟨.hbm, 261, rfl⟩
abbrev main_while0b_v178 : Ref sig .tc := ⟨.hbm, 262, rfl⟩
abbrev main_while0b_v179 : Ref sig .tc := ⟨.hbm, 263, rfl⟩
abbrev main_while0b_v180 : Ref sig .tc := ⟨.hbm, 264, rfl⟩
abbrev main_while0b_v181 : Ref sig .tc := ⟨.hbm, 265, rfl⟩
abbrev main_while0b_call6_v0 : Ref sig .tc := ⟨.hbm, 266, rfl⟩
abbrev main_while0b_call6_v1 : Ref sig .tc := ⟨.hbm, 267, rfl⟩
abbrev main_while0b_call6_cst : Ref sig .tc := ⟨.hbm, 268, rfl⟩
abbrev main_while0b_call6_v2 : Ref sig .tc := ⟨.hbm, 269, rfl⟩
abbrev main_while0b_call6_v3 : Ref sig .tc := ⟨.hbm, 270, rfl⟩
abbrev main_while0b_call6_cst_0 : Ref sig .tc := ⟨.hbm, 271, rfl⟩
abbrev main_while0b_call6_v4 : Ref sig .tc := ⟨.hbm, 272, rfl⟩
abbrev main_while0b_call6_v5 : Ref sig .tc := ⟨.hbm, 273, rfl⟩
abbrev main_while0b_v182 : Ref sig .tc := ⟨.hbm, 274, rfl⟩
abbrev main_while0b_v183 : Ref sig .tc := ⟨.hbm, 275, rfl⟩
abbrev main_while0b_v184 : Ref sig .tc := ⟨.hbm, 276, rfl⟩
abbrev main_while0b_v185 : Ref sig .tc := ⟨.hbm, 277, rfl⟩
abbrev main_while0b_v186 : Ref sig .tc := ⟨.hbm, 278, rfl⟩
abbrev main_while0b_v187 : Ref sig .tc := ⟨.hbm, 279, rfl⟩
abbrev main_while0b_v188 : Ref sig .tc := ⟨.hbm, 280, rfl⟩
abbrev main_while0b_v189 : Ref sig .tc := ⟨.hbm, 281, rfl⟩
abbrev main_while0b_v190 : Ref sig .tc := ⟨.hbm, 282, rfl⟩
abbrev main_while0b_v191 : Ref sig .tc := ⟨.hbm, 283, rfl⟩
abbrev main_while0b_v192 : Ref sig .tc := ⟨.hbm, 284, rfl⟩
abbrev main_while0b_v193 : Ref sig .tc := ⟨.hbm, 285, rfl⟩
abbrev main_while0b_v194 : Ref sig .tc := ⟨.hbm, 286, rfl⟩
abbrev main_while0b_v195 : Ref sig .tc := ⟨.hbm, 287, rfl⟩
abbrev main_while0b_v196 : Ref sig .tc := ⟨.hbm, 288, rfl⟩
abbrev main_while0b_v197 : Ref sig .tc := ⟨.hbm, 289, rfl⟩
abbrev main_while0b_v198 : Ref sig .tc := ⟨.hbm, 290, rfl⟩
abbrev main_while0b_v199 : Ref sig .tc := ⟨.hbm, 291, rfl⟩
abbrev main_while0b_v200 : Ref sig .tc := ⟨.hbm, 292, rfl⟩
abbrev main_while0b_v201 : Ref sig .tc := ⟨.hbm, 293, rfl⟩
abbrev main_while0b_v202 : Ref sig .tc := ⟨.hbm, 294, rfl⟩
abbrev main_while0b_v203 : Ref sig .tc := ⟨.hbm, 295, rfl⟩
abbrev main_while0b_v204 : Ref sig .tc := ⟨.hbm, 296, rfl⟩
abbrev main_while0b_v205 : Ref sig .tc := ⟨.hbm, 297, rfl⟩
abbrev main_while0b_v206 : Ref sig .tc := ⟨.hbm, 298, rfl⟩
abbrev main_while0b_v207 : Ref sig .tc := ⟨.hbm, 299, rfl⟩
abbrev main_while0b_cst_33 : Ref sig .tc := ⟨.hbm, 300, rfl⟩
abbrev main_while0b_v208 : Ref sig .tc := ⟨.hbm, 301, rfl⟩
abbrev main_while0b_v209 : Ref sig .tc := ⟨.hbm, 302, rfl⟩
abbrev main_while0b_cst_34 : Ref sig .tc := ⟨.hbm, 303, rfl⟩
abbrev main_while0b_v210 : Ref sig .tc := ⟨.hbm, 304, rfl⟩
abbrev main_while0b_v211 : Ref sig .tc := ⟨.hbm, 305, rfl⟩
abbrev main_while0b_cst_35 : Ref sig .tc := ⟨.hbm, 306, rfl⟩
abbrev main_while0b_v212 : Ref sig .tc := ⟨.hbm, 307, rfl⟩
abbrev main_while0b_v213 : Ref sig .tc := ⟨.hbm, 308, rfl⟩
abbrev main_while0b_v214 : Ref sig .tc := ⟨.hbm, 309, rfl⟩
abbrev main_while0b_v215 : Ref sig .tc := ⟨.hbm, 310, rfl⟩
abbrev main_while0b_v216 : Ref sig .tc := ⟨.hbm, 311, rfl⟩
abbrev main_while0b_v217 : Ref sig .tc := ⟨.hbm, 312, rfl⟩
abbrev main_while0b_v218 : Ref sig .tc := ⟨.hbm, 313, rfl⟩
abbrev main_while0b_v219 : Ref sig .tc := ⟨.hbm, 314, rfl⟩
abbrev main_while0b_v220 : Ref sig .tc := ⟨.hbm, 315, rfl⟩
abbrev main_while0b_v221 : Ref sig .tc := ⟨.hbm, 316, rfl⟩
abbrev main_while0b_v222 : Ref sig .tc := ⟨.hbm, 317, rfl⟩
abbrev main_while0b_v223 : Ref sig .tc := ⟨.hbm, 318, rfl⟩
abbrev main_while0b_v224 : Ref sig .tc := ⟨.hbm, 319, rfl⟩
abbrev main_while0b_v225 : Ref sig .tc := ⟨.hbm, 320, rfl⟩
abbrev main_while0b_v226 : Ref sig .tc := ⟨.hbm, 321, rfl⟩
abbrev main_while0b_cst_36 : Ref sig .tc := ⟨.hbm, 322, rfl⟩
abbrev main_while0b_v227 : Ref sig .tc := ⟨.hbm, 323, rfl⟩
abbrev main_while0b_v228 : Ref sig .tc := ⟨.hbm, 324, rfl⟩
abbrev main_while0b_v229 : Ref sig .tc := ⟨.hbm, 325, rfl⟩
abbrev main_while0b_call7_v0 : Ref sig .tc := ⟨.hbm, 326, rfl⟩
abbrev main_while0b_call7_v1 : Ref sig .tc := ⟨.hbm, 327, rfl⟩
abbrev main_while0b_call7_cst : Ref sig .tc := ⟨.hbm, 328, rfl⟩
abbrev main_while0b_call7_v2 : Ref sig .tc := ⟨.hbm, 329, rfl⟩
abbrev main_while0b_call7_v3 : Ref sig .tc := ⟨.hbm, 330, rfl⟩
abbrev main_while0b_call7_cst_0 : Ref sig .tc := ⟨.hbm, 331, rfl⟩
abbrev main_while0b_call7_v4 : Ref sig .tc := ⟨.hbm, 332, rfl⟩
abbrev main_while0b_call7_v5 : Ref sig .tc := ⟨.hbm, 333, rfl⟩
abbrev main_while0b_v230 : Ref sig .tc := ⟨.hbm, 334, rfl⟩
abbrev main_while0b_v231 : Ref sig .tc := ⟨.hbm, 335, rfl⟩
abbrev main_while0b_v232 : Ref sig .tc := ⟨.hbm, 336, rfl⟩
abbrev main_while0b_v233 : Ref sig .tc := ⟨.hbm, 337, rfl⟩
abbrev main_while0b_v234 : Ref sig .tc := ⟨.hbm, 338, rfl⟩
abbrev main_while0b_v235 : Ref sig .tc := ⟨.hbm, 339, rfl⟩
abbrev main_while0b_v236 : Ref sig .tc := ⟨.hbm, 340, rfl⟩
abbrev main_while0b_v237 : Ref sig .tc := ⟨.hbm, 341, rfl⟩
abbrev main_while0b_call8_cst : Ref sig .tc := ⟨.hbm, 342, rfl⟩
abbrev main_while0b_call8_v0 : Ref sig .tc := ⟨.hbm, 343, rfl⟩
abbrev main_while0b_call8_v1 : Ref sig .tc := ⟨.hbm, 344, rfl⟩
abbrev main_while0b_call8_v2 : Ref sig .tc := ⟨.hbm, 345, rfl⟩
abbrev main_while0b_call8_v3 : Ref sig .tc := ⟨.hbm, 346, rfl⟩
abbrev main_while0b_call8_v4 : Ref sig .tc := ⟨.hbm, 347, rfl⟩
abbrev main_while0b_call8_v5 : Ref sig .tc := ⟨.hbm, 348, rfl⟩
abbrev main_while0b_call8_v6 : Ref sig .tc := ⟨.hbm, 349, rfl⟩
abbrev main_while0b_call8_v7 : Ref sig .tc := ⟨.hbm, 350, rfl⟩
abbrev main_while0b_call8_v8 : Ref sig .tc := ⟨.hbm, 351, rfl⟩
abbrev main_while0b_call8_v9 : Ref sig .tc := ⟨.hbm, 352, rfl⟩
abbrev main_while0b_call8_v10 : Ref sig .tc := ⟨.hbm, 353, rfl⟩
abbrev main_while0b_call8_v11 : Ref sig .tc := ⟨.hbm, 354, rfl⟩
abbrev main_while0b_v238 : Ref sig .tc := ⟨.hbm, 355, rfl⟩
abbrev main_while0b_v239 : Ref sig .tc := ⟨.hbm, 356, rfl⟩
abbrev main_while0b_v240 : Ref sig .tc := ⟨.hbm, 357, rfl⟩
abbrev main_while0b_v241 : Ref sig .tc := ⟨.hbm, 358, rfl⟩
abbrev main_while0b_v242 : Ref sig .tc := ⟨.hbm, 359, rfl⟩
abbrev main_while0b_v243 : Ref sig .tc := ⟨.hbm, 360, rfl⟩
abbrev main_while0b_v244 : Ref sig .tc := ⟨.hbm, 361, rfl⟩
abbrev main_while0b_v245 : Ref sig .tc := ⟨.hbm, 362, rfl⟩
abbrev main_while0b_v246 : Ref sig .tc := ⟨.hbm, 363, rfl⟩
abbrev main_while0b_v247 : Ref sig .tc := ⟨.hbm, 364, rfl⟩
abbrev main_while0b_v248 : Ref sig .tc := ⟨.hbm, 365, rfl⟩
abbrev main_while0b_v249 : Ref sig .tc := ⟨.hbm, 366, rfl⟩
abbrev main_while0b_v250 : Ref sig .tc := ⟨.hbm, 367, rfl⟩
abbrev main_while0b_v251 : Ref sig .tc := ⟨.hbm, 368, rfl⟩
abbrev main_while0b_v252 : Ref sig .tc := ⟨.hbm, 369, rfl⟩
abbrev main_while0b_v253 : Ref sig .tc := ⟨.hbm, 370, rfl⟩
abbrev main_while0b_v254 : Ref sig .tc := ⟨.hbm, 371, rfl⟩
abbrev main_while0b_v255 : Ref sig .tc := ⟨.hbm, 372, rfl⟩
abbrev main_while0b_v256 : Ref sig .tc := ⟨.hbm, 373, rfl⟩
abbrev main_while0b_v257 : Ref sig .tc := ⟨.hbm, 374, rfl⟩
abbrev main_while0b_v258 : Ref sig .tc := ⟨.hbm, 375, rfl⟩
abbrev main_while0b_v259 : Ref sig .tc := ⟨.hbm, 376, rfl⟩
abbrev main_while0b_v260 : Ref sig .tc := ⟨.hbm, 377, rfl⟩
abbrev main_while0b_v261 : Ref sig .tc := ⟨.hbm, 378, rfl⟩
abbrev main_while0b_call9_v0 : Ref sig .tc := ⟨.hbm, 379, rfl⟩
abbrev main_while0b_call9_v1 : Ref sig .tc := ⟨.hbm, 380, rfl⟩
abbrev main_while0b_call9_cst : Ref sig .tc := ⟨.hbm, 381, rfl⟩
abbrev main_while0b_call9_v2 : Ref sig .tc := ⟨.hbm, 382, rfl⟩
abbrev main_while0b_call9_v3 : Ref sig .tc := ⟨.hbm, 383, rfl⟩
abbrev main_while0b_call9_cst_0 : Ref sig .tc := ⟨.hbm, 384, rfl⟩
abbrev main_while0b_call9_v4 : Ref sig .tc := ⟨.hbm, 385, rfl⟩
abbrev main_while0b_call9_v5 : Ref sig .tc := ⟨.hbm, 386, rfl⟩
abbrev main_while0b_v262 : Ref sig .tc := ⟨.hbm, 387, rfl⟩
abbrev main_while0b_v263 : Ref sig .tc := ⟨.hbm, 388, rfl⟩
abbrev main_while0b_v264 : Ref sig .tc := ⟨.hbm, 389, rfl⟩
abbrev main_while0b_v265 : Ref sig .tc := ⟨.hbm, 390, rfl⟩
abbrev main_while0b_v266 : Ref sig .tc := ⟨.hbm, 391, rfl⟩
abbrev main_while0b_v267 : Ref sig .tc := ⟨.hbm, 392, rfl⟩
abbrev main_while0b_v268 : Ref sig .tc := ⟨.hbm, 393, rfl⟩
abbrev main_while0b_v269 : Ref sig .tc := ⟨.hbm, 394, rfl⟩
abbrev main_while0b_v270 : Ref sig .tc := ⟨.hbm, 395, rfl⟩
abbrev main_while0b_v271 : Ref sig .tc := ⟨.hbm, 396, rfl⟩
abbrev main_while0b_v272 : Ref sig .tc := ⟨.hbm, 397, rfl⟩
abbrev main_while0b_v273 : Ref sig .tc := ⟨.hbm, 398, rfl⟩
abbrev main_while0b_v274 : Ref sig .tc := ⟨.hbm, 399, rfl⟩
abbrev main_while0b_v275 : Ref sig .tc := ⟨.hbm, 400, rfl⟩
abbrev main_while0b_v276 : Ref sig .tc := ⟨.hbm, 401, rfl⟩
abbrev main_while0b_v277 : Ref sig .tc := ⟨.hbm, 402, rfl⟩
abbrev main_while0b_v278 : Ref sig .tc := ⟨.hbm, 403, rfl⟩
abbrev main_while0b_v279 : Ref sig .tc := ⟨.hbm, 404, rfl⟩
abbrev main_while0b_v280 : Ref sig .tc := ⟨.hbm, 405, rfl⟩
abbrev main_while0b_v281 : Ref sig .tc := ⟨.hbm, 406, rfl⟩
abbrev main_while0b_v282 : Ref sig .tc := ⟨.hbm, 407, rfl⟩
abbrev main_while0b_v283 : Ref sig .tc := ⟨.hbm, 408, rfl⟩
abbrev main_while0b_v284 : Ref sig .tc := ⟨.hbm, 409, rfl⟩
abbrev main_while0b_v285 : Ref sig .tc := ⟨.hbm, 410, rfl⟩
abbrev main_while0b_v286 : Ref sig .tc := ⟨.hbm, 411, rfl⟩
abbrev main_while0b_v287 : Ref sig .tc := ⟨.hbm, 412, rfl⟩
abbrev main_while0b_cst_37 : Ref sig .tc := ⟨.hbm, 413, rfl⟩
abbrev main_while0b_v288 : Ref sig .tc := ⟨.hbm, 414, rfl⟩
abbrev main_while0b_v289 : Ref sig .tc := ⟨.hbm, 415, rfl⟩
abbrev main_while0b_cst_38 : Ref sig .tc := ⟨.hbm, 416, rfl⟩
abbrev main_while0b_v290 : Ref sig .tc := ⟨.hbm, 417, rfl⟩
abbrev main_while0b_v291 : Ref sig .tc := ⟨.hbm, 418, rfl⟩
abbrev main_while0b_cst_39 : Ref sig .tc := ⟨.hbm, 419, rfl⟩
abbrev main_while0b_v292 : Ref sig .tc := ⟨.hbm, 420, rfl⟩
abbrev main_while0b_v293 : Ref sig .tc := ⟨.hbm, 421, rfl⟩
abbrev main_while0b_v294 : Ref sig .tc := ⟨.hbm, 422, rfl⟩
abbrev main_while0b_v295 : Ref sig .tc := ⟨.hbm, 423, rfl⟩
abbrev main_while0b_v296 : Ref sig .tc := ⟨.hbm, 424, rfl⟩
abbrev main_while0b_v297 : Ref sig .tc := ⟨.hbm, 425, rfl⟩
abbrev main_while0b_v298 : Ref sig .tc := ⟨.hbm, 426, rfl⟩
abbrev main_while0b_v299 : Ref sig .tc := ⟨.hbm, 427, rfl⟩
abbrev main_while0b_v300 : Ref sig .tc := ⟨.hbm, 428, rfl⟩
abbrev main_while0b_v301 : Ref sig .tc := ⟨.hbm, 429, rfl⟩
abbrev main_while0b_v302 : Ref sig .tc := ⟨.hbm, 430, rfl⟩
abbrev main_while0b_v303 : Ref sig .tc := ⟨.hbm, 431, rfl⟩
abbrev main_while0b_v304 : Ref sig .tc := ⟨.hbm, 432, rfl⟩
abbrev main_while0b_v305 : Ref sig .tc := ⟨.hbm, 433, rfl⟩
abbrev main_while0b_v306 : Ref sig .tc := ⟨.hbm, 434, rfl⟩
abbrev main_while0b_cst_40 : Ref sig .tc := ⟨.hbm, 435, rfl⟩
abbrev main_while0b_v307 : Ref sig .tc := ⟨.hbm, 436, rfl⟩
abbrev main_while0b_v308 : Ref sig .tc := ⟨.hbm, 437, rfl⟩
abbrev main_while0b_v309 : Ref sig .tc := ⟨.hbm, 438, rfl⟩
abbrev main_while0b_call10_v0 : Ref sig .tc := ⟨.hbm, 439, rfl⟩
abbrev main_while0b_call10_v1 : Ref sig .tc := ⟨.hbm, 440, rfl⟩
abbrev main_while0b_call10_cst : Ref sig .tc := ⟨.hbm, 441, rfl⟩
abbrev main_while0b_call10_v2 : Ref sig .tc := ⟨.hbm, 442, rfl⟩
abbrev main_while0b_call10_v3 : Ref sig .tc := ⟨.hbm, 443, rfl⟩
abbrev main_while0b_call10_cst_0 : Ref sig .tc := ⟨.hbm, 444, rfl⟩
abbrev main_while0b_call10_v4 : Ref sig .tc := ⟨.hbm, 445, rfl⟩
abbrev main_while0b_call10_v5 : Ref sig .tc := ⟨.hbm, 446, rfl⟩
abbrev main_while0b_v310 : Ref sig .tc := ⟨.hbm, 447, rfl⟩
abbrev main_while0b_v311 : Ref sig .tc := ⟨.hbm, 448, rfl⟩
abbrev main_while0b_v312 : Ref sig .tc := ⟨.hbm, 449, rfl⟩
abbrev main_while0b_v313 : Ref sig .tc := ⟨.hbm, 450, rfl⟩
abbrev main_while0b_v314 : Ref sig .tc := ⟨.hbm, 451, rfl⟩
abbrev main_while0b_v315 : Ref sig .tc := ⟨.hbm, 452, rfl⟩
abbrev main_while0b_v316 : Ref sig .tc := ⟨.hbm, 453, rfl⟩
abbrev main_while0b_v317 : Ref sig .tc := ⟨.hbm, 454, rfl⟩
abbrev main_while0b_call11_cst : Ref sig .tc := ⟨.hbm, 455, rfl⟩
abbrev main_while0b_call11_v0 : Ref sig .tc := ⟨.hbm, 456, rfl⟩
abbrev main_while0b_call11_v1 : Ref sig .tc := ⟨.hbm, 457, rfl⟩
abbrev main_while0b_call11_v2 : Ref sig .tc := ⟨.hbm, 458, rfl⟩
abbrev main_while0b_call11_v3 : Ref sig .tc := ⟨.hbm, 459, rfl⟩
abbrev main_while0b_call11_v4 : Ref sig .tc := ⟨.hbm, 460, rfl⟩
abbrev main_while0b_call11_v5 : Ref sig .tc := ⟨.hbm, 461, rfl⟩
abbrev main_while0b_call11_v6 : Ref sig .tc := ⟨.hbm, 462, rfl⟩
abbrev main_while0b_call11_v7 : Ref sig .tc := ⟨.hbm, 463, rfl⟩
abbrev main_while0b_call11_v8 : Ref sig .tc := ⟨.hbm, 464, rfl⟩
abbrev main_while0b_call11_v9 : Ref sig .tc := ⟨.hbm, 465, rfl⟩
abbrev main_while0b_call11_v10 : Ref sig .tc := ⟨.hbm, 466, rfl⟩
abbrev main_while0b_call11_v11 : Ref sig .tc := ⟨.hbm, 467, rfl⟩
abbrev main_while0b_v318 : Ref sig .tc := ⟨.hbm, 468, rfl⟩
abbrev main_while0b_v319 : Ref sig .tc := ⟨.hbm, 469, rfl⟩
abbrev main_while0b_v320 : Ref sig .tc := ⟨.hbm, 470, rfl⟩
abbrev main_while0b_v321 : Ref sig .tc := ⟨.hbm, 471, rfl⟩
abbrev main_while0b_v322 : Ref sig .tc := ⟨.hbm, 472, rfl⟩
abbrev main_while0b_v323 : Ref sig .tc := ⟨.hbm, 473, rfl⟩
abbrev main_while0b_v324 : Ref sig .tc := ⟨.hbm, 474, rfl⟩
abbrev main_while0b_v325 : Ref sig .tc := ⟨.hbm, 475, rfl⟩
abbrev main_while0b_v326 : Ref sig .tc := ⟨.hbm, 476, rfl⟩
abbrev main_while0b_v327 : Ref sig .tc := ⟨.hbm, 477, rfl⟩
abbrev main_while0b_v328 : Ref sig .tc := ⟨.hbm, 478, rfl⟩
abbrev main_while0b_v329 : Ref sig .tc := ⟨.hbm, 479, rfl⟩
abbrev main_while0b_v330 : Ref sig .tc := ⟨.hbm, 480, rfl⟩
abbrev main_while0b_v331 : Ref sig .tc := ⟨.hbm, 481, rfl⟩
abbrev main_while0b_v332 : Ref sig .tc := ⟨.hbm, 482, rfl⟩
abbrev main_while0b_v333 : Ref sig .tc := ⟨.hbm, 483, rfl⟩
abbrev main_while0b_v334 : Ref sig .tc := ⟨.hbm, 484, rfl⟩
abbrev main_while0b_v335 : Ref sig .tc := ⟨.hbm, 485, rfl⟩
abbrev main_while0b_v336 : Ref sig .tc := ⟨.hbm, 486, rfl⟩
abbrev main_while0b_v337 : Ref sig .tc := ⟨.hbm, 487, rfl⟩
abbrev main_while0b_v338 : Ref sig .tc := ⟨.hbm, 488, rfl⟩
abbrev main_while0b_v339 : Ref sig .tc := ⟨.hbm, 489, rfl⟩
abbrev main_while0b_v340 : Ref sig .tc := ⟨.hbm, 490, rfl⟩
abbrev main_while0b_v341 : Ref sig .tc := ⟨.hbm, 491, rfl⟩
abbrev main_while0b_call12_v0 : Ref sig .tc := ⟨.hbm, 492, rfl⟩
abbrev main_while0b_call12_v1 : Ref sig .tc := ⟨.hbm, 493, rfl⟩
abbrev main_while0b_call12_cst : Ref sig .tc := ⟨.hbm, 494, rfl⟩
abbrev main_while0b_call12_v2 : Ref sig .tc := ⟨.hbm, 495, rfl⟩
abbrev main_while0b_call12_v3 : Ref sig .tc := ⟨.hbm, 496, rfl⟩
abbrev main_while0b_call12_cst_0 : Ref sig .tc := ⟨.hbm, 497, rfl⟩
abbrev main_while0b_call12_v4 : Ref sig .tc := ⟨.hbm, 498, rfl⟩
abbrev main_while0b_call12_v5 : Ref sig .tc := ⟨.hbm, 499, rfl⟩
abbrev main_while0b_v342 : Ref sig .tc := ⟨.hbm, 500, rfl⟩
abbrev main_while0b_v343 : Ref sig .tc := ⟨.hbm, 501, rfl⟩
abbrev main_while0b_v344 : Ref sig .tc := ⟨.hbm, 502, rfl⟩
abbrev main_while0b_v345 : Ref sig .tc := ⟨.hbm, 503, rfl⟩
abbrev main_while0b_v346 : Ref sig .tc := ⟨.hbm, 504, rfl⟩
abbrev main_while0b_v347 : Ref sig .tc := ⟨.hbm, 505, rfl⟩
abbrev main_while0b_v348 : Ref sig .tc := ⟨.hbm, 506, rfl⟩
abbrev main_while0b_v349 : Ref sig .tc := ⟨.hbm, 507, rfl⟩
abbrev main_while0b_c_41 : Ref sig .tc := ⟨.hbm, 508, rfl⟩
abbrev main_while0b_v350 : Ref sig .tc := ⟨.hbm, 509, rfl⟩
abbrev main_v10 : Ref sig .tc := ⟨.hbm, 510, rfl⟩
abbrev main_v11 : Ref sig .tc := ⟨.hbm, 511, rfl⟩
abbrev main_v12 : Ref sig .tc := ⟨.hbm, 512, rfl⟩
abbrev main_cst_2 : Ref sig .tc := ⟨.hbm, 513, rfl⟩
abbrev main_v13 : Ref sig .tc := ⟨.hbm, 514, rfl⟩
abbrev main_v14 : Ref sig .tc := ⟨.hbm, 515, rfl⟩
abbrev main_cst_3 : Ref sig .tc := ⟨.hbm, 516, rfl⟩
abbrev main_v15 : Ref sig .tc := ⟨.hbm, 517, rfl⟩
abbrev main_v16 : Ref sig .tc := ⟨.hbm, 518, rfl⟩
abbrev main_cst_4 : Ref sig .tc := ⟨.hbm, 519, rfl⟩
abbrev main_v17 : Ref sig .tc := ⟨.hbm, 520, rfl⟩
abbrev main_v18 : Ref sig .tc := ⟨.hbm, 521, rfl⟩
abbrev main_v19 : Ref sig .tc := ⟨.hbm, 522, rfl⟩
abbrev main_v20 : Ref sig .tc := ⟨.hbm, 523, rfl⟩
abbrev main_v21 : Ref sig .tc := ⟨.hbm, 524, rfl⟩
abbrev main_v22 : Ref sig .tc := ⟨.hbm, 525, rfl⟩
abbrev main_v23 : Ref sig .tc := ⟨.hbm, 526, rfl⟩
abbrev main_v24 : Ref sig .tc := ⟨.hbm, 527, rfl⟩
abbrev main_v25 : Ref sig .tc := ⟨.hbm, 528, rfl⟩

abbrev nD : Nat := 1
abbrev τ : Topo := Topo.v7x

variable {F : FTy → Type} [FloatOps F]

abbrev main_while0_count : Scf.Loop 32 := ⟨0#32, 512#32, 1#32⟩
-- ==== Head.lean ====
abbrev S1024x768 : Shape := ⟨2, ![1024, 768]⟩
abbrev S32000x768 : Shape := ⟨2, ![32000, 768]⟩
abbrev S1024x32000 : Shape := ⟨2, ![1024, 32000]⟩
abbrev S3200x768 : Shape := ⟨2, ![3200, 768]⟩
abbrev S1024x3200 : Shape := ⟨2, ![1024, 3200]⟩

abbrev nBuf : Space → Nat
  | .hbm => 3
  | .vmem => 5
  | .smem => 0
  | _ => 0

abbrev bufTy : (tb : Table) → Fin (tcTables nBuf tb) → BufTy
  | .hbm, ⟨0, _⟩ => ⟨S1024x768, .bf16⟩
  | .hbm, ⟨1, _⟩ => ⟨S32000x768, .f32⟩
  | .hbm, ⟨2, _⟩ => ⟨S1024x32000, .f32⟩
  | .local _ .vmem, ⟨0, _⟩ => ⟨S1024x768, .bf16⟩
  | .local _ .vmem, ⟨1, _⟩ => ⟨S3200x768, .f32⟩
  | .local _ .vmem, ⟨2, _⟩ => ⟨S3200x768, .f32⟩
  | .local _ .vmem, ⟨3, _⟩ => ⟨S1024x3200, .f32⟩
  | .local _ .vmem, ⟨4, _⟩ => ⟨S1024x3200, .f32⟩
  | _, _ => ⟨S1024x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3200x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x3200 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== HeadRefIdeal.lean ====
abbrev S1024x768 : Shape := ⟨2, ![1024, 768]⟩
abbrev S32000x768 : Shape := ⟨2, ![32000, 768]⟩
abbrev S1024x32000 : Shape := ⟨2, ![1024, 32000]⟩

abbrev nBuf : Space → Nat
  | .hbm => 4
  | .vmem => 0
  | .smem => 0
  | _ => 0

abbrev bufTy : (tb : Table) → Fin (tcTables nBuf tb) → BufTy
  | .hbm, ⟨0, _⟩ => ⟨S1024x768, .bf16⟩
  | .hbm, ⟨1, _⟩ => ⟨S32000x768, .f32⟩
  | .hbm, ⟨2, _⟩ => ⟨S1024x768, .f32⟩
  | .hbm, ⟨3, _⟩ => ⟨S1024x32000, .f32⟩
  | _, _ => ⟨S1024x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.V.Spec.lean ====
/-
  The four-layer stack as formulas on the extended reals, one token at a time: a token's row, the three inputs the
  causal convolution carries, and the state of the selective scan. `layer` runs one sequence's rows through a layer.
-/
module

public import Idealize.ShloMosaic.Lib.Pointwise

@[expose] public section

noncomputable section

namespace Cert.Mamba

open Idealize.ShloMosaic

/-- One layer's parameters. -/
structure Par where
  nw : Fin 768 → EReal
  win : Fin 3072 → Fin 768 → EReal
  cw : Fin 4 → Fin 1536 → EReal
  cb : Fin 1536 → EReal
  xp : Fin 80 → Fin 1536 → EReal
  wdt : Fin 1536 → Fin 48 → EReal
  dtb : Fin 1536 → EReal
  al : Fin 16 → Fin 1536 → EReal
  dd : Fin 1536 → EReal
  wo : Fin 768 → Fin 1536 → EReal

/-- A row over its root mean square, weighted. -/
def rms (nw x : Fin 768 → EReal) (j : Fin 768) : EReal :=
  x j * Ideal.rsqrt (Ideal.div (∑ k, x k * x k) (Ideal.ofBits FTy.f32 1145044992#32) + Ideal.ofBits FTy.f32 925353388#32) * nw j

/-- The input projection of a row. -/
def xz (p : Par) (x : Fin 768 → EReal) (e : Fin 3072) : EReal := ∑ k, rms p.nw x k * p.win e k

/-- The half of the projection the convolution takes. -/
def xu (p : Par) (x : Fin 768 → EReal) (d : Fin 1536) : EReal := xz p x ⟨d.val, by omega⟩

/-- The half of the projection that gates. -/
def zz (p : Par) (x : Fin 768 → EReal) (d : Fin 1536) : EReal := xz p x ⟨1536 + d.val, by omega⟩

def silu (v : EReal) : EReal := v * Ideal.div 1 (1 + Ideal.exp (-v))

def softplus (v : EReal) : EReal := Ideal.log1p (Ideal.exp v)

/-- The convolution, its bias and its activation, from the three carried inputs and the row. -/
def uu (p : Par) (x : Fin 768 → EReal) (cv : Fin 3 → Fin 1536 → EReal) (d : Fin 1536) : EReal :=
  silu (∑ k : Fin 4, (if h : k.val < 3 then cv ⟨k.val, h⟩ d else xu p x d) * p.cw k d + p.cb d)

def xd (p : Par) (u : Fin 1536 → EReal) (e : Fin 80) : EReal := ∑ d, u d * p.xp e d

/-- The step size. -/
def dt (p : Par) (u : Fin 1536 → EReal) (d : Fin 1536) : EReal :=
  softplus (∑ r : Fin 48, xd p u ⟨r.val, by omega⟩ * p.wdt d r + p.dtb d)

/-- The state after a token. -/
def hh (p : Par) (u : Fin 1536 → EReal) (h : Fin 1536 → Fin 16 → EReal) (d : Fin 1536) (n : Fin 16) : EReal :=
  Ideal.exp (dt p u d * -Ideal.exp (p.al n d)) * h d n + dt p u d * xd p u ⟨48 + n.val, by omega⟩ * u d

/-- What a token reads off the state, gated. -/
def yy (p : Par) (x : Fin 768 → EReal) (u : Fin 1536 → EReal) (h : Fin 1536 → Fin 16 → EReal) (d : Fin 1536) : EReal :=
  (∑ n, h d n * xd p u ⟨64 + n.val, by omega⟩ + u d * p.dd d) * silu (zz p x d)

/-- The row after the layer. -/
def xx (p : Par) (x : Fin 768 → EReal) (y : Fin 1536 → EReal) (j : Fin 768) : EReal := x j + ∑ d, y d * p.wo j d

/-! ### A sequence through a layer -/

/-- The convolution's carried inputs before token `t`: zeros before the sequence starts. -/
def carried (p : Par) (X : ℕ → Fin 768 → EReal) (t : ℕ) (k : Fin 3) (d : Fin 1536) : EReal :=
  if t + k.val < 3 then 0 else xu p (X (t + k.val - 3)) d

/-- The activated convolution at token `t`. -/
def uAt (p : Par) (X : ℕ → Fin 768 → EReal) (t : ℕ) : Fin 1536 → EReal := uu p (X t) (carried p X t)

/-- The state before token `t`. -/
def state (p : Par) (X : ℕ → Fin 768 → EReal) : ℕ → Fin 1536 → Fin 16 → EReal
  | 0 => fun _ _ => 0
  | t + 1 => hh p (uAt p X t) (state p X t)

/-- Row `t` after the layer. -/
def layer (p : Par) (X : ℕ → Fin 768 → EReal) (t : ℕ) : Fin 768 → EReal :=
  xx p (X t) (yy p (X t) (uAt p X t) (state p X (t + 1)))

/-- The carried inputs move up by one token. -/
theorem carried_succ (p : Par) (X : ℕ → Fin 768 → EReal) (t : ℕ) (k : Fin 3) (d : Fin 1536) :
    carried p X (t + 1) k d = if h : 1 + k.val < 3 then carried p X t ⟨1 + k.val, h⟩ d else xu p (X t) d := by
  unfold carried
  by_cases h : 1 + k.val < 3
  · rw [dif_pos h]
    simp only [show t + 1 + k.val = t + (1 + k.val) by omega]
  · rw [dif_neg h, if_neg (by omega), show t + 1 + k.val - 3 = t by omega]

/-- The reference's overflow-proof form of the softplus is the plain one. -/
theorem softplus_guarded (v : EReal) :
    (max v 0 + Ideal.log1p (Ideal.exp (-max v (-v)))) = softplus v := by
  unfold softplus Ideal.log1p
  have hb : Ideal.exp ⊥ = 0 := rfl
  have ht : Ideal.exp ⊤ = ⊤ := rfl
  have hl : Ideal.log ⊤ = ⊤ := rfl
  have h1 : Ideal.log 1 = 0 := by
    show (if (1 : ℝ) ≤ 0 then (⊥ : EReal) else ((Real.log 1 : ℝ) : EReal)) = 0
    rw [if_neg (by norm_num), Real.log_one, EReal.coe_zero]
  have h1t : (1 : EReal) + ⊤ = ⊤ := rfl
  induction v using EReal.rec with
  | bot =>
    rw [EReal.neg_bot, max_eq_right bot_le, max_eq_right bot_le, EReal.neg_top, hb, add_zero, h1, add_zero]
  | top =>
    rw [EReal.neg_top, max_eq_left le_top, max_eq_left le_top, EReal.neg_top, hb, ht, add_zero, h1, h1t, hl, add_zero]
  | coe r =>
    have e1 : ∀ a : ℝ, Ideal.log (1 + ((Real.exp a : ℝ) : EReal)) = ((Real.log (1 + Real.exp a) : ℝ) : EReal) := by
      intro a
      have hp : (0 : ℝ) < 1 + Real.exp a := by positivity
      rw [show (1 : EReal) + ((Real.exp a : ℝ) : EReal) = ((1 + Real.exp a : ℝ) : EReal) by push_cast; rfl]
      show (if (1 + Real.exp a : ℝ) ≤ 0 then (⊥ : EReal) else _) = _
      rw [if_neg (not_le.mpr hp)]
    have e2 : Ideal.exp (-max (r : EReal) (-(r : EReal))) = ((Real.exp (-|r|) : ℝ) : EReal) := by
      rw [show (-max (r : EReal) (-(r : EReal))) = ((-|r| : ℝ) : EReal) by
        rw [abs_eq_max_neg, EReal.coe_neg, EReal.coe_strictMono.monotone.map_max, EReal.coe_neg]]
      rfl
    rw [e2, e1, show Ideal.exp (r : EReal) = ((Real.exp r : ℝ) : EReal) from rfl, e1, ← EReal.coe_zero, ← EReal.coe_strictMono.monotone.map_max,
      ← EReal.coe_add]
    congr 1
    rcases le_total 0 r with h | h
    · rw [max_eq_left h, abs_of_nonneg h]
      rw [show (1 : ℝ) + Real.exp r = Real.exp r * (1 + Real.exp (-r)) by
        rw [mul_add, mul_one, ← Real.exp_add, add_neg_cancel, Real.exp_zero, add_comm],
        Real.log_mul (Real.exp_ne_zero _) (by positivity), Real.log_exp]
    · rw [max_eq_right h, abs_of_nonpos h, neg_neg, zero_add]

end Cert.Mamba
-- ==== Proof.V.Stack.lean ====
/-
  The four layers and the final norm as one formula of the argument arrays, and that a row after a layer depends on the
  rows up to it alone.
-/
module

public import proofs.«01_k».proof.Proof.V.Spec
public import Idealize.ShloMosaic.Lib.Pointwise
public import Idealize.ShloMosaic.Lib.Claim

@[expose] public section

noncomputable section

namespace Cert.Mamba

open Idealize.ShloMosaic

theorem carried_congr (p : Par) {X X' : ℕ → Fin 768 → EReal} {t : ℕ} (h : ∀ s, s < t → X s = X' s) : carried p X t = carried p X' t := by
  funext k d
  unfold carried
  split
  · rfl
  · rw [h _ (by omega)]

theorem uAt_congr (p : Par) {X X' : ℕ → Fin 768 → EReal} {t : ℕ} (h : ∀ s, s ≤ t → X s = X' s) : uAt p X t = uAt p X' t := by
  unfold uAt
  rw [h t le_rfl, carried_congr p fun s hs => h s hs.le]

theorem state_congr (p : Par) {X X' : ℕ → Fin 768 → EReal} : ∀ t : ℕ, (∀ s, s < t → X s = X' s) → state p X t = state p X' t
  | 0, _ => rfl
  | t + 1, h => by
    unfold state
    rw [state_congr p t fun s hs => h s (by omega), uAt_congr p fun s hs => h s (by omega)]

/-- A row after a layer depends on the rows up to it alone. -/
theorem layer_congr (p : Par) {X X' : ℕ → Fin 768 → EReal} {t : ℕ} (h : ∀ s, s ≤ t → X s = X' s) : layer p X t = layer p X' t := by
  unfold layer
  rw [h t le_rfl, uAt_congr p h, state_congr p (t + 1) fun s hs => h s (by omega)]

/-- Layer `l`'s parameters, read off the stacked weights. -/
def params (nw : (⟨3, ![4, 1, 768]⟩ : Shape).Idx → EReal) (win : (⟨3, ![4, 3072, 768]⟩ : Shape).Idx → EReal)
    (cw : (⟨3, ![4, 4, 1536]⟩ : Shape).Idx → EReal) (cb : (⟨3, ![4, 1, 1536]⟩ : Shape).Idx → EReal)
    (xp : (⟨3, ![4, 80, 1536]⟩ : Shape).Idx → EReal) (wdt : (⟨3, ![4, 1536, 48]⟩ : Shape).Idx → EReal)
    (dtb : (⟨3, ![4, 1, 1536]⟩ : Shape).Idx → EReal) (al : (⟨3, ![4, 16, 1536]⟩ : Shape).Idx → EReal)
    (d : (⟨3, ![4, 1, 1536]⟩ : Shape).Idx → EReal) (wo : (⟨3, ![4, 768, 1536]⟩ : Shape).Idx → EReal) (l : Fin 4) : Par where
  nw j := nw (ix3 l 0 j)
  win e k := win (ix3 l e k)
  cw k j := cw (ix3 l k j)
  cb j := cb (ix3 l 0 j)
  xp e j := xp (ix3 l e j)
  wdt j r := wdt (ix3 l j r)
  dtb j := dtb (ix3 l 0 j)
  al n j := al (ix3 l n j)
  dd j := d (ix3 l 0 j)
  wo j e := wo (ix3 l j e)

/-- The rows of sequence `b`; none after its 512 tokens. -/
def tokens (x : (⟨2, ![1024, 768]⟩ : Shape).Idx → EReal) (b : Fin 2) (t : ℕ) : Fin 768 → EReal :=
  if h : t < 512 then fun j => x (ix2 ⟨512 * b.val + t, by omega⟩ j) else fun _ => 0

/-- The rows after the first `l` layers. -/
def stack (P : Fin 4 → Par) (X : ℕ → Fin 768 → EReal) : ℕ → ℕ → Fin 768 → EReal
  | 0 => X
  | l + 1 => if h : l < 4 then layer (P ⟨l, h⟩) (stack P X l) else stack P X l

theorem stack_succ (P : Fin 4 → Par) (X : ℕ → Fin 768 → EReal) (l : Fin 4) : stack P X (l.val + 1) = layer (P l) (stack P X l.val) := by
  rw [stack, dif_pos l.isLt]

/-- The result: the rows after all four layers, normed. -/
def result (P : Fin 4 → Par) (x : (⟨2, ![1024, 768]⟩ : Shape).Idx → EReal) (nf : (⟨1, ![768]⟩ : Shape).Idx → EReal)
    (j : (⟨2, ![1024, 768]⟩ : Shape).Idx) : EReal :=
  rms (fun k => nf (ix1 k)) (stack P (tokens x ⟨(j 0).val / 512, Nat.div_lt_of_lt_mul (j 0).isLt⟩) 4 ((j 0).val % 512)) (j 1)

/-- Logit `(r, v)`: the inner product of row `r` of the normed rows with row `v` of the embedding table. -/
def logits (h : (⟨2, ![1024, 768]⟩ : Shape).Idx → EReal) (e : (⟨2, ![32000, 768]⟩ : Shape).Idx → EReal)
    (j : (⟨2, ![1024, 32000]⟩ : Shape).Idx) : EReal :=
  ∑ k : Fin 768, h (ix2 (j 0) k) * e (ix2 (j 1) k)

end Cert.Mamba
-- ==== Proof.V.HeadAlone.lean ====
/-
  The head call alone (`lm_head`), on any rows: what its result array holds after the run, as one formula of the two argument
  arrays, and that the reference's product is the same formula.
-/
module

public import proofs.«01_k».proof.Defs
public import proofs.«01_k».proof.Proof.V.Stack
public import proofs.«01_k».proof.Proof.Gen.HeadIdeal.Value
public import proofs.«01_k».proof.Proof.Gen.HeadRefIdeal.Run
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem

namespace Cert.HeadIdeal.Val

open Cert.HeadIdeal Cert.HeadIdeal.Gen

variable (m : (ℓ : Loc nD τ sig) → Buf (Elt Ideal) ℓ)

/-- Where each window's block sits at grid point `t`: the hidden states whole, the table and the result at tile `t`. -/
theorem idx (t : Fin cfg0.N) : win0_0.index t = ![0, 0] ∧ win0_1.index t = ![t.val, 0] ∧ win0_2.index t = ![0, t.val] :=
  (by decide +kernel : ∀ t : Fin grid0.N, win0_0.index t = ![0, 0] ∧ win0_1.index t = ![t.val, 0] ∧ win0_2.index t = ![0, t.val]) t

/-- After the run the result array holds the logits. -/
theorem final (c : Dev nD) : (dats m 0 c).arrAt 2 cfg0.N
    = Mamba.logits (m ((c : Thread nD τ).loc main_arg0)) (m ((c : Thread nD τ).loc main_arg1)) := by
  refine (dats m 0 c).arrAt_eq_of_covers 2 _ (by decide +kernel) fun t hf y => ?_
  blk_simp
  rw [after0_2]
  frame_out
  idx_vars y
  unfold_payloads
  unfold Mamba.logits
  pointwise []
  blk_point [iblk, V, idx t]

/-- The two programs end with the same logits. -/
theorem algebraic : Cert.algebraic_HeadIdeal_HeadRefIdeal := by
  pair_intro
  · run_from Cert.HeadIdeal.Value.run_blocks m g
  · run_from Cert.HeadRefIdeal.Value.run m' g'
    refine Eq.trans ?_ (final m c).symm
    funext j
    idx_vars j
    unfold Mamba.logits
    pointwise []

end Cert.HeadIdeal.Val
-- ==== Proof.PI.Steps.lean ====
/-
  What the layers kernel computes at one grid point, as functions of the arrays it reads: the selective scan of one
  block of eight time steps (for each of the two sequences), the state carried from block to block, the gated output
  rows, and the whole layer's update of the residual stream. Everything here is a composition of the program's own
  straight-line pieces; nothing is said yet about their values.
-/
module

public import proofs.«01_k».proof.Proof.Gen.ModelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.Gen.ModelIdeal.Points
public import proofs.«01_k».proof.Proof.Gen.ModelIdeal.Skeleton

@[expose] public section

set_option maxRecDepth 16384

noncomputable section

namespace Cert.ModelIdeal.Run

open Cert.ModelIdeal Cert.ModelIdeal.Gen
open Idealize.ShloMosaic Idealize.ShloMosaic.TcCoe Idealize.ShloMosaic.Tactic

variable {F : FTy → Type} [FloatOps F] [Named F]

/-- The eight rows of block `k` of the first sequence, and of the second. -/
abbrev rA (k : Fin k0_t1_loop.trips) : Rect S128x8x1536 := Rect.unit (s := S128x8x1536) (k0_off1 k 0#32) S1x8x1536.size (k0_off1_inb k 0)
abbrev rB (k : Fin k0_t1_loop.trips) : Rect S128x8x1536 := Rect.unit (s := S128x8x1536) (k0_off1 k 64#32) S1x8x1536.size (k0_off1_inb k 1)

/-- The eight columns (one per time step) of block `k`, likewise. -/
abbrev cA (k : Fin k0_t1_loop.trips) : Rect S128x16x8 := Rect.unit (s := S128x16x8) (k0_off2 k 0#32) S1x16x8.size (k0_off2_inb k 0)
abbrev cB (k : Fin k0_t1_loop.trips) : Rect S128x16x8 := Rect.unit (s := S128x16x8) (k0_off2 k 64#32) S1x16x8.size (k0_off2_inb k 1)

/-- The state after the steps 0 to 2 of a block of the first sequence, from the state `h` before it. -/
def hA2 (a h : FVec F S16x1536 .f32) (dt u : Vec F S1x8x1536 .f32) (b : Vec F S1x16x8 .f32) : FVec F S16x1536 .f32 :=
  k0_pay20 a (k0_pay8 dt) (k0_pay9 u) (k0_pay10 b) (k0_pay12 a h dt u b) (k0_pay15 dt) (k0_pay16 dt u) (k0_pay17 b)

/-- The state after the steps 0 to 5. -/
def hA5 (a h : FVec F S16x1536 .f32) (dt u : Vec F S1x8x1536 .f32) (b : Vec F S1x16x8 .f32) : FVec F S16x1536 .f32 :=
  k0_pay31 a (k0_pay8 dt) (k0_pay9 u) (k0_pay10 b) (hA2 a h dt u b) (k0_pay23 (k0_pay8 dt) (k0_pay9 u)) (k0_pay24 (k0_pay10 b))
    (k0_pay26 a (k0_pay8 dt))

/-- The state after the block. -/
def hA (a h : FVec F S16x1536 .f32) (dt u : Vec F S1x8x1536 .f32) (b : Vec F S1x16x8 .f32) : FVec F S16x1536 .f32 :=
  k0_pay35 a (k0_pay8 dt) (k0_pay9 u) (k0_pay10 b) (hA5 a h dt u b) (k0_pay33 (k0_pay8 dt))

/-- The block's eight gated output rows. -/
def yA (a : FVec F S16x1536 .f32) (d : Vec F S1x1x1536 .f32) (h : FVec F S16x1536 .f32) (dt u : Vec F S1x8x1536 .f32)
    (b cc : Vec F S1x16x8 .f32) (zs : Vec F S1x8x1536 .bf16) : FVec F S1x8x1536 .bf16 :=
  k0_pay38
    (k0_pay36 a (k0_pay2 d) (k0_pay8 dt) (k0_pay9 u) (k0_pay10 b) (k0_pay11 cc)
      (k0_pay13 a h dt u b cc)
      (k0_pay19 a (k0_pay11 cc) (k0_pay12 a h dt u b) (k0_pay15 dt) (k0_pay16 dt u) (k0_pay17 b))
      (k0_pay21 a (k0_pay8 dt) (k0_pay9 u) (k0_pay10 b) (k0_pay11 cc) (k0_pay12 a h dt u b) (k0_pay15 dt) (k0_pay16 dt u) (k0_pay17 b))
      (k0_pay28 (hA2 a h dt u b) (k0_pay23 (k0_pay8 dt) (k0_pay9 u)) (k0_pay24 (k0_pay10 b)) (k0_pay25 (k0_pay11 cc)) (k0_pay26 a (k0_pay8 dt)))
      (k0_pay30 a (k0_pay8 dt) (k0_pay9 u) (k0_pay10 b) (k0_pay11 cc) (hA2 a h dt u b) (k0_pay23 (k0_pay8 dt) (k0_pay9 u)) (k0_pay24 (k0_pay10 b)) (k0_pay26 a (k0_pay8 dt)))
      (hA5 a h dt u b)
      (k0_pay32 a (k0_pay8 dt) (k0_pay9 u) (k0_pay10 b) (k0_pay11 cc) (hA2 a h dt u b) (k0_pay23 (k0_pay8 dt) (k0_pay9 u)) (k0_pay24 (k0_pay10 b)) (k0_pay26 a (k0_pay8 dt)))
      (k0_pay33 (k0_pay8 dt)))
    (k0_pay37 zs)

/-- The state after step 0 of a block of the second sequence, -/
def hB0 (a h : FVec F S16x1536 .f32) (dt u : Vec F S1x8x1536 .f32) (b : Vec F S1x16x8 .f32) : FVec F S16x1536 .f32 := k0_pay43 a h dt u b

/-- after the steps 0 to 2, -/
def hB2 (a h : FVec F S16x1536 .f32) (dt u : Vec F S1x8x1536 .f32) (b : Vec F S1x16x8 .f32) : FVec F S16x1536 .f32 :=
  k0_pay49 a (k0_pay39 dt) (k0_pay40 u) (k0_pay41 b) (hB0 a h dt u b) (k0_pay45 dt) (k0_pay46 dt)

/-- after the steps 0 to 4, -/
def hB4 (a h : FVec F S16x1536 .f32) (dt u : Vec F S1x8x1536 .f32) (b : Vec F S1x16x8 .f32) : FVec F S16x1536 .f32 :=
  k0_pay57 a (k0_pay39 dt) (k0_pay40 u) (k0_pay41 b) (hB2 a h dt u b) (k0_pay52 (k0_pay39 dt)) (k0_pay53 (k0_pay39 dt) (k0_pay40 u)) (k0_pay54 (k0_pay41 b))

/-- after the block. -/
def hB (a h : FVec F S16x1536 .f32) (dt u : Vec F S1x8x1536 .f32) (b : Vec F S1x16x8 .f32) : FVec F S16x1536 .f32 :=
  k0_pay68 a (k0_pay39 dt) (k0_pay40 u) (k0_pay41 b) (hB4 a h dt u b) (k0_pay60 (k0_pay39 dt) (k0_pay40 u)) (k0_pay61 (k0_pay41 b)) (k0_pay63 a (k0_pay39 dt))

/-- The block's eight gated output rows. -/
def yB (a : FVec F S16x1536 .f32) (d : Vec F S1x1x1536 .f32) (h : FVec F S16x1536 .f32) (dt u : Vec F S1x8x1536 .f32)
    (b cc : Vec F S1x16x8 .f32) (zs : Vec F S1x8x1536 .bf16) : FVec F S1x8x1536 .bf16 :=
  k0_pay4 d (k0_pay40 u)
    (k0_pay44 a h dt u b cc)
    (k0_pay48 a (k0_pay40 u) (k0_pay41 b) (k0_pay42 cc) (hB0 a h dt u b) (k0_pay45 dt) (k0_pay46 dt))
    (k0_pay50 a (k0_pay39 dt) (k0_pay40 u) (k0_pay41 b) (k0_pay42 cc) (hB0 a h dt u b) (k0_pay45 dt) (k0_pay46 dt))
    (k0_pay56 a (k0_pay42 cc) (hB2 a h dt u b) (k0_pay52 (k0_pay39 dt)) (k0_pay53 (k0_pay39 dt) (k0_pay40 u)) (k0_pay54 (k0_pay41 b)))
    (k0_pay58 a (k0_pay39 dt) (k0_pay40 u) (k0_pay41 b) (k0_pay42 cc) (hB2 a h dt u b) (k0_pay52 (k0_pay39 dt)) (k0_pay53 (k0_pay39 dt) (k0_pay40 u)) (k0_pay54 (k0_pay41 b)))
    (k0_pay65 (hB4 a h dt u b) (k0_pay60 (k0_pay39 dt) (k0_pay40 u)) (k0_pay61 (k0_pay41 b)) (k0_pay62 (k0_pay42 cc)) (k0_pay63 a (k0_pay39 dt)))
    (k0_pay67 a (k0_pay39 dt) (k0_pay40 u) (k0_pay41 b) (k0_pay42 cc) (hB4 a h dt u b) (k0_pay60 (k0_pay39 dt) (k0_pay40 u)) (k0_pay61 (k0_pay41 b)) (k0_pay63 a (k0_pay39 dt)))
    (k0_pay69 a (k0_pay39 dt) (k0_pay40 u) (k0_pay41 b) (k0_pay42 cc) (hB4 a h dt u b) (k0_pay60 (k0_pay39 dt) (k0_pay40 u)) (k0_pay61 (k0_pay41 b)) (k0_pay63 a (k0_pay39 dt)))
    zs

/-- The two sequences' states before block `k`: both zero before block 0. -/
def states (a : FVec F S16x1536 .f32) (dt u : S128x8x1536.Idx → F .f32) (b : S128x16x8.Idx → F .f32) :
    ℕ → FVec F S16x1536 .f32 × FVec F S16x1536 .f32
  | 0 => (k0_pay3, k0_pay3)
  | k + 1 =>
    if h : k < k0_t1_loop.trips then
      (hA a (states a dt u b k).1 (View.ld dt (rA ⟨k, h⟩)) (View.ld u (rA ⟨k, h⟩)) (View.ld b (cA ⟨k, h⟩)),
       hB a (states a dt u b k).2 (View.ld dt (rB ⟨k, h⟩)) (View.ld u (rB ⟨k, h⟩)) (View.ld b (cB ⟨k, h⟩)))
    else states a dt u b k

/-- The gated rows of block `k` of the first sequence, and of the second. -/
def rowsA (a : FVec F S16x1536 .f32) (d : Vec F S1x1x1536 .f32) (dt u : S128x8x1536.Idx → F .f32) (b cc : S128x16x8.Idx → F .f32)
    (zs : S128x8x1536.Idx → F .bf16) (k : Fin k0_t1_loop.trips) : FVec F S1x8x1536 .bf16 :=
  yA a d (states a dt u b k).1 (View.ld dt (rA k)) (View.ld u (rA k)) (View.ld b (cA k)) (View.ld cc (cA k)) (View.ld zs (rA k))
def rowsB (a : FVec F S16x1536 .f32) (d : Vec F S1x1x1536 .f32) (dt u : S128x8x1536.Idx → F .f32) (b cc : S128x16x8.Idx → F .f32)
    (zs : S128x8x1536.Idx → F .bf16) (k : Fin k0_t1_loop.trips) : FVec F S1x8x1536 .bf16 :=
  yB a d (states a dt u b k).2 (View.ld dt (rB k)) (View.ld u (rB k)) (View.ld b (cB k)) (View.ld cc (cB k)) (View.ld zs (rB k))

theorem trips_eq : k0_t1_loop.trips = 64 := by decide +kernel

/-- All the gated rows: block `k` of the first sequence stands at `k`, of the second at `64 + k`. -/
def gated (a : FVec F S16x1536 .f32) (d : Vec F S1x1x1536 .f32) (dt u : S128x8x1536.Idx → F .f32) (b cc : S128x16x8.Idx → F .f32)
    (zs : S128x8x1536.Idx → F .bf16) : S128x8x1536.Idx → F .bf16 := fun p =>
  let k : Fin k0_t1_loop.trips := ⟨(p 0).val % 64, by rw [trips_eq]; exact Nat.mod_lt _ (by decide)⟩
  let q : S1x8x1536.Idx := Fin.cons ⟨0, by decide⟩ (Fin.cons (p 1) (Fin.cons (p 2) (fun a => a.elim0)))
  if (p 0).val < 64 then rowsA a d dt u b cc zs k q else rowsB a d dt u b cc zs k q

/-- The sixteen rows of a projection of 1024 columns cut into 128 blocks of eight columns. -/
def blocks8 (M : S16x1024.Idx → F .f32) : S128x16x8.Idx → F .f32 := fun p =>
  M (Fin.cons (p 1) (Fin.cons ⟨8 * (p 0).val + (p 2).val, by
    have h0 : (p 0).val < 128 := (p 0).isLt
    have h2 : (p 2).val < 8 := (p 2).isLt
    show _ < 1024
    omega⟩ (fun a => a.elim0)))

/-! ### The layer before its scan -/

/-- The loads the body makes of its weights' blocks. -/
abbrev winU (w : Vec F S1x3072x768 .bf16) : Vec F S1x1536x768 .bf16 :=
  View.ld w (Rect.unit (s := S1x3072x768) ![0, 0, 0] S1x1536x768.size inb_S1x3072x768_S1x1536x768_0_0_0)
abbrev winZ (w : Vec F S1x3072x768 .bf16) : Vec F S1x1536x768 .bf16 :=
  View.ld w (Rect.unit (s := S1x3072x768) ![0, 1536, 0] S1x1536x768.size inb_S1x3072x768_S1x1536x768_0_1536_0)
abbrev tap0 (w : Vec F S1x4x1536 .f32) : Vec F S1x1x1536 .f32 :=
  View.ld w (Rect.unit (s := S1x4x1536) ![0, 0, 0] S1x1x1536.size inb_S1x4x1536_S1x1x1536_0_0_0)
abbrev tap1 (w : Vec F S1x4x1536 .f32) : Vec F S1x1x1536 .f32 :=
  View.ld w (Rect.unit (s := S1x4x1536) ![0, 1, 0] S1x1x1536.size inb_S1x4x1536_S1x1x1536_0_1_0)
abbrev tap2 (w : Vec F S1x4x1536 .f32) : Vec F S1x1x1536 .f32 :=
  View.ld w (Rect.unit (s := S1x4x1536) ![0, 2, 0] S1x1x1536.size inb_S1x4x1536_S1x1x1536_0_2_0)
abbrev tap3 (w : Vec F S1x4x1536 .f32) : Vec F S1x1x1536 .f32 :=
  View.ld w (Rect.unit (s := S1x4x1536) ![0, 3, 0] S1x1x1536.size inb_S1x4x1536_S1x1x1536_0_3_0)
abbrev xpDt (w : Vec F S1x80x1536 .bf16) : Vec F S1x48x1536 .bf16 :=
  View.ld w (Rect.unit (s := S1x80x1536) ![0, 0, 0] S1x48x1536.size inb_S1x80x1536_S1x48x1536_0_0_0)
abbrev xpB (w : Vec F S1x80x1536 .bf16) : Vec F S1x16x1536 .bf16 :=
  View.ld w (Rect.unit (s := S1x80x1536) ![0, 48, 0] S1x16x1536.size inb_S1x80x1536_S1x16x1536_0_48_0)
abbrev xpC (w : Vec F S1x80x1536 .bf16) : Vec F S1x16x1536 .bf16 :=
  View.ld w (Rect.unit (s := S1x80x1536) ![0, 64, 0] S1x16x1536.size inb_S1x80x1536_S1x16x1536_0_64_0)

/-- The causal convolution of the input projection, before its bias. -/
def conv (x : Vec F S1024x768 .f32) (nw : Vec F S1x1x768 .f32) (win : Vec F S1x3072x768 .bf16) (cw : Vec F S1x4x1536 .f32) :
    FVec F S1024x1536 .f32 :=
  k0_pay77 (k0_pay72 x nw (winU win)) k0_pay74 (k0_pay75 x nw (winU win) (tap3 cw)) (k0_pay76 x nw (winU win)) (tap2 cw) (tap1 cw) (tap0 cw)

/-- The scan's input `u`, the gate's factor, the step widths, and the two projections `B` and `C` in blocks of eight. -/
def vU (x : Vec F S1024x768 .f32) (nw : Vec F S1x1x768 .f32) (win : Vec F S1x3072x768 .bf16) (cw : Vec F S1x4x1536 .f32)
    (cb : Vec F S1x1x1536 .f32) : S128x8x1536.Idx → F .f32 := k0_pay79 (conv x nw win cw) cb
def vZ (x : Vec F S1024x768 .f32) (nw : Vec F S1x1x768 .f32) (win : Vec F S1x3072x768 .bf16) : S128x8x1536.Idx → F .bf16 :=
  k0_pay80 (k0_pay73 x nw (winZ win))
def vDt (x : Vec F S1024x768 .f32) (nw : Vec F S1x1x768 .f32) (win : Vec F S1x3072x768 .bf16) (cw : Vec F S1x4x1536 .f32)
    (cb : Vec F S1x1x1536 .f32) (xp : Vec F S1x80x1536 .bf16) (wdt : Vec F S1x1536x48 .bf16) (dtb : Vec F S1x1x1536 .f32) :
    S128x8x1536.Idx → F .f32 := k0_pay85 (k0_pay84 (conv x nw win cw) cb (xpDt xp)) wdt dtb
def vB (x : Vec F S1024x768 .f32) (nw : Vec F S1x1x768 .f32) (win : Vec F S1x3072x768 .bf16) (cw : Vec F S1x4x1536 .f32)
    (cb : Vec F S1x1x1536 .f32) (xp : Vec F S1x80x1536 .bf16) : S128x16x8.Idx → F .f32 := blocks8 (k0_pay82 (conv x nw win cw) cb (xpB xp))
def vC (x : Vec F S1024x768 .f32) (nw : Vec F S1x1x768 .f32) (win : Vec F S1x3072x768 .bf16) (cw : Vec F S1x4x1536 .f32)
    (cb : Vec F S1x1x1536 .f32) (xp : Vec F S1x80x1536 .bf16) : S128x16x8.Idx → F .f32 := blocks8 (k0_pay83 (conv x nw win cw) cb (xpC xp))

/-- The constant the body scales the decay rates by. -/
def rate : F .f32 := Named.named κ "neg_log2_e" 0xBFB8AA3B#32

/-- The gated rows of the whole layer. -/
def vY (x : Vec F S1024x768 .f32) (nw : Vec F S1x1x768 .f32) (win : Vec F S1x3072x768 .bf16) (cw : Vec F S1x4x1536 .f32)
    (cb : Vec F S1x1x1536 .f32) (xp : Vec F S1x80x1536 .bf16) (wdt : Vec F S1x1536x48 .bf16) (dtb : Vec F S1x1x1536 .f32)
    (al : Vec F S1x16x1536 .f32) (d : Vec F S1x1x1536 .f32) : S128x8x1536.Idx → F .bf16 :=
  gated (k0_pay1 (k0_pay342 al) rate) d (vDt x nw win cw cb xp wdt dtb) (vU x nw win cw cb) (vB x nw win cw cb xp) (vC x nw win cw cb xp)
    (vZ x nw win)

end Cert.ModelIdeal.Run
-- ==== Proof.PI.Trip.lean ====
/-
  One trip of the scan's loop: holding the arrays it reads at any contents, it yields the two sequences' next states and
  writes the two blocks of gated rows (`trip`). The loop by its invariant (`scan`): before trip `k` the carried states
  are `states … k` and every gated row of a block before `k` stands in the output scratch.
-/
module

public import proofs.«01_k».proof.Proof.PI.Steps
public import Idealize.ShloMosaic.Lib.Exec
public import Idealize.ShloMosaic.Lib.WritesUnit
public import Idealize.ShloMosaic.Lib.VecWindow
public import Idealize.ShloMosaic.Lib.Pipeline.Kit

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- No body of the program calls itself: the empty variants. -/
abbrev 𝒱₀ : Variants := Variants.none

local notation "𝕄" => MT nD τ sig Unit (Elt F) ℕ (UR sig nD τ) ℕ

variable (c : Dev nD) (i : grid0.Coords)
  (arg1 : Memref sig .tc .vmem S1024x768 .f32) (harg1 : arg1.IsWhole)
  (arg2 : Memref sig .tc .vmem S1x1x768 .f32) (harg2 : arg2.IsWhole)
  (arg3 : Memref sig .tc .vmem S1x3072x768 .bf16) (harg3 : arg3.IsWhole)
  (arg4 : Memref sig .tc .vmem S1x4x1536 .f32) (harg4 : arg4.IsWhole)
  (arg5 : Memref sig .tc .vmem S1x1x1536 .f32) (harg5 : arg5.IsWhole)
  (arg6 : Memref sig .tc .vmem S1x80x1536 .bf16) (harg6 : arg6.IsWhole)
  (arg7 : Memref sig .tc .vmem S1x1536x48 .bf16) (harg7 : arg7.IsWhole)
  (arg8 : Memref sig .tc .vmem S1x1x1536 .f32) (harg8 : arg8.IsWhole)
  (arg9 : Memref sig .tc .vmem S1x16x1536 .f32) (harg9 : arg9.IsWhole)
  (arg10 : Memref sig .tc .vmem S1x1x1536 .f32) (harg10 : arg10.IsWhole)
  (arg11 : Memref sig .tc .vmem S1x768x1536 .bf16) (harg11 : arg11.IsWhole)
  (arg12 : Memref sig .tc .vmem S1x1x768 .f32) (harg12 : arg12.IsWhole)
  (arg13 : Memref sig .tc .vmem S1024x768 .bf16) (harg13 : arg13.IsWhole)
  (arg14 : Memref sig .tc .vmem S1024x768 .f32) (harg14 : arg14.IsWhole)
  (arg15 : Memref sig .tc .vmem S128x8x1536 .f32) (harg15 : arg15.IsWhole)
  (arg16 : Memref sig .tc .vmem S128x8x1536 .bf16) (harg16 : arg16.IsWhole)
  (arg17 : Memref sig .tc .vmem S128x8x1536 .f32) (harg17 : arg17.IsWhole)
  (arg18 : Memref sig .tc .vmem S128x8x1536 .bf16) (harg18 : arg18.IsWhole)
  (arg19 : Memref sig .tc .vmem S16x1024 .f32) (harg19 : arg19.IsWhole)
  (arg20 : Memref sig .tc .vmem S16x1024 .f32) (harg20 : arg20.IsWhole)
  (arg21 : Memref sig .tc .vmem S128x16x8 .f32) (harg21 : arg21.IsWhole)
  (arg22 : Memref sig .tc .vmem S128x16x8 .f32) (harg22 : arg22.IsWhole)

set_option maxHeartbeats 4000000 in
theorem trip (E : Set ℕ) (v1150 : FVec F S16x1536 .f32) (cst : F .f32) (d : Vec F S1x1x1536 .f32)
    (f15 : BufTy.Contents (Elt F) arg15.view.ty) (f16 : BufTy.Contents (Elt F) arg16.view.ty) (f17 : BufTy.Contents (Elt F) arg17.view.ty) (f21 : BufTy.Contents (Elt F) arg21.view.ty) (f22 : BufTy.Contents (Elt F) arg22.view.ty)
    (k : Fin k0_t1_loop.trips) (acc : FVec F S16x1536 .f32 × FVec F S16x1536 .f32) (f18 : BufTy.Contents (Elt F) arg18.view.ty) :
  (iprop((arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg21.view.loc (c : Thread nD τ) ↦[arg21.view.set]{fullShare} f21) ∗ (arg22.view.loc (c : Thread nD τ) ↦[arg22.view.set]{fullShare} f22) ∗ (arg18.view.loc (c : Thread nD τ) ↦[arg18.view.set]{fullShare} f18)) : sProp 𝕄)
  ⊢ wp frame (wpE (defs₀ (F := F)) 𝒱₀ (c : Thread nD τ) none) E
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1150 cst d k acc)
      (fun yld => iprop(⌜yld =
          (hA (k0_pay1 v1150 cst) acc.1 (View.ld (arg17.view.read (Elt F) f17) (rA k)) (View.ld (arg15.view.read (Elt F) f15) (rA k)) (View.ld (arg21.view.read (Elt F) f21) (cA k)),
           hB (k0_pay1 v1150 cst) acc.2 (View.ld (arg17.view.read (Elt F) f17) (rB k)) (View.ld (arg15.view.read (Elt F) f15) (rB k)) (View.ld (arg21.view.read (Elt F) f21) (cB k)))⌝
        ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg21.view.loc (c : Thread nD τ) ↦[arg21.view.set]{fullShare} f21) ∗ (arg22.view.loc (c : Thread nD τ) ↦[arg22.view.set]{fullShare} f22)
        ∗ (arg18.view.loc (c : Thread nD τ) ↦[arg18.view.set]{fullShare} (arg18.view.writes (Elt F) f18
            [⟨rB k, yB (k0_pay1 v1150 cst) d acc.2 (View.ld (arg17.view.read (Elt F) f17) (rB k)) (View.ld (arg15.view.read (Elt F) f15) (rB k)) (View.ld (arg21.view.read (Elt F) f21) (cB k)) (View.ld (arg22.view.read (Elt F) f22) (cB k)) (View.ld (arg16.view.read (Elt F) f16) (rB k))⟩,
             ⟨rA k, yA (k0_pay1 v1150 cst) d acc.1 (View.ld (arg17.view.read (Elt F) f17) (rA k)) (View.ld (arg15.view.read (Elt F) f15) (rA k)) (View.ld (arg21.view.read (Elt F) f21) (cA k)) (View.ld (arg22.view.read (Elt F) f22) (cA k)) (View.ld (arg16.view.read (Elt F) f16) (rA k))⟩])))) := by
  have hk : k.val < 64 := Nat.lt_of_lt_of_le k.isLt k0_t1_abs.2.1
  unfold k0_t1_body
  iintro ⟨H15, H16, H17, H21, H22, H18⟩
  sl_exec
  sl_step
  sl_close

/-- The block's position in the carried array. -/
theorem offA (k : Fin k0_t1_loop.trips) : k0_off1 k 0#32 = ![k.val, 0, 0] := (k0_off1_eq k 0).trans (by simp)
theorem offB (k : Fin k0_t1_loop.trips) : k0_off1 k 64#32 = ![64 + k.val, 0, 0] := (k0_off1_eq k 1).trans (by simp)

/-- The place of an entry inside its block of eight rows. -/
abbrev inBlock (p : S128x8x1536.Idx) : S1x8x1536.Idx := Fin.cons ⟨0, by decide⟩ (Fin.cons (p 1) (Fin.cons (p 2) (fun a => a.elim0)))

/-- Writing the two blocks of trip `k` over an array that holds the gated rows of the blocks before `k` leaves the
    gated rows of the blocks up to `k`. -/
theorem rows_step (a : FVec F S16x1536 .f32) (d : Vec F S1x1x1536 .f32) (dt u : S128x8x1536.Idx → F .f32) (b cc : S128x16x8.Idx → F .f32)
    (zs : S128x8x1536.Idx → F .bf16) (arg18 : Memref sig .tc .vmem S128x8x1536 .bf16) (k : Fin k0_t1_loop.trips)
    (f : BufTy.Contents (Elt F) arg18.view.ty)
    (hf : ∀ p : S128x8x1536.Idx, (p 0).val % 64 < k.val → arg18.view.read (Elt F) f p = gated a d dt u b cc zs p)
    (p : S128x8x1536.Idx) (hp : (p 0).val % 64 < k.val + 1) :
    arg18.view.read (Elt F) (arg18.view.writes (Elt F) f [⟨rB k, rowsB a d dt u b cc zs k⟩, ⟨rA k, rowsA a d dt u b cc zs k⟩]) p
      = gated a d dt u b cc zs p := by
  have hk : k.val < 64 := Nat.lt_of_lt_of_le k.isLt k0_t1_abs.2.1
  have h0 : (p 0).val < 128 := (p 0).isLt
  by_cases hB : (p 0).val = 64 + k.val
  · have hkk : (⟨(p 0).val % 64, by rw [trips_eq]; exact Nat.mod_lt _ (by decide)⟩ : Fin k0_t1_loop.trips) = k := Fin.ext (by
      show (p 0).val % 64 = k.val
      omega)
    refine (View.read_writes_cons_unit_of_mem _ f _ _ _ p (inBlock p) (offB k) fun x => ?_).trans ?_
    · fin_cases x
      · show (p 0).val = 64 + k.val + 0
        omega
      · show (p 1).val = 0 + (p 1).val
        omega
      · show (p 2).val = 0 + (p 2).val
        omega
    · unfold gated
      simp only [hkk]
      rw [if_neg (by omega)]
  · rw [View.read_writes_cons_unit_of_not_mem _ f _ _ _ p (offB k) 0 (by
      show (p 0).val < 64 + k.val ∨ 64 + k.val + 1 ≤ (p 0).val
      omega)]
    by_cases hA : (p 0).val = k.val
    · have hkk : (⟨(p 0).val % 64, by rw [trips_eq]; exact Nat.mod_lt _ (by decide)⟩ : Fin k0_t1_loop.trips) = k := Fin.ext (by
        show (p 0).val % 64 = k.val
        omega)
      refine (View.read_writes_cons_unit_of_mem _ f _ _ _ p (inBlock p) (offA k) fun x => ?_).trans ?_
      · fin_cases x
        · show (p 0).val = k.val + 0
          omega
        · show (p 1).val = 0 + (p 1).val
          omega
        · show (p 2).val = 0 + (p 2).val
          omega
      · unfold gated
        simp only [hkk]
        rw [if_pos (by omega)]
    · rw [View.read_writes_cons_unit_of_not_mem _ f _ _ _ p (offA k) 0 (by
        show (p 0).val < k.val ∨ k.val + 1 ≤ (p 0).val
        omega)]
      rw [View.writes_nil]
      exact hf p (by omega)

/-- The states step by a trip while trips remain. -/
theorem states_succ (a : FVec F S16x1536 .f32) (dt u : S128x8x1536.Idx → F .f32) (b : S128x16x8.Idx → F .f32) (k : Fin k0_t1_loop.trips) :
    states a dt u b (k.val + 1)
      = (hA a (states a dt u b k).1 (View.ld dt (rA k)) (View.ld u (rA k)) (View.ld b (cA k)),
         hB a (states a dt u b k).2 (View.ld dt (rB k)) (View.ld u (rB k)) (View.ld b (cB k))) := by
  rw [states, dif_pos k.isLt]

/-- Before trip 0 the states are zero. -/
theorem states_zero (a : FVec F S16x1536 .f32) (dt u : S128x8x1536.Idx → F .f32) (b : S128x16x8.Idx → F .f32) :
    states a dt u b 0 = (k0_pay3, k0_pay3) := rfl

/-- The loop by its invariant. -/
@[reducible] def scan (E : Set ℕ) (v1150 : FVec F S16x1536 .f32) (cst : F .f32) (d : Vec F S1x1x1536 .f32)
    (f15 : BufTy.Contents (Elt F) arg15.view.ty) (f16 : BufTy.Contents (Elt F) arg16.view.ty) (f17 : BufTy.Contents (Elt F) arg17.view.ty) (f21 : BufTy.Contents (Elt F) arg21.view.ty) (f22 : BufTy.Contents (Elt F) arg22.view.ty) :
    Idealize.ShloMosaic.LoopInv (M := 𝕄) Idealize.ShloMosaic.frame (wpE (defs₀ (F := F)) 𝒱₀ (c : Thread nD τ) none) E
      k0_t1_loop.lb k0_t1_loop.ub k0_t1_loop.st k0_t1_ok (k0_pay3 (F := F), k0_pay3 (F := F))
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1150 cst d) where
  inv k acc := iprop((arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg21.view.loc (c : Thread nD τ) ↦[arg21.view.set]{fullShare} f21) ∗ (arg22.view.loc (c : Thread nD τ) ↦[arg22.view.set]{fullShare} f22)
    ∗ (∃ f, (arg18.view.loc (c : Thread nD τ) ↦[arg18.view.set]{fullShare} f) ∗ ⌜∀ p : S128x8x1536.Idx, (p 0).val % 64 < k → arg18.view.read (Elt F) f p
        = gated (k0_pay1 v1150 cst) d (arg17.view.read (Elt F) f17) (arg15.view.read (Elt F) f15) (arg21.view.read (Elt F) f21)
            (arg22.view.read (Elt F) f22) (arg16.view.read (Elt F) f16) p⌝)
    ∗ ⌜acc = states (k0_pay1 v1150 cst) (arg17.view.read (Elt F) f17) (arg15.view.read (Elt F) f15) (arg21.view.read (Elt F) f21) k⌝)
  step k acc := by
    iintro ⟨H15, H16, H17, H21, H22, ⟨%f, H18, %hf⟩, %hacc⟩
    subst hacc
    iapply (wp_wand_r Idealize.ShloMosaic.frame (wpE (defs₀ (F := F)) 𝒱₀ (c : Thread nD τ) none) E)
    isplitl [H15 H16 H17 H21 H22 H18]
    · iapply (trip (F := F) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 E v1150 cst d f15 f16 f17 f21 f22 k _ f)
      isplitl [H15]; · iexact H15
      isplitl [H16]; · iexact H16
      isplitl [H17]; · iexact H17
      isplitl [H21]; · iexact H21
      isplitl [H22]; · iexact H22
      iexact H18
    · iintro %yld ⟨%hy, H15, H16, H17, H21, H22, H18⟩
      isplitl [H15]; · iexact H15
      isplitl [H16]; · iexact H16
      isplitl [H17]; · iexact H17
      isplitl [H21]; · iexact H21
      isplitl [H22]; · iexact H22
      isplitl [H18]
      · iexists _
        isplitl [H18]; · iexact H18
        ipureintro
        exact rows_step _ _ _ _ _ _ _ arg18 k f hf
      · ipureintro
        rw [hy, states_succ]

end Cert.ModelIdeal.Run
-- ==== Proof.PI.Blocks.lean ====
/-
  The body copies the two 16 × 1024 projections, eight columns at a time, into arrays of 128 blocks. One copy takes an
  array whose first `n` blocks are right to one whose first `n + 1` are.
-/
module

public import proofs.«01_k».proof.Proof.PI.Steps
public import Idealize.ShloMosaic.Lib.WritesUnit
public import Idealize.ShloMosaic.Lib.VecWindow
public import Idealize.ShloMosaic.Lib.Exec
public import Idealize.ShloMosaic.Lib.Pipeline.Value

@[expose] public section

set_option maxRecDepth 16384

noncomputable section

namespace Cert.ModelIdeal.Run

open Cert.ModelIdeal Cert.ModelIdeal.Gen
open Idealize.ShloMosaic Idealize.ShloMosaic.TcCoe

variable {F : FTy → Type} [FloatOps F] [Named F]

/-- The first `n` blocks of what the writes `L` left are those of `M`. -/
def BlocksTo (v : View sig .tc .vmem S128x16x8 .f32) (f : v.ty.Contents (Elt F)) (M : S16x1024.Idx → F .f32)
    (L : List (View.Piece (Elt F) S128x16x8 .f32)) (n : ℕ) : Prop :=
  ∀ p : S128x16x8.Idx, (p 0).val < n → v.read (Elt F) (v.writes (Elt F) f L) p = blocks8 M p

/-- Columns `m` to `m + 7` of a stored projection, as the body loads them. -/
theorem load_cols (v : View sig .tc .vmem S16x1024 .f32) (M : S16x1024.Idx → F .f32) {m : ℕ} {inb0 : ∀ a, ![0, 0] a + S16x1024.size a ≤ S16x1024.size a}
    {inb : ∀ a, ![0, m] a + S16x8.size a ≤ S16x1024.size a} (x : S16x8.Idx) (h : m + (x 1).val < 1024) :
    v.readCov [(⟨Rect.unit (s := S16x1024) ![0, 0] S16x1024.size inb0, M⟩ : View.Piece (Elt F) S16x1024 .f32)]
        (Rect.unit (s := S16x1024) ![0, m] S16x8.size inb).toLoadRect x
      = M (Fin.cons (x 0) (Fin.cons ⟨m + (x 1).val, h⟩ (fun a => a.elim0))) := by
  show v.read (Elt F) (v.writes (Elt F) v.junk [(⟨Rect.unit (s := S16x1024) ![0, 0] S16x1024.size inb0, M⟩ : View.Piece (Elt F) S16x1024 .f32)])
    ((Rect.unit (s := S16x1024) ![0, m] S16x8.size inb).idx x) = _
  rw [View.read_writes_full]
  refine congrArg M (funext fun a => Fin.ext ?_)
  fin_cases a
  · show 0 + 1 * (x 0).val = (x 0).val
    omega
  · show m + 1 * (x 1).val = m + (x 1).val
    omega

/-- One copy. -/
theorem BlocksTo.step {v : View sig .tc .vmem S128x16x8 .f32} {f : v.ty.Contents (Elt F)} {M : S16x1024.Idx → F .f32}
    {L : List (View.Piece (Elt F) S128x16x8 .f32)} {n m : ℕ} {w : View sig .tc .vmem S16x1024 .f32}
    {inb0 : ∀ a, ![0, 0] a + S16x1024.size a ≤ S16x1024.size a} {inb : ∀ a, ![0, m] a + S16x8.size a ≤ S16x1024.size a}
    {inbn : ∀ a, ![n, 0, 0] a + S1x16x8.size a ≤ S128x16x8.size a} {hc : S16x8.ShapeCasts S1x16x8}
    (hm : m = 8 * n) (hL : BlocksTo v f M L n) :
    BlocksTo v f M ((⟨Rect.unit (s := S128x16x8) ![n, 0, 0] S1x16x8.size inbn,
      shapeCast S1x16x8 (w.readCov [(⟨Rect.unit (s := S16x1024) ![0, 0] S16x1024.size inb0, M⟩ : View.Piece (Elt F) S16x1024 .f32)]
        (Rect.unit (s := S16x1024) ![0, m] S16x8.size inb).toLoadRect) hc⟩ : View.Piece (Elt F) S128x16x8 .f32) :: L) (n + 1) := by
  intro p hp
  have h0 : (p 0).val < 128 := (p 0).isLt
  have h2 : (p 2).val < 8 := (p 2).isLt
  by_cases hn : (p 0).val = n
  · let q : S1x16x8.Idx := Fin.cons ⟨0, by decide⟩ (Fin.cons (p 1) (Fin.cons (p 2) (fun a => a.elim0)))
    refine (View.read_writes_cons_unit_of_mem v f inbn _ L p q rfl fun a => ?_).trans ?_
    · fin_cases a
      · show (p 0).val = n + 0
        omega
      · show (p 1).val = 0 + (p 1).val
        omega
      · show (p 2).val = 0 + (p 2).val
        omega
    · refine (shapeCast_addUnit_apply ![16, 8] _ hc q).trans ?_
      refine (load_cols w M _ (by show m + (p 2).val < 1024; omega)).trans ?_
      refine congrArg M (funext fun a => Fin.ext ?_)
      fin_cases a
      · rfl
      · show m + (p 2).val = 8 * (p 0).val + (p 2).val
        omega
  · rw [View.read_writes_cons_unit_of_not_mem v f inbn _ L p rfl 0 (by
      show (p 0).val < n ∨ n + 1 ≤ (p 0).val
      omega)]
    exact hL p (by omega)

theorem BlocksTo.zero {v : View sig .tc .vmem S128x16x8 .f32} {f : v.ty.Contents (Elt F)} {M : S16x1024.Idx → F .f32}
    {L : List (View.Piece (Elt F) S128x16x8 .f32)} : BlocksTo v f M L 0 := fun _ h => absurd h (Nat.not_lt_zero _)

theorem BlocksTo.all {v : View sig .tc .vmem S128x16x8 .f32} {f : v.ty.Contents (Elt F)} {M : S16x1024.Idx → F .f32}
    {L : List (View.Piece (Elt F) S128x16x8 .f32)} (h : BlocksTo v f M L 128) : v.read (Elt F) (v.writes (Elt F) f L) = blocks8 M :=
  funext fun p => h p (p 0).isLt

end Cert.ModelIdeal.Run
-- ==== Proof.PI.Pro.lean ====
/-
  The layer before its scan, run: from the weights' blocks and the residual stream the body leaves in its scratch the
  scan's input, the gate's factor, the step widths and the two projections cut into blocks of eight time steps.
-/
module

public import proofs.«01_k».proof.Proof.PI.Trip
public import proofs.«01_k».proof.Proof.PI.Blocks

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The condition under which the body copies its input into the carried scratch: the first grid point. -/
abbrev isFirst (i : grid0.Coords) : BitVec 1 := Scalar.cmpi .ne (Scalar.extui (Scalar.cmpi .eq (BitVec.ofNat 32 (i 0).val) 0#32)) 0#32

variable (c : Dev nD) (i : grid0.Coords)
  (arg1 : Memref sig .tc .vmem S1024x768 .f32) (harg1 : arg1.IsWhole)
  (arg2 : Memref sig .tc .vmem S1x1x768 .f32) (harg2 : arg2.IsWhole)
  (arg3 : Memref sig .tc .vmem S1x3072x768 .bf16) (harg3 : arg3.IsWhole)
  (arg4 : Memref sig .tc .vmem S1x4x1536 .f32) (harg4 : arg4.IsWhole)
  (arg5 : Memref sig .tc .vmem S1x1x1536 .f32) (harg5 : arg5.IsWhole)
  (arg6 : Memref sig .tc .vmem S1x80x1536 .bf16) (harg6 : arg6.IsWhole)
  (arg7 : Memref sig .tc .vmem S1x1536x48 .bf16) (harg7 : arg7.IsWhole)
  (arg8 : Memref sig .tc .vmem S1x1x1536 .f32) (harg8 : arg8.IsWhole)
  (arg9 : Memref sig .tc .vmem S1x16x1536 .f32) (harg9 : arg9.IsWhole)
  (arg10 : Memref sig .tc .vmem S1x1x1536 .f32) (harg10 : arg10.IsWhole)
  (arg11 : Memref sig .tc .vmem S1x768x1536 .bf16) (harg11 : arg11.IsWhole)
  (arg12 : Memref sig .tc .vmem S1x1x768 .f32) (harg12 : arg12.IsWhole)
  (arg13 : Memref sig .tc .vmem S1024x768 .bf16) (harg13 : arg13.IsWhole)
  (arg14 : Memref sig .tc .vmem S1024x768 .f32) (harg14 : arg14.IsWhole)
  (arg15 : Memref sig .tc .vmem S128x8x1536 .f32) (harg15 : arg15.IsWhole)
  (arg16 : Memref sig .tc .vmem S128x8x1536 .bf16) (harg16 : arg16.IsWhole)
  (arg17 : Memref sig .tc .vmem S128x8x1536 .f32) (harg17 : arg17.IsWhole)
  (arg18 : Memref sig .tc .vmem S128x8x1536 .bf16) (harg18 : arg18.IsWhole)
  (arg19 : Memref sig .tc .vmem S16x1024 .f32) (harg19 : arg19.IsWhole)
  (arg20 : Memref sig .tc .vmem S16x1024 .f32) (harg20 : arg20.IsWhole)
  (arg21 : Memref sig .tc .vmem S128x16x8 .f32) (harg21 : arg21.IsWhole)
  (arg22 : Memref sig .tc .vmem S128x16x8 .f32) (harg22 : arg22.IsWhole)

set_option maxHeartbeats 4000000 in
/-- At a later point: the residual stream is what the scratch holds. -/
theorem pro_later (hc : isFirst i ≠ 1#1) (E : Set ℕ)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) (f22 : BufTy.Contents (Elt F) arg22.view.ty) :
  (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
      ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄)
  ⊢ wp frame (wpE (defs₀ (F := F)) 𝒱₀ (c : Thread nD τ) none) E (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun r => iprop(∃ g15 g16 g17 g19 g20 g21 g22, (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (arg14.view.loc (c : Thread nD τ) ↦[arg14.view.set]{fullShare} f14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)
        ∗ ⌜r.2.1 = k0_pay342 (View.readAt (Elt F) arg9.view (Rect.unit (s := S1x16x1536) ![0, 0, 0] S1x16x1536.size inb_S1x16x1536_S1x16x1536_0_0_0).toLoadRect f9) ∧ r.2.2 = rate
          ∧ arg15.view.read (Elt F) g15 = vU (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
          ∧ arg16.view.read (Elt F) g16 = vZ (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3)
          ∧ arg17.view.read (Elt F) g17 = vDt (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
              (arg6.view.read (Elt F) f6) (View.readAt (Elt F) arg7.view (Rect.unit (s := S1x1536x48) ![0, 0, 0] S1x1536x48.size inb_S1x1536x48_S1x1536x48_0_0_0).toLoadRect f7) (View.readAt (Elt F) arg8.view (Rect.unit (s := S1x1x1536) ![0, 0, 0] S1x1x1536.size inb_S1x1x1536_S1x1x1536_0_0_0).toLoadRect f8)
          ∧ arg21.view.read (Elt F) g21 = vB (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
              (arg6.view.read (Elt F) f6)
          ∧ arg22.view.read (Elt F) g22 = vC (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
              (arg6.view.read (Elt F) f6)⌝)) := by
  iintro ⟨H2, H3, H4, H5, H6, H7, H8, H9, H14, H15, H16, H17, H19, H20, H21, H22⟩
  sl_exec_parts (disch := exact hc)
  sl_step
  iexists _, _, _, _, _, _, _
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  ipureintro
  refine ⟨?_, ?_, ?_, ?_, ?_, ?_, ?_⟩
  · rfl
  · rfl
  · exact (View.read_writes_full ..).trans rfl
  · exact (View.read_writes_full ..).trans rfl
  · exact (View.read_writes_full ..).trans rfl
  · refine BlocksTo.all (M := k0_pay82 (conv (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3) (arg4.view.read (Elt F) f4)) (View.readAt (Elt F) arg5.view (Rect.unit (s := S1x1x1536) ![0, 0, 0] S1x1x1536.size inb_S1x1x1536_S1x1x1536_0_0_0).toLoadRect f5) (xpB (arg6.view.read (Elt F) f6))) ?_
    iterate 128 refine BlocksTo.step (by rfl) ?_
    exact BlocksTo.zero
  · refine BlocksTo.all (M := k0_pay83 (conv (View.readAt (Elt F) arg14.view (Rect.unit (s := S1024x768) ![0, 0] S1024x768.size inb_S1024x768_S1024x768_0_0).toLoadRect f14) (View.readAt (Elt F) arg2.view (Rect.unit (s := S1x1x768) ![0, 0, 0] S1x1x768.size inb_S1x1x768_S1x1x768_0_0_0).toLoadRect f2) (arg3.view.read (Elt F) f3) (arg4.view.read (Elt F) f4)) (View.readAt (Elt F) arg5.view (Rect.unit (s := S1x1x1536) ![0, 0, 0] S1x1x1536.size inb_S1x1x1536_S1x1x1536_0_0_0).toLoadRect f5) (xpC (arg6.view.read (Elt F) f6))) ?_
    iterate 128 refine BlocksTo.step (by rfl) ?_
    exact BlocksTo.zero

end Cert.ModelIdeal.Run
-- ==== Proof.PI.ProFirst.lean ====
/-
  The same at the first grid point: the body first stores its input in the scratch that carries the residual stream,
  then goes on from what it loads back.
-/
module

public import proofs.«01_k».proof.Proof.PI.Pro

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The residual stream as the body loads it back after storing it. -/
abbrev stored (m : Memref sig .tc .vmem S1024x768 .f32) (X : FVec F S1024x768 .f32) : Vec F S1024x768 .f32 :=
  m.view.readCov [(⟨Rect.unit (s := S1024x768) ![0, 0] S1024x768.size inb_S1024x768_S1024x768_0_0, X⟩ : View.Piece (Elt F) S1024x768 .f32)]
    (Rect.unit (s := S1024x768) ![0, 0] S1024x768.size inb_S1024x768_S1024x768_0_0).toLoadRect

/-- It is what was stored. -/
theorem stored_eq (m : Memref sig .tc .vmem S1024x768 .f32) (X : FVec F S1024x768 .f32) : stored m X = X :=
  (View.readAt_full ..).trans (View.read_writes_full ..)

variable (c : Dev nD) (i : grid0.Coords)
  (arg1 : Memref sig .tc .vmem S1024x768 .f32) (harg1 : arg1.IsWhole)
  (arg2 : Memref sig .tc .vmem S1x1x768 .f32) (harg2 : arg2.IsWhole)
  (arg3 : Memref sig .tc .vmem S1x3072x768 .bf16) (harg3 : arg3.IsWhole)
  (arg4 : Memref sig .tc .vmem S1x4x1536 .f32) (harg4 : arg4.IsWhole)
  (arg5 : Memref sig .tc .vmem S1x1x1536 .f32) (harg5 : arg5.IsWhole)
  (arg6 : Memref sig .tc .vmem S1x80x1536 .bf16) (harg6 : arg6.IsWhole)
  (arg7 : Memref sig .tc .vmem S1x1536x48 .bf16) (harg7 : arg7.IsWhole)
  (arg8 : Memref sig .tc .vmem S1x1x1536 .f32) (harg8 : arg8.IsWhole)
  (arg9 : Memref sig .tc .vmem S1x16x1536 .f32) (harg9 : arg9.IsWhole)
  (arg10 : Memref sig .tc .vmem S1x1x1536 .f32) (harg10 : arg10.IsWhole)
  (arg11 : Memref sig .tc .vmem S1x768x1536 .bf16) (harg11 : arg11.IsWhole)
  (arg12 : Memref sig .tc .vmem S1x1x768 .f32) (harg12 : arg12.IsWhole)
  (arg13 : Memref sig .tc .vmem S1024x768 .bf16) (harg13 : arg13.IsWhole)
  (arg14 : Memref sig .tc .vmem S1024x768 .f32) (harg14 : arg14.IsWhole)
  (arg15 : Memref sig .tc .vmem S128x8x1536 .f32) (harg15 : arg15.IsWhole)
  (arg16 : Memref sig .tc .vmem S128x8x1536 .bf16) (harg16 : arg16.IsWhole)
  (arg17 : Memref sig .tc .vmem S128x8x1536 .f32) (harg17 : arg17.IsWhole)
  (arg18 : Memref sig .tc .vmem S128x8x1536 .bf16) (harg18 : arg18.IsWhole)
  (arg19 : Memref sig .tc .vmem S16x1024 .f32) (harg19 : arg19.IsWhole)
  (arg20 : Memref sig .tc .vmem S16x1024 .f32) (harg20 : arg20.IsWhole)
  (arg21 : Memref sig .tc .vmem S128x16x8 .f32) (harg21 : arg21.IsWhole)
  (arg22 : Memref sig .tc .vmem S128x16x8 .f32) (harg22 : arg22.IsWhole)

set_option maxHeartbeats 4000000 in
/-- At the first point the body stores its input as the residual stream and loads it back. -/
theorem pro_first (hc : isFirst i = 1#1) (E : Set ℕ)
    (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) (f22 : BufTy.Contents (Elt F) arg22.view.ty) :
  (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
      ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄)
  ⊢ wp frame (wpE (defs₀ (F := F)) 𝒱₀ (c : Thread nD τ) none) E (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun r => iprop(∃ g14 g15 g16 g17 g19 g20 g21 g22, (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)
        ∗ ⌜arg14.view.read (Elt F) g14 = k0_pay70 (View.readAt (Elt F) arg1.view (Rect.unit (s := S1024x768) ![0, 0] S1024x768.size inb_S1024x768_S1024x768_0_0).toLoadRect f1) ∧ r.2.1 = k0_pay342 (View.readAt (Elt F) arg9.view (Rect.unit (s := S1x16x1536) ![0, 0, 0] S1x16x1536.size inb_S1x16x1536_S1x16x1536_0_0_0).toLoadRect f9) ∧ r.2.2 = rate
          ∧ arg15.view.read (Elt F) g15 = vU (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
          ∧ arg16.view.read (Elt F) g16 = vZ (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3)
          ∧ arg17.view.read (Elt F) g17 = vDt (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
              (arg6.view.read (Elt F) f6) (View.readAt (Elt F) arg7.view (Rect.unit (s := S1x1536x48) ![0, 0, 0] S1x1536x48.size inb_S1x1536x48_S1x1536x48_0_0_0).toLoadRect f7) (View.readAt (Elt F) arg8.view (Rect.unit (s := S1x1x1536) ![0, 0, 0] S1x1x1536.size inb_S1x1x1536_S1x1x1536_0_0_0).toLoadRect f8)
          ∧ arg21.view.read (Elt F) g21 = vB (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
              (arg6.view.read (Elt F) f6)
          ∧ arg22.view.read (Elt F) g22 = vC (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3) (arg4.view.read (Elt F) f4) (View.readAt (Elt F) arg5.view (Rect.unit (s := S1x1x1536) ![0, 0, 0] S1x1x1536.size inb_S1x1x1536_S1x1x1536_0_0_0).toLoadRect f5)
              (arg6.view.read (Elt F) f6)⌝)) := by
  iintro ⟨H1, H2, H3, H4, H5, H6, H7, H8, H9, H14, H15, H16, H17, H19, H20, H21, H22⟩
  sl_exec_parts (disch := exact hc)
  sl_step
  iexists _, _, _, _, _, _, _, _
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H14]; · iexact H14
  isplitl [H15]; · iexact H15
  isplitl [H16]; · iexact H16
  isplitl [H17]; · iexact H17
  isplitl [H19]; · iexact H19
  isplitl [H20]; · iexact H20
  isplitl [H21]; · iexact H21
  isplitl [H22]; · iexact H22
  ipureintro
  refine ⟨?_, ?_, ?_, ?_, ?_, ?_, ?_, ?_⟩
  · exact (View.read_writes_full ..).trans rfl
  · rfl
  · rfl
  · exact (View.read_writes_full ..).trans rfl
  · exact (View.read_writes_full ..).trans rfl
  · exact (View.read_writes_full ..).trans rfl
  · refine BlocksTo.all (M := k0_pay82 (conv (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3) (arg4.view.read (Elt F) f4)) (View.readAt (Elt F) arg5.view (Rect.unit (s := S1x1x1536) ![0, 0, 0] S1x1x1536.size inb_S1x1x1536_S1x1x1536_0_0_0).toLoadRect f5) (xpB (arg6.view.read (Elt F) f6))) ?_
    iterate 128 refine BlocksTo.step (by rfl) ?_
    exact BlocksTo.zero
  · refine BlocksTo.all (M := k0_pay83 (conv (stored arg14 (k0_pay70 (View.readAt (Elt F) arg1.view (Rect.unit (s := S1024x768) ![0, 0] S1024x768.size inb_S1024x768_S1024x768_0_0).toLoadRect f1))) (View.readAt (Elt F) arg2.view (Rect.unit (s := S1x1x768) ![0, 0, 0] S1x1x768.size inb_S1x1x768_S1x1x768_0_0_0).toLoadRect f2) (arg3.view.read (Elt F) f3) (arg4.view.read (Elt F) f4)) (View.readAt (Elt F) arg5.view (Rect.unit (s := S1x1x1536) ![0, 0, 0] S1x1x1536.size inb_S1x1x1536_S1x1x1536_0_0_0).toLoadRect f5) (xpC (arg6.view.read (Elt F) f6))) ?_
    iterate 128 refine BlocksTo.step (by rfl) ?_
    exact BlocksTo.zero

end Cert.ModelIdeal.Run
-- ==== Proof.PI.Whole.lean ====
/-
  One grid point of the layers call, run: `layerOut` is the layer's update of the residual stream the body carries in its
  scratch, `normedOut` the normed and rounded stream the last point writes out.
-/
module

public import proofs.«01_k».proof.Proof.PI.ProFirst
public import Idealize.ShloMosaic.Lib.Pointwise

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The residual stream after a layer, from the stream before it and the layer's weights. -/
def layerOut (x : Vec F S1024x768 .f32) (nw : Vec F S1x1x768 .f32) (win : Vec F S1x3072x768 .bf16) (cw : Vec F S1x4x1536 .f32)
    (cb : Vec F S1x1x1536 .f32) (xp : Vec F S1x80x1536 .bf16) (wdt : Vec F S1x1536x48 .bf16) (dtb : Vec F S1x1x1536 .f32)
    (al : Vec F S1x16x1536 .f32) (d : Vec F S1x1x1536 .f32) (wo : Vec F S1x768x1536 .bf16) : FVec F S1024x768 .f32 :=
  k0_pay6 x (vY x nw win cw cb xp wdt dtb al d) wo

/-- The stream after a layer, normed by the final weights and rounded. -/
def normedOut (x : Vec F S1024x768 .f32) (nw : Vec F S1x1x768 .f32) (win : Vec F S1x3072x768 .bf16) (cw : Vec F S1x4x1536 .f32)
    (cb : Vec F S1x1x1536 .f32) (xp : Vec F S1x80x1536 .bf16) (wdt : Vec F S1x1536x48 .bf16) (dtb : Vec F S1x1x1536 .f32)
    (al : Vec F S1x16x1536 .f32) (d : Vec F S1x1x1536 .f32) (wo : Vec F S1x768x1536 .bf16) (nf : Vec F S1x1x768 .f32) :
    FVec F S1024x768 .bf16 :=
  k0_pay7 x (vY x nw win cw cb xp wdt dtb al d) wo nf

variable (c : Dev nD) (i : grid0.Coords)
  (arg1 : Memref sig .tc .vmem S1024x768 .f32) (harg1 : arg1.IsWhole)
  (arg2 : Memref sig .tc .vmem S1x1x768 .f32) (harg2 : arg2.IsWhole)
  (arg3 : Memref sig .tc .vmem S1x3072x768 .bf16) (harg3 : arg3.IsWhole)
  (arg4 : Memref sig .tc .vmem S1x4x1536 .f32) (harg4 : arg4.IsWhole)
  (arg5 : Memref sig .tc .vmem S1x1x1536 .f32) (harg5 : arg5.IsWhole)
  (arg6 : Memref sig .tc .vmem S1x80x1536 .bf16) (harg6 : arg6.IsWhole)
  (arg7 : Memref sig .tc .vmem S1x1536x48 .bf16) (harg7 : arg7.IsWhole)
  (arg8 : Memref sig .tc .vmem S1x1x1536 .f32) (harg8 : arg8.IsWhole)
  (arg9 : Memref sig .tc .vmem S1x16x1536 .f32) (harg9 : arg9.IsWhole)
  (arg10 : Memref sig .tc .vmem S1x1x1536 .f32) (harg10 : arg10.IsWhole)
  (arg11 : Memref sig .tc .vmem S1x768x1536 .bf16) (harg11 : arg11.IsWhole)
  (arg12 : Memref sig .tc .vmem S1x1x768 .f32) (harg12 : arg12.IsWhole)
  (arg13 : Memref sig .tc .vmem S1024x768 .bf16) (harg13 : arg13.IsWhole)
  (arg14 : Memref sig .tc .vmem S1024x768 .f32) (harg14 : arg14.IsWhole)
  (arg15 : Memref sig .tc .vmem S128x8x1536 .f32) (harg15 : arg15.IsWhole)
  (arg16 : Memref sig .tc .vmem S128x8x1536 .bf16) (harg16 : arg16.IsWhole)
  (arg17 : Memref sig .tc .vmem S128x8x1536 .f32) (harg17 : arg17.IsWhole)
  (arg18 : Memref sig .tc .vmem S128x8x1536 .bf16) (harg18 : arg18.IsWhole)
  (arg19 : Memref sig .tc .vmem S16x1024 .f32) (harg19 : arg19.IsWhole)
  (arg20 : Memref sig .tc .vmem S16x1024 .f32) (harg20 : arg20.IsWhole)
  (arg21 : Memref sig .tc .vmem S128x16x8 .f32) (harg21 : arg21.IsWhole)
  (arg22 : Memref sig .tc .vmem S128x16x8 .f32) (harg22 : arg22.IsWhole)

/-- What the body reads as the residual stream: its input at the first point, the scratch's contents at a later one. -/
abbrev stream (f1 : BufTy.Contents (Elt F) arg1.view.ty) (f14 : BufTy.Contents (Elt F) arg14.view.ty) : Vec F S1024x768 .f32 :=
  if isFirst i = 1#1 then arg1.view.read (Elt F) f1 else arg14.view.read (Elt F) f14

/-- The layer before its scan, at any point. -/
theorem pro (E : Set ℕ) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f14 : BufTy.Contents (Elt F) arg14.view.ty) (f15 : BufTy.Contents (Elt F) arg15.view.ty) (f16 : BufTy.Contents (Elt F) arg16.view.ty) (f17 : BufTy.Contents (Elt F) arg17.view.ty) (f19 : BufTy.Contents (Elt F) arg19.view.ty) (f20 : BufTy.Contents (Elt F) arg20.view.ty) (f21 : BufTy.Contents (Elt F) arg21.view.ty) (f22 : BufTy.Contents (Elt F) arg22.view.ty) :
  (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
      ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄)
  ⊢ wp frame (wpE (defs₀ (F := F)) 𝒱₀ (c : Thread nD τ) none) E (k0_part55 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun r => iprop(∃ g14 g15 g16 g17 g19 g20 g21 g22, (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)
        ∗ ⌜arg14.view.read (Elt F) g14 = stream i arg1 arg14 f1 f14
          ∧ r.2.1 = k0_pay342 (arg9.view.read (Elt F) f9) ∧ r.2.2 = rate
          ∧ arg15.view.read (Elt F) g15 = vU (stream i arg1 arg14 f1 f14) (arg2.view.read (Elt F) f2) (arg3.view.read (Elt F) f3) (arg4.view.read (Elt F) f4) (arg5.view.read (Elt F) f5)
          ∧ arg16.view.read (Elt F) g16 = vZ (stream i arg1 arg14 f1 f14) (arg2.view.read (Elt F) f2) (arg3.view.read (Elt F) f3)
          ∧ arg17.view.read (Elt F) g17 = vDt (stream i arg1 arg14 f1 f14) (arg2.view.read (Elt F) f2) (arg3.view.read (Elt F) f3) (arg4.view.read (Elt F) f4) (arg5.view.read (Elt F) f5) (arg6.view.read (Elt F) f6) (arg7.view.read (Elt F) f7) (arg8.view.read (Elt F) f8)
          ∧ arg21.view.read (Elt F) g21 = vB (stream i arg1 arg14 f1 f14) (arg2.view.read (Elt F) f2) (arg3.view.read (Elt F) f3) (arg4.view.read (Elt F) f4) (arg5.view.read (Elt F) f5) (arg6.view.read (Elt F) f6)
          ∧ arg22.view.read (Elt F) g22 = vC (stream i arg1 arg14 f1 f14) (arg2.view.read (Elt F) f2) (arg3.view.read (Elt F) f3) (arg4.view.read (Elt F) f4) (arg5.view.read (Elt F) f5) (arg6.view.read (Elt F) f6)⌝)) := by
  by_cases hc : isFirst i = 1#1
  · refine (pro_first c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc E f1 f2 f3 f4 f5 f6 f7 f8 f9 f14 f15 f16 f17 f19 f20 f21 f22).trans (wp_mono frame _ E fun r => ?_)
    iintro ⟨%g14, %g15, %g16, %g17, %g19, %g20, %g21, %g22, H1, H2, H3, H4, H5, H6, H7, H8, H9, H14, H15, H16, H17, H19, H20, H21, H22, %h⟩
    iexists g14, g15, g16, g17, g19, g20, g21, g22
    iframe
    ipureintro
    have e1 : k0_pay70 (View.readAt (Elt F) arg1.view (Rect.unit (s := S1024x768) ![0, 0] S1024x768.size inb_S1024x768_S1024x768_0_0).toLoadRect f1) = (arg1.view.read (Elt F) f1) := (shapeCast_id ..).trans (View.readAt_full ..)
    have e2 : (View.readAt (Elt F) arg2.view (Rect.unit (s := S1x1x768) ![0, 0, 0] S1x1x768.size inb_S1x1x768_S1x1x768_0_0_0).toLoadRect f2) = (arg2.view.read (Elt F) f2) := View.readAt_full ..
    have e5 : (View.readAt (Elt F) arg5.view (Rect.unit (s := S1x1x1536) ![0, 0, 0] S1x1x1536.size inb_S1x1x1536_S1x1x1536_0_0_0).toLoadRect f5) = (arg5.view.read (Elt F) f5) := View.readAt_full ..
    have e7 : (View.readAt (Elt F) arg7.view (Rect.unit (s := S1x1536x48) ![0, 0, 0] S1x1536x48.size inb_S1x1536x48_S1x1536x48_0_0_0).toLoadRect f7) = (arg7.view.read (Elt F) f7) := View.readAt_full ..
    have e8 : (View.readAt (Elt F) arg8.view (Rect.unit (s := S1x1x1536) ![0, 0, 0] S1x1x1536.size inb_S1x1x1536_S1x1x1536_0_0_0).toLoadRect f8) = (arg8.view.read (Elt F) f8) := View.readAt_full ..
    have e9 : (View.readAt (Elt F) arg9.view (Rect.unit (s := S1x16x1536) ![0, 0, 0] S1x16x1536.size inb_S1x16x1536_S1x16x1536_0_0_0).toLoadRect f9) = (arg9.view.read (Elt F) f9) := View.readAt_full ..
    rw [stored_eq, e1, e2, e5, e7, e8, e9] at h
    rw [stream, if_pos hc]
    exact h
  · iintro ⟨H1, H2, H3, H4, H5, H6, H7, H8, H9, H14, H15, H16, H17, H19, H20, H21, H22⟩
    iapply (wp_wand_r frame (wpE (defs₀ (F := F)) 𝒱₀ (c : Thread nD τ) none) E)
    isplitl [H2 H3 H4 H5 H6 H7 H8 H9 H14 H15 H16 H17 H19 H20 H21 H22]
    · iapply (pro_later c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc E f2 f3 f4 f5 f6 f7 f8 f9 f14 f15 f16 f17 f19 f20 f21 f22)
      iframe
    · iintro %r ⟨%g15, %g16, %g17, %g19, %g20, %g21, %g22, H2, H3, H4, H5, H6, H7, H8, H9, H14, H15, H16, H17, H19, H20, H21, H22, %h⟩
      iexists f14, g15, g16, g17, g19, g20, g21, g22
      iframe
      ipureintro
      have e14 : (View.readAt (Elt F) arg14.view (Rect.unit (s := S1024x768) ![0, 0] S1024x768.size inb_S1024x768_S1024x768_0_0).toLoadRect f14) = (arg14.view.read (Elt F) f14) := View.readAt_full ..
      have e2 : (View.readAt (Elt F) arg2.view (Rect.unit (s := S1x1x768) ![0, 0, 0] S1x1x768.size inb_S1x1x768_S1x1x768_0_0_0).toLoadRect f2) = (arg2.view.read (Elt F) f2) := View.readAt_full ..
      have e5 : (View.readAt (Elt F) arg5.view (Rect.unit (s := S1x1x1536) ![0, 0, 0] S1x1x1536.size inb_S1x1x1536_S1x1x1536_0_0_0).toLoadRect f5) = (arg5.view.read (Elt F) f5) := View.readAt_full ..
      have e7 : (View.readAt (Elt F) arg7.view (Rect.unit (s := S1x1536x48) ![0, 0, 0] S1x1536x48.size inb_S1x1536x48_S1x1536x48_0_0_0).toLoadRect f7) = (arg7.view.read (Elt F) f7) := View.readAt_full ..
      have e8 : (View.readAt (Elt F) arg8.view (Rect.unit (s := S1x1x1536) ![0, 0, 0] S1x1x1536.size inb_S1x1x1536_S1x1x1536_0_0_0).toLoadRect f8) = (arg8.view.read (Elt F) f8) := View.readAt_full ..
      have e9 : (View.readAt (Elt F) arg9.view (Rect.unit (s := S1x16x1536) ![0, 0, 0] S1x16x1536.size inb_S1x16x1536_S1x16x1536_0_0_0).toLoadRect f9) = (arg9.view.read (Elt F) f9) := View.readAt_full ..
      rw [e14, e2, e5, e7, e8, e9] at h
      rw [stream, if_neg hc]
      exact ⟨rfl, h⟩

/-- The loop from its invariant, spelt out at its two ends. -/
theorem scan_run (E : Set ℕ) (v1150 : FVec F S16x1536 .f32) (cst : F .f32) (d : Vec F S1x1x1536 .f32)
    (f15 : BufTy.Contents (Elt F) arg15.view.ty) (f16 : BufTy.Contents (Elt F) arg16.view.ty) (f17 : BufTy.Contents (Elt F) arg17.view.ty) (f21 : BufTy.Contents (Elt F) arg21.view.ty) (f22 : BufTy.Contents (Elt F) arg22.view.ty) {β : Type}
    {kk : FVec F S16x1536 .f32 × FVec F S16x1536 .f32 → Prog (TpuEff nD τ sig (Elt F) Λ₀ .tc) β} {Q : β → sProp 𝕄} :
  (iprop((arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg21.view.loc (c : Thread nD τ) ↦[arg21.view.set]{fullShare} f21) ∗ (arg22.view.loc (c : Thread nD τ) ↦[arg22.view.set]{fullShare} f22)
      ∗ (∃ f, (arg18.view.loc (c : Thread nD τ) ↦[arg18.view.set]{fullShare} f) ∗ ⌜∀ p : S128x8x1536.Idx, (p 0).val % 64 < 0 → arg18.view.read (Elt F) f p
        = gated (k0_pay1 v1150 cst) d (arg17.view.read (Elt F) f17) (arg15.view.read (Elt F) f15) (arg21.view.read (Elt F) f21)
            (arg22.view.read (Elt F) f22) (arg16.view.read (Elt F) f16) p⌝)
      ∗ ⌜((k0_pay3 (F := F), k0_pay3 (F := F)) : FVec F S16x1536 .f32 × FVec F S16x1536 .f32) = states (k0_pay1 v1150 cst) (arg17.view.read (Elt F) f17) (arg15.view.read (Elt F) f15) (arg21.view.read (Elt F) f21) 0⌝) : sProp 𝕄)
  ⊢ iprop((∀ acc, iprop((arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg21.view.loc (c : Thread nD τ) ↦[arg21.view.set]{fullShare} f21) ∗ (arg22.view.loc (c : Thread nD τ) ↦[arg22.view.set]{fullShare} f22)
      ∗ (∃ f, (arg18.view.loc (c : Thread nD τ) ↦[arg18.view.set]{fullShare} f) ∗ ⌜∀ p : S128x8x1536.Idx, (p 0).val % 64 < k0_t1_loop.trips → arg18.view.read (Elt F) f p
        = gated (k0_pay1 v1150 cst) d (arg17.view.read (Elt F) f17) (arg15.view.read (Elt F) f15) (arg21.view.read (Elt F) f21)
            (arg22.view.read (Elt F) f22) (arg16.view.read (Elt F) f16) p⌝)
      ∗ ⌜acc = states (k0_pay1 v1150 cst) (arg17.view.read (Elt F) f17) (arg15.view.read (Elt F) f15) (arg21.view.read (Elt F) f21) k0_t1_loop.trips⌝)
      -∗ wp frame (wpE (defs₀ (F := F)) 𝒱₀ (c : Thread nD τ) none) E (kk acc) Q)
    -∗ wp frame (wpE (defs₀ (F := F)) 𝒱₀ (c : Thread nD τ) none) E
      (Scf.Loop.for k0_t1_loop k0_t1_ok (k0_pay3 (F := F), k0_pay3 (F := F)) (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 v1150 cst d) >>= kk) Q) :=
  exec_loop frame (wpE (defs₀ (F := F)) 𝒱₀ (c : Thread nD τ) none) E k0_t1_loop.lb k0_t1_loop.ub k0_t1_loop.st k0_t1_ok
    (k0_pay3 (F := F), k0_pay3 (F := F)) _ (scan c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 E v1150 cst d f15 f16 f17 f21 f22)

set_option maxHeartbeats 4000000 in
/-- The whole body. -/
theorem whole (E : Set ℕ) (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) (f17 : BufTy.Contents (Elt F) arg17.view.ty) (f18 : BufTy.Contents (Elt F) arg18.view.ty) (f19 : BufTy.Contents (Elt F) arg19.view.ty) (f20 : BufTy.Contents (Elt F) arg20.view.ty) (f21 : BufTy.Contents (Elt F) arg21.view.ty) (f22 : BufTy.Contents (Elt F) arg22.view.ty) :
  (iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
      ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13)
      ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) ∗ (arg17.view.loc (c : Thread nD τ) ↦[arg17.view.set]{fullShare} f17) ∗ (arg18.view.loc (c : Thread nD τ) ↦[arg18.view.set]{fullShare} f18) ∗ (arg19.view.loc (c : Thread nD τ) ↦[arg19.view.set]{fullShare} f19) ∗ (arg20.view.loc (c : Thread nD τ) ↦[arg20.view.set]{fullShare} f20) ∗ (arg21.view.loc (c : Thread nD τ) ↦[arg21.view.set]{fullShare} f21) ∗ (arg22.view.loc (c : Thread nD τ) ↦[arg22.view.set]{fullShare} f22)) : sProp 𝕄)
  ⊢ wp frame (wpE (defs₀ (F := F)) 𝒱₀ (c : Thread nD τ) none) E (cc0_mamba_layers (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22)
      (fun _ => iprop(∃ g13 g14 g15 g16 g17 g18 g19 g20 g21 g22, (arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9)
        ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} g13)
        ∗ (arg14.view.loc (c : Thread nD τ) ↦[arg14.view.set]{fullShare} g14) ∗ (arg15.view.loc (c : Thread nD τ) ↦[arg15.view.set]{fullShare} g15) ∗ (arg16.view.loc (c : Thread nD τ) ↦[arg16.view.set]{fullShare} g16) ∗ (arg17.view.loc (c : Thread nD τ) ↦[arg17.view.set]{fullShare} g17) ∗ (arg18.view.loc (c : Thread nD τ) ↦[arg18.view.set]{fullShare} g18) ∗ (arg19.view.loc (c : Thread nD τ) ↦[arg19.view.set]{fullShare} g19) ∗ (arg20.view.loc (c : Thread nD τ) ↦[arg20.view.set]{fullShare} g20) ∗ (arg21.view.loc (c : Thread nD τ) ↦[arg21.view.set]{fullShare} g21) ∗ (arg22.view.loc (c : Thread nD τ) ↦[arg22.view.set]{fullShare} g22)
        ∗ ⌜arg14.view.read (Elt F) g14 = layerOut (stream i arg1 arg14 f1 f14) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11)
          ∧ (k0_cond2 i = 1#1 → arg13.view.read (Elt F) g13
              = normedOut (stream i arg1 arg14 f1 f14) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) (arg11.view.read (Elt F) f11) (arg12.view.read (Elt F) f12))
          ∧ (k0_cond2 i ≠ 1#1 → g13 = f13)⌝)) := by
  rw [cc0_mamba_layers_eq_skeleton]
  unfold cc0_mamba_layers_skel
  rw [wp_bind]
  iintro ⟨H1, H2, H3, H4, H5, H6, H7, H8, H9, H10, H11, H12, H13, H14, H15, H16, H17, H18, H19, H20, H21, H22⟩
  iapply (wp_wand_r frame (wpE (defs₀ (F := F)) 𝒱₀ (c : Thread nD τ) none) E)
  isplitl [H1 H2 H3 H4 H5 H6 H7 H8 H9 H14 H15 H16 H17 H19 H20 H21 H22]
  · iapply (pro c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 E f1 f2 f3 f4 f5 f6 f7 f8 f9 f14 f15 f16 f17 f19 f20 f21 f22)
    iframe
  iintro %r ⟨%g14, %g15, %g16, %g17, %g19, %g20, %g21, %g22, H1, H2, H3, H4, H5, H6, H7, H8, H9, H14, H15, H16, H17, H19, H20, H21, H22, %h⟩
  obtain ⟨r0, r1, r2⟩ := r
  obtain ⟨h14, hr1, hr2, h15, h16, h17, h21, h22⟩ := h
  dsimp only at hr1 hr2
  subst hr1 hr2
  sl_exec
  iapply (scan_run c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 E (k0_pay342 (arg9.view.read (Elt F) f9)) rate
      (View.readAt (Elt F) arg10.view (Rect.unit (s := S1x1x1536) ![0, 0, 0] S1x1x1536.size inb_S1x1x1536_S1x1x1536_0_0_0).toLoadRect f10)
      g15 g16 g17 g21 g22) $$ [H15 H16 H17 H18 H21 H22]
  · iframe
    isplitl [H18]
    · iexists f18
      iframe
      ipureintro
      exact fun p hp => absurd hp (Nat.not_lt_zero _)
    · ipureintro
      exact (states_zero ..).symm
  iintro %acc ⟨H15, H16, H17, H21, H22, ⟨%g18, H18, %h18⟩, %hacc⟩
  have e10 : View.readAt (Elt F) arg10.view (Rect.unit (s := S1x1x1536) ![0, 0, 0] S1x1x1536.size inb_S1x1x1536_S1x1x1536_0_0_0).toLoadRect f10
      = (arg10.view.read (Elt F) f10) := View.readAt_full ..
  have e18 : View.readAt (Elt F) arg18.view (Rect.unit (s := S128x8x1536) ![0, 0, 0] S128x8x1536.size inb_S128x8x1536_S128x8x1536_0_0_0).toLoadRect g18
      = vY (stream i arg1 arg14 f1 f14) (arg2.view.read (Elt F) f2) (arg3.view.read (Elt F) f3) (arg4.view.read (Elt F) f4) (arg5.view.read (Elt F) f5) (arg6.view.read (Elt F) f6) (arg7.view.read (Elt F) f7) (arg8.view.read (Elt F) f8) (arg9.view.read (Elt F) f9) (arg10.view.read (Elt F) f10) := by
    refine (View.readAt_full ..).trans (funext fun p => ?_)
    rw [h18 p (by rw [trips_eq]; exact Nat.mod_lt _ (by decide)), e10, h15, h16, h17, h21, h22]
    rfl
  have e14 : View.readAt (Elt F) arg14.view (Rect.unit (s := S1024x768) ![0, 0] S1024x768.size inb_S1024x768_S1024x768_0_0).toLoadRect g14
      = stream i arg1 arg14 f1 f14 := (View.readAt_full ..).trans h14
  have e11 : View.readAt (Elt F) arg11.view (Rect.unit (s := S1x768x1536) ![0, 0, 0] S1x768x1536.size inb_S1x768x1536_S1x768x1536_0_0_0).toLoadRect f11
      = (arg11.view.read (Elt F) f11) := View.readAt_full ..
  have e12 : View.readAt (Elt F) arg12.view (Rect.unit (s := S1x1x768) ![0, 0, 0] S1x1x768.size inb_S1x1x768_S1x1x768_0_0_0).toLoadRect f12
      = (arg12.view.read (Elt F) f12) := View.readAt_full ..
  by_cases hc : k0_cond2 i = 1#1
  · sl_exec (disch := exact hc)
    sl_step
    iexists _, _, g15, g16, g17, g18, g19, g20, g21, g22
    iframe
    ipureintro
    exact ⟨(View.read_writes_full ..).trans rfl,
      fun _ => (View.read_writes_full ..).trans rfl, fun h => absurd hc h⟩
  · sl_exec (disch := exact hc)
    sl_step
    iexists f13, _, g15, g16, g17, g18, g19, g20, g21, g22
    iframe
    ipureintro
    exact ⟨(View.read_writes_full ..).trans rfl, fun h => absurd h hc, fun _ => rfl⟩

end Cert.ModelIdeal.Run
-- ==== Proof.PI.Entry.lean ====
/-
  The blocks the layers call's windows hold, read off the buffers as the call finds them, and that each input window's
  staging buffer holds its block at every point.
-/
module

public import proofs.«01_k».proof.Proof.Gen.ModelIdeal.Launch
public import proofs.«01_k».proof.Proof.Gen.ModelIdeal.Points
public import Idealize.ShloMosaic.Lib.Pipeline.FrameBody
public import Idealize.ShloMosaic.Lib.Pipeline.FrameSuffix

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! An input window's staging buffer holds its block at every point, fetched there or not, for any proof data
    whose array is as entered and whose body leaves the block in place. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

end Cert.ModelIdeal.Run
-- ==== Proof.PI.CallRun.lean ====
/-
  The run of the layers call: between points the scratch that carries the residual stream holds `streamAt`, the stream
  after the layers done so far; the other scratch buffers hold anything. The last point writes out `normedOut` of it.
-/
module

public import proofs.«01_k».proof.Proof.PI.Whole
public import proofs.«01_k».proof.Proof.PI.Entry

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ### The blocks the windows hold at a point -/

abbrev blk0 (c : Dev nD) (t : Fin cfg0.N) : Vec F S1024x768 .f32 := iblk0 V c 0 t
abbrev blk1 (c : Dev nD) (t : Fin cfg0.N) : Vec F S1x1x768 .f32 := iblk0 V c 1 t
abbrev blk2 (c : Dev nD) (t : Fin cfg0.N) : Vec F S1x3072x768 .bf16 := iblk0 V c 2 t
abbrev blk3 (c : Dev nD) (t : Fin cfg0.N) : Vec F S1x4x1536 .f32 := iblk0 V c 3 t
abbrev blk4 (c : Dev nD) (t : Fin cfg0.N) : Vec F S1x1x1536 .f32 := iblk0 V c 4 t
abbrev blk5 (c : Dev nD) (t : Fin cfg0.N) : Vec F S1x80x1536 .bf16 := iblk0 V c 5 t
abbrev blk6 (c : Dev nD) (t : Fin cfg0.N) : Vec F S1x1536x48 .bf16 := iblk0 V c 6 t
abbrev blk7 (c : Dev nD) (t : Fin cfg0.N) : Vec F S1x1x1536 .f32 := iblk0 V c 7 t
abbrev blk8 (c : Dev nD) (t : Fin cfg0.N) : Vec F S1x16x1536 .f32 := iblk0 V c 8 t
abbrev blk9 (c : Dev nD) (t : Fin cfg0.N) : Vec F S1x1x1536 .f32 := iblk0 V c 9 t
abbrev blk10 (c : Dev nD) (t : Fin cfg0.N) : Vec F S1x768x1536 .bf16 := iblk0 V c 10 t
abbrev blk11 (c : Dev nD) (t : Fin cfg0.N) : Vec F S1x1x768 .f32 := iblk0 V c 11 t

/-- The residual stream before point `n`. -/
def streamAt (c : Dev nD) : ℕ → Vec F S1024x768 .f32
  | 0 => blk0 V c ⟨0, by decide⟩
  | n + 1 => if h : n < cfg0.N then layerOut (streamAt c n) (blk1 V c ⟨n, h⟩) (blk2 V c ⟨n, h⟩) (blk3 V c ⟨n, h⟩) (blk4 V c ⟨n, h⟩) (blk5 V c ⟨n, h⟩) (blk6 V c ⟨n, h⟩) (blk7 V c ⟨n, h⟩) (blk8 V c ⟨n, h⟩) (blk9 V c ⟨n, h⟩) (blk10 V c ⟨n, h⟩) else streamAt c n

theorem streamAt_succ (c : Dev nD) (t : Fin cfg0.N) :
    streamAt V c (t.val + 1) = layerOut (streamAt V c t.val) (blk1 V c t) (blk2 V c t) (blk3 V c t) (blk4 V c t) (blk5 V c t) (blk6 V c t) (blk7 V c t) (blk8 V c t) (blk9 V c t) (blk10 V c t) := by
  rw [streamAt, dif_pos t.isLt]

/-- What the last point writes out. -/
abbrev outAt (c : Dev nD) (t : Fin cfg0.N) : FVec F S1024x768 .bf16 :=
  normedOut (streamAt V c t.val) (blk1 V c t) (blk2 V c t) (blk3 V c t) (blk4 V c t) (blk5 V c t) (blk6 V c t) (blk7 V c t) (blk8 V c t) (blk9 V c t) (blk10 V c t) (blk11 V c t)

/-! ### The body's conditions at a point -/

theorem isFirst_iff : ∀ t : Fin cfg0.N, (isFirst (grid0.coords t) = 1#1) = (t.val = 0) := by decide
theorem idle_last : ∀ t : Fin cfg0.N, k0_cond2 (grid0.coords t) = 1#1 → cfg0.idle 12 (cfg0.grid.coords t) = false := by decide
theorem idle_before : ∀ t : Fin cfg0.N, k0_cond2 (grid0.coords t) ≠ 1#1 → cfg0.idle 12 (cfg0.grid.coords t) = true := by decide
theorem noflush_before : ∀ t : Fin cfg0.N, k0_cond2 (grid0.coords t) ≠ 1#1 → (cfg0.win 12).flush t = false := by decide

/-! ### The proof data -/

/-- Scratch buffer `cc0_scratchN` held at some contents. -/
abbrev some1 (c : Dev nD) {s : Shape} {e : EltTy} (b : Memref sig .tc .vmem s e) : sProp 𝕄 := iprop(∃ d, owns (c : Thread nD τ) b fullShare d)

/-- What the layers call leaves alone: the head call's staging buffers and the generator's register. -/
def rest (c : Dev nD) : sProp 𝕄 :=
  iprop(((∃ d, owns (c : Thread nD τ) (Memref.whole cc1_stg0_0) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d)) ∗ ∃ r, prngReg c r)

/-- Between points `n - 1` and `n`. -/
def Phi (c : Dev nD) (n : ℕ) : sProp 𝕄 :=
  iprop((∃ X, owns (c : Thread nD τ) (Memref.whole cc0_scratch0 : Memref sig .tc .vmem S1024x768 .f32) fullShare X ∗ ⌜n ≠ 0 → X = streamAt V c n⌝)
    ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ rest c)

theorem PhiA_eq (c : Dev nD) : (Pipeline.ΦA spec0 c : sProp 𝕄)
    = iprop(((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d) ∗ (∃ d, owns (c : Thread nD τ) (Memref.whole cc0_scratch6) fullShare d) ∗ (∃ d, owns (c : Thread nD τ) (Memref.whole cc0_scratch7) fullShare d) ∗ (∃ d, owns (c : Thread nD τ) (Memref.whole cc0_scratch8) fullShare d) ∗ (∃ d, owns (c : Thread nD τ) (Memref.whole cc1_stg0_0) fullShare d) ∗ (∃ d, owns (c : Thread nD τ) (Memref.whole cc1_stg1_0) fullShare d) ∗ (∃ d, owns (c : Thread nD τ) (Memref.whole cc1_stg1_1) fullShare d) ∗ (∃ d, owns (c : Thread nD τ) (Memref.whole cc1_stg2_0) fullShare d) ∗ (∃ d, owns (c : Thread nD τ) (Memref.whole cc1_stg2_1) fullShare d)) ∗ ∃ r, prngReg c r) := by
  unfold Pipeline.ΦA
  rw [scopedRest0_eq]
  simp only [owns_whole]
  try rfl

/-- At the first point nothing is known of the stream's buffer. -/
theorem Phi_of_start (c : Dev nD) : (Pipeline.ΦA spec0 c : sProp 𝕄) ⊢ Phi V c 0 := by
  rw [PhiA_eq]
  unfold Phi
  iintro ⟨⟨⟨%X, H0⟩, H1, H2, H3, H4, H5, H6, H7, H8, Hh⟩, Hr⟩
  isplitl [H0]
  · iexists X
    isplitl [H0]; · iexact H0
    ipureintro
    exact fun h => absurd rfl h
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold rest
  isplitl [Hh]; · iexact Hh
  iexact Hr

/-- After the last point what is known of the stream's buffer is dropped. -/
theorem Phi_to_end (c : Dev nD) : Phi V c 4 ⊢ (Pipeline.ΦA spec0 c : sProp 𝕄) := by
  rw [PhiA_eq]
  unfold Phi rest
  iintro ⟨⟨%X, H0, %_⟩, H1, H2, H3, H4, H5, H6, H7, H8, Hh, Hr⟩
  isplitr [Hr]
  · isplitl [H0]; · iexists X; iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hh
  iexact Hr

/-- The proof data of the layers call over the buffers it finds. -/
def dat0 (c : Dev nD) : Dat τ (Elt F) Unit ℕ (UR sig nD τ) ℕ cfg0 c where
  A w := V c (Pipeline.arrRef spec0 w)
  after := fun
    | 0 => fun t => blk0 V c t
    | 1 => fun t => blk1 V c t
    | 2 => fun t => blk2 V c t
    | 3 => fun t => blk3 V c t
    | 4 => fun t => blk4 V c t
    | 5 => fun t => blk5 V c t
    | 6 => fun t => blk6 V c t
    | 7 => fun t => blk7 V c t
    | 8 => fun t => blk8 V c t
    | 9 => fun t => blk9 V c t
    | 10 => fun t => blk10 V c t
    | 11 => fun t => blk11 V c t
    | 12 => fun t => outAt V c t
    | ⟨_ + 13, h⟩ => absurd h (Nat.not_lt.2 (Nat.le_add_left _ _))
  Φ t := Phi V c t.val
  q _ := fullShare
  owed _ := 0

theorem A_eq0 (c : Dev nD) (w : Fin cfg0.W) : (dat0 V c).A w = V c (Pipeline.arrRef spec0 w) := by dsimp only [dat0]
theorem Phi_castSucc (c : Dev nD) (t : Fin cfg0.N) : (dat0 V c).Φ t.castSucc = Phi V c t.val := by dsimp only [dat0]; rfl
theorem Phi_succ (c : Dev nD) (t : Fin cfg0.N) : (dat0 V c).Φ t.succ = Phi V c (t.val + 1) := by dsimp only [dat0]; rfl
theorem before0 (c : Dev nD) (t : Fin cfg0.N) (d) : (dat0 V c).before 0 t d = blk0 V c t :=
  before0_0_of V (dat0 V c) (A_eq0 V c 0) (fun _ => by dsimp only [dat0]) t d
theorem before1 (c : Dev nD) (t : Fin cfg0.N) (d) : (dat0 V c).before 1 t d = blk1 V c t :=
  before0_1_of V (dat0 V c) (A_eq0 V c 1) (fun _ => by dsimp only [dat0]) t d
theorem before2 (c : Dev nD) (t : Fin cfg0.N) (d) : (dat0 V c).before 2 t d = blk2 V c t :=
  before0_2_of V (dat0 V c) (A_eq0 V c 2) (fun _ => by dsimp only [dat0]) t d
theorem before3 (c : Dev nD) (t : Fin cfg0.N) (d) : (dat0 V c).before 3 t d = blk3 V c t :=
  before0_3_of V (dat0 V c) (A_eq0 V c 3) (fun _ => by dsimp only [dat0]) t d
theorem before4 (c : Dev nD) (t : Fin cfg0.N) (d) : (dat0 V c).before 4 t d = blk4 V c t :=
  before0_4_of V (dat0 V c) (A_eq0 V c 4) (fun _ => by dsimp only [dat0]) t d
theorem before5 (c : Dev nD) (t : Fin cfg0.N) (d) : (dat0 V c).before 5 t d = blk5 V c t :=
  before0_5_of V (dat0 V c) (A_eq0 V c 5) (fun _ => by dsimp only [dat0]) t d
theorem before6 (c : Dev nD) (t : Fin cfg0.N) (d) : (dat0 V c).before 6 t d = blk6 V c t :=
  before0_6_of V (dat0 V c) (A_eq0 V c 6) (fun _ => by dsimp only [dat0]) t d
theorem before7 (c : Dev nD) (t : Fin cfg0.N) (d) : (dat0 V c).before 7 t d = blk7 V c t :=
  before0_7_of V (dat0 V c) (A_eq0 V c 7) (fun _ => by dsimp only [dat0]) t d
theorem before8 (c : Dev nD) (t : Fin cfg0.N) (d) : (dat0 V c).before 8 t d = blk8 V c t :=
  before0_8_of V (dat0 V c) (A_eq0 V c 8) (fun _ => by dsimp only [dat0]) t d
theorem before9 (c : Dev nD) (t : Fin cfg0.N) (d) : (dat0 V c).before 9 t d = blk9 V c t :=
  before0_9_of V (dat0 V c) (A_eq0 V c 9) (fun _ => by dsimp only [dat0]) t d
theorem before10 (c : Dev nD) (t : Fin cfg0.N) (d) : (dat0 V c).before 10 t d = blk10 V c t :=
  before0_10_of V (dat0 V c) (A_eq0 V c 10) (fun _ => by dsimp only [dat0]) t d
theorem before11 (c : Dev nD) (t : Fin cfg0.N) (d) : (dat0 V c).before 11 t d = blk11 V c t :=
  before0_11_of V (dat0 V c) (A_eq0 V c 11) (fun _ => by dsimp only [dat0]) t d

/-- What the obligation asks of the output's buffer after a point. -/
def leavesOut (c : Dev nD) (t : Fin cfg0.N) : sProp 𝕄 :=
  match cfg0.idle 12 (cfg0.grid.coords t) with
  | true =>
    match (cfg0.win 12).flush t with
    | false => iprop(∃ d, owns (c : Thread nD τ) (win0_12.stage (cfg0.slots t 12)) fullShare ((dat0 V c).before 12 t d))
    | true => owns (c : Thread nD τ) (win0_12.stage (cfg0.slots t 12)) fullShare (outAt V c t)
  | false => owns (c : Thread nD τ) (win0_12.stage (cfg0.slots t 12)) fullShare (outAt V c t)

theorem leavesOut_last (c : Dev nD) (t : Fin cfg0.N) (h : k0_cond2 (grid0.coords t) = 1#1) :
    owns (c : Thread nD τ) (win0_12.stage (cfg0.slots t 12)) fullShare (outAt V c t) ⊢ (leavesOut V c t : sProp 𝕄) := by
  unfold leavesOut
  rw [idle_last t h]

theorem leavesOut_before (c : Dev nD) (t : Fin cfg0.N) (h : k0_cond2 (grid0.coords t) ≠ 1#1) :
    iprop(∃ d, owns (c : Thread nD τ) (win0_12.stage (cfg0.slots t 12)) fullShare ((dat0 V c).before 12 t d)) ⊢ (leavesOut V c t : sProp 𝕄) := by
  unfold leavesOut
  rw [idle_before t h, noflush_before t h]

def bodyPre (c : Dev nD) (t : Fin cfg0.N) : sProp 𝕄 :=
  iprop((dat0 V c).Φ t.castSucc ∗ (dat0 V c).owesAt () t.castSucc
    ∗ (∃ d, owns (c : Thread nD τ) (win0_0.stage (cfg0.slots t 0)) fullShare ((dat0 V c).before 0 t d)) ∗ (∃ d, owns (c : Thread nD τ) (win0_1.stage (cfg0.slots t 1)) fullShare ((dat0 V c).before 1 t d)) ∗ (∃ d, owns (c : Thread nD τ) (win0_2.stage (cfg0.slots t 2)) fullShare ((dat0 V c).before 2 t d)) ∗ (∃ d, owns (c : Thread nD τ) (win0_3.stage (cfg0.slots t 3)) fullShare ((dat0 V c).before 3 t d)) ∗ (∃ d, owns (c : Thread nD τ) (win0_4.stage (cfg0.slots t 4)) fullShare ((dat0 V c).before 4 t d)) ∗ (∃ d, owns (c : Thread nD τ) (win0_5.stage (cfg0.slots t 5)) fullShare ((dat0 V c).before 5 t d)) ∗ (∃ d, owns (c : Thread nD τ) (win0_6.stage (cfg0.slots t 6)) fullShare ((dat0 V c).before 6 t d)) ∗ (∃ d, owns (c : Thread nD τ) (win0_7.stage (cfg0.slots t 7)) fullShare ((dat0 V c).before 7 t d)) ∗ (∃ d, owns (c : Thread nD τ) (win0_8.stage (cfg0.slots t 8)) fullShare ((dat0 V c).before 8 t d)) ∗ (∃ d, owns (c : Thread nD τ) (win0_9.stage (cfg0.slots t 9)) fullShare ((dat0 V c).before 9 t d)) ∗ (∃ d, owns (c : Thread nD τ) (win0_10.stage (cfg0.slots t 10)) fullShare ((dat0 V c).before 10 t d)) ∗ (∃ d, owns (c : Thread nD τ) (win0_11.stage (cfg0.slots t 11)) fullShare ((dat0 V c).before 11 t d)) ∗ (∃ d, owns (c : Thread nD τ) (win0_12.stage (cfg0.slots t 12)) fullShare ((dat0 V c).before 12 t d)))
def bodyPost (c : Dev nD) (t : Fin cfg0.N) : sProp 𝕄 :=
  iprop((dat0 V c).Φ t.succ ∗ (dat0 V c).owesAt () t.succ
    ∗ owns (c : Thread nD τ) (win0_0.stage (cfg0.slots t 0)) fullShare (blk0 V c t) ∗ owns (c : Thread nD τ) (win0_1.stage (cfg0.slots t 1)) fullShare (blk1 V c t) ∗ owns (c : Thread nD τ) (win0_2.stage (cfg0.slots t 2)) fullShare (blk2 V c t) ∗ owns (c : Thread nD τ) (win0_3.stage (cfg0.slots t 3)) fullShare (blk3 V c t) ∗ owns (c : Thread nD τ) (win0_4.stage (cfg0.slots t 4)) fullShare (blk4 V c t) ∗ owns (c : Thread nD τ) (win0_5.stage (cfg0.slots t 5)) fullShare (blk5 V c t) ∗ owns (c : Thread nD τ) (win0_6.stage (cfg0.slots t 6)) fullShare (blk6 V c t) ∗ owns (c : Thread nD τ) (win0_7.stage (cfg0.slots t 7)) fullShare (blk7 V c t) ∗ owns (c : Thread nD τ) (win0_8.stage (cfg0.slots t 8)) fullShare (blk8 V c t) ∗ owns (c : Thread nD τ) (win0_9.stage (cfg0.slots t 9)) fullShare (blk9 V c t) ∗ owns (c : Thread nD τ) (win0_10.stage (cfg0.slots t 10)) fullShare (blk10 V c t) ∗ owns (c : Thread nD τ) (win0_11.stage (cfg0.slots t 11)) fullShare (blk11 V c t) ∗ leavesOut V c t)

/-- The stream the body reads at point `t`. -/
theorem stream_eq (c : Dev nD) (t : Fin cfg0.N) (f1 : BufTy.Contents (Elt F) (win0_0.stage (cfg0.slots t 0)).view.ty)
    (f14 : BufTy.Contents (Elt F) (Memref.whole cc0_scratch0 : Memref sig .tc .vmem S1024x768 .f32).view.ty)
    (h1 : (win0_0.stage (cfg0.slots t 0)).view.read (Elt F) f1 = blk0 V c t)
    (h14 : t.val ≠ 0 → (Memref.whole cc0_scratch0 : Memref sig .tc .vmem S1024x768 .f32).view.read (Elt F) f14 = streamAt V c t.val) :
    stream (grid0.coords t) (win0_0.stage (cfg0.slots t 0)) (Memref.whole cc0_scratch0) f1 f14 = streamAt V c t.val := by
  unfold stream
  by_cases h : t.val = 0
  · rw [if_pos ((isFirst_iff t).mpr h), h1]
    obtain rfl : t = ⟨0, by decide⟩ := Fin.ext h
    rfl
  · rw [if_neg (fun e => h ((isFirst_iff t).mp e)), h14 h]

set_option maxHeartbeats 4000000 in
theorem sound_body (c : Dev nD) (t : Fin cfg0.N) :
    bodyPre V c t ⊢ wp frame (wpE (defs₀ (F := F)) 𝒱₀ c none) Set.univ (bodyAt0 t) (fun _ => bodyPost V c t) := by
  unfold bodyPre bodyPost bodyAt0
  rw [show (dat0 V c).owesAt () t.succ = (dat0 V c).owesAt () t.castSucc from rfl, Phi_castSucc, Phi_succ]
  simp only [before0 V c t, before1 V c t, before2 V c t, before3 V c t, before4 V c t, before5 V c t, before6 V c t, before7 V c t, before8 V c t, before9 V c t, before10 V c t, before11 V c t]
  unfold Phi owns
  iintro ⟨⟨⟨%X, ⟨%f14, %e14, H14⟩, %hX⟩, ⟨%d15, %f15, %e15, H15⟩, ⟨%d16, %f16, %e16, H16⟩, ⟨%d17, %f17, %e17, H17⟩, ⟨%d18, %f18, %e18, H18⟩, ⟨%d19, %f19, %e19, H19⟩, ⟨%d20, %f20, %e20, H20⟩, ⟨%d21, %f21, %e21, H21⟩, ⟨%d22, %f22, %e22, H22⟩, Hr⟩, HO, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, %e10, H10⟩, ⟨%d11, %f11, %e11, H11⟩, ⟨%d12, %f12, %e12, H12⟩, ⟨%d13, %f13, %e13, H13⟩⟩
  subst e14
  iapply (wp_wand_r frame (wpE (defs₀ (F := F)) 𝒱₀ (c : Thread nD τ) none) Set.univ)
  isplitl [H1 H2 H3 H4 H5 H6 H7 H8 H9 H10 H11 H12 H13 H14 H15 H16 H17 H18 H19 H20 H21 H22]
  · iapply (whole c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) Set.univ f1 f2 f3 f4 f5 f6 f7 f8 f9 f10 f11 f12 f13 f14 f15 f16 f17 f18 f19 f20 f21 f22)
    iframe
  iintro %_ ⟨%g13, %g14, %g15, %g16, %g17, %g18, %g19, %g20, %g21, %g22, H1, H2, H3, H4, H5, H6, H7, H8, H9, H10, H11, H12, H13, H14, H15, H16, H17, H18, H19, H20, H21, H22, %h⟩
  obtain ⟨h14, hl, hb⟩ := h
  rw [stream_eq V c t f1 f14 e1 hX, e2, e3, e4, e5, e6, e7, e8, e9, e10, e11, ← streamAt_succ] at h14
  isplitl [H14 H15 H16 H17 H18 H19 H20 H21 H22 Hr]
  · isplitl [H14]
    · iexists _
      isplitl [H14]
      · iexists g14
        isplitr
        swap
        · iexact H14
        ipureintro
        rfl
      ipureintro
      exact fun _ => h14
    isplitl [H15]; · (iexists _, g15; iframe; ipureintro; rfl)
    isplitl [H16]; · (iexists _, g16; iframe; ipureintro; rfl)
    isplitl [H17]; · (iexists _, g17; iframe; ipureintro; rfl)
    isplitl [H18]; · (iexists _, g18; iframe; ipureintro; rfl)
    isplitl [H19]; · (iexists _, g19; iframe; ipureintro; rfl)
    isplitl [H20]; · (iexists _, g20; iframe; ipureintro; rfl)
    isplitl [H21]; · (iexists _, g21; iframe; ipureintro; rfl)
    isplitl [H22]; · (iexists _, g22; iframe; ipureintro; rfl)
    iexact Hr
  isplitl [HO]; · iexact HO
  isplitl [H1]; · (iexists f1; iframe; ipureintro; exact e1)
  isplitl [H2]; · (iexists f2; iframe; ipureintro; exact e2)
  isplitl [H3]; · (iexists f3; iframe; ipureintro; exact e3)
  isplitl [H4]; · (iexists f4; iframe; ipureintro; exact e4)
  isplitl [H5]; · (iexists f5; iframe; ipureintro; exact e5)
  isplitl [H6]; · (iexists f6; iframe; ipureintro; exact e6)
  isplitl [H7]; · (iexists f7; iframe; ipureintro; exact e7)
  isplitl [H8]; · (iexists f8; iframe; ipureintro; exact e8)
  isplitl [H9]; · (iexists f9; iframe; ipureintro; exact e9)
  isplitl [H10]; · (iexists f10; iframe; ipureintro; exact e10)
  isplitl [H11]; · (iexists f11; iframe; ipureintro; exact e11)
  isplitl [H12]; · (iexists f12; iframe; ipureintro; exact e12)
  by_cases hc : k0_cond2 (grid0.coords t) = 1#1
  · iapply (leavesOut_last V c t hc)
    unfold owns
    iexists g13
    isplitr
    swap
    · iexact H13
    ipureintro
    have hl := hl hc
    rw [stream_eq V c t f1 f14 e1 hX, e2, e3, e4, e5, e6, e7, e8, e9, e10, e11, e12] at hl
    exact hl
  · iapply (leavesOut_before V c t hc)
    obtain rfl := hb hc
    unfold owns
    iexists d13, g13
    isplitr
    swap
    · iexact H13
    ipureintro
    exact e13

theorem defs₀_row0 (t : Fin cfg0.N) : defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) 𝒱₀ () Set.univ := fun t => by
  rw [bigSep_W0, bigSep_W0, defs₀_row0]
  exact triple_restated (sound_body V c t) rfl .rfl fun _ => .rfl

end Cert.ModelIdeal.Run
-- ==== Proof.PI.HeadRun.lean ====
/-
  The head call over the buffers as it finds them: at each point its body leaves, in the result's block, the product of
  the rows with one block of the embedding's rows.
-/
module

public import proofs.«01_k».proof.Proof.PI.Trip
public import proofs.«01_k».proof.Proof.Gen.ModelIdeal.Launch
public import proofs.«01_k».proof.Proof.Gen.ModelIdeal.Points
public import proofs.«01_k».proof.Proof.Gen.ModelIdeal.Skeleton
public import Idealize.ShloMosaic.Lib.Pipeline.FrameBody
public import Idealize.ShloMosaic.Lib.Pipeline.FrameSuffix
public import Idealize.ShloMosaic.Lib.Exec
public import Idealize.ShloMosaic.Lib.Tactic

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! An input window's staging buffer holds its block at every point, fetched there or not, for any proof data
    whose array is as entered and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses -/

abbrev r1_0 : Rect S1024x768 := Rect.unit (s := S1024x768) ![0, 0] S1024x768.size inb_S1024x768_S1024x768_0_0
abbrev r1_1 : Rect S3200x768 := Rect.unit (s := S3200x768) ![0, 0] S3200x768.size inb_S3200x768_S3200x768_0_0
abbrev r1_2 : Rect S1024x3200 := Rect.unit (s := S1024x3200) ![0, 0] S1024x3200.size inb_S1024x3200_S1024x3200_0_0

/-! ## What the body leaves in each output window's buffer -/

/-- Window 2's staging buffer after the body, from the input windows' blocks: its 1 store as pieces, LAST
    FIRST. -/
def out1_2 (x0 : Vec F S1024x768 .bf16) (x1 : Vec F S3200x768 .f32) : Vec F S1024x3200 .f32 :=
  View.canon [⟨r1_2, k1_pay1 (View.ld x0 r1_0) (View.ld x1 r1_1)⟩]

/-- Its stores tile the buffer (checked by evaluation), so they cover it. -/
theorem cover1_2 (p0 : Vec F S1024x3200 .f32) (y : S1024x3200.Idx) :
    ∃ pc ∈ ([⟨r1_2, p0⟩] : List (View.Piece (Elt F) S1024x3200 .f32)), y ∈ pc.1.set :=
  View.cover_of_tiled [⟨r1_2, p0⟩] S1024x3200.size (by rfl) y

/-! ## The body's triple -/

set_option maxHeartbeats 1000000 in
/-- The kernel body on whole staging memrefs, the inputs' at read contents `xW` and the outputs' at anything, runs to
    the continuation holding the inputs' as they were and each output's at `out1_W` of the inputs': the printed functions
    are their skeletons (`Gen.*_eq_skeleton`), which `sl_exec` runs, through every part call. -/
theorem sound_kernel1 (c : Dev nD) (E : Set ℕ) (i : grid1.Coords) (arg1 : Memref sig .tc .vmem S1024x768 .bf16) (harg1 : arg1.IsWhole) (arg2 : Memref sig .tc .vmem S3200x768 .f32) (harg2 : arg2.IsWhole) (arg3 : Memref sig .tc .vmem S1024x3200 .f32) (harg3 : arg3.IsWhole)
    (x0 : Vec F S1024x768 .bf16) (x1 : Vec F S3200x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) 𝒱₀ c none) E (cc1_lm_head i arg1 harg1 arg2 harg2 arg3 harg3) K := by
  simp only [cc1_lm_head_eq_skeleton]; unfold cc1_lm_head_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The pipeline's proof data -/

/-- The proof data of pipeline 1 on core `c`: the arrays as the region finds them (`V`); after the body at
    point `t` each input's buffer at its block and each output's at `out1_W` of the input blocks; the invariant the
    class's; nothing owed;
    full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`, never `rfl`: Lib/Pipeline.lean `Dat`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' memrefs hold their blocks (`before1_W`), so `sound_kernel1` applies; the invariant and
    the core's `owes` pass through unread. -/
theorem sound_body1 (c : Dev nD) (t : Fin cfg1.N) :
    bodyPre1 V c t ⊢ wp frame (wpE (defs₀ (F := F)) 𝒱₀ c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated. -/
theorem body_obligation1 (c : Dev nD) : BodyObligation (dat1 (F := F) V c) (defs₀ (F := F)) 𝒱₀ () Set.univ := fun t => by
  rw [bigSep_W1, bigSep_W1, defs₀_row1]
  exact triple_restated (sound_body1 V c t) rfl .rfl fun _ => .rfl

end Cert.ModelIdeal.Run
-- ==== Proof.PI.Regions.lean ====
/-
  The run of the whole program: the reshape of the final norm's weight, the layers call and the head call, each entered
  from the buffers the one before it left. Every buffer's contents at the end are `W3`, a fold from the launch memory.
-/
module

public import proofs.«01_k».proof.Proof.PI.CallRun
public import proofs.«01_k».proof.Proof.PI.HeadRun
public import Idealize.ShloMosaic.Lib.Pipeline.RegionsLoop
public import Idealize.ShloMosaic.Lib.Pipeline.FrameSuffix
public import Idealize.ShloMosaic.Lib.Ring

@[expose] public section

set_option maxRecDepth 16384

noncomputable section

namespace Cert.ModelIdeal.Run

open Cert.ModelIdeal Cert.ModelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- @main's argument arrays, as TensorCore references: what the frame claim reads back. -/
abbrev argRefs : List (Ref sig .tc) := [main_arg0, main_arg1, main_arg2, main_arg3, main_arg4, main_arg5, main_arg6, main_arg7, main_arg8, main_arg9, main_arg10, main_arg11, main_arg12]

/-! ## The host stretches: none allocates a buffer, and each lists the references its operations write, in order,
    so that a reference absent from the list keeps its contents across the stretch -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_v0]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0` (region 0's entry). -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The same read at the TensorCore's references (what region 0's proof data take). -/
abbrev V1 : (c : Dev nD) → (b : Ref sig .tc) → Buf (Elt F) ((c : Thread nD τ).loc b) := fun c b => W1 m ρ c b
/-- At region 0's exit: its arrays at what the pipeline leaves (the inputs as entered, each output's write-backs
    folded: `Dat.arrAt … N`), every other buffer as entered (region 1's entry). -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- A reference that is none of region 0's OUTPUT arrays keeps its entry contents across it: an input window's
    array is never written back (`Dat.arrAt_in`, `A_eq0`); any other buffer is left as is. -/
theorem W2_of (c : Dev nD) (r : Ref sig .tc) (h : ∀ w : Fin cfg0.W, Pipeline.arrRef spec0 w = r → (cfg0.win w).isOut = false) :
    W2 m ρ c (Proc.devRef .tc r) = W1 m ρ c (Proc.devRef .tc r) := by
  by_cases hw : ∃ w : Fin cfg0.W, Pipeline.arrRef spec0 w = r
  · obtain ⟨w, rfl⟩ := hw
    exact (W2_arr m ρ c w).trans (((dat0 (V1 m ρ) c).arrAt_in w (h w rfl) _).trans (A_eq0 (V1 m ρ) c w))
  · exact W2_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (W2_of m ρ c a (argsIn0 a ha)).trans (W1_args m ρ c a ha)
/-- The same read at the TensorCore's references (region 0's exit contents). -/
abbrev V2 : (c : Dev nD) → (b : Ref sig .tc) → Buf (Elt F) ((c : Thread nD τ).loc b) := fun c b => W2 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, each output's write-backs
    folded: `Dat.arrAt … N`), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- A reference that is none of region 1's OUTPUT arrays keeps its entry contents across it: an input window's
    array is never written back (`Dat.arrAt_in`, `A_eq1`); any other buffer is left as is. -/
theorem W3_of (c : Dev nD) (r : Ref sig .tc) (h : ∀ w : Fin cfg1.W, Pipeline.arrRef spec1 w = r → (cfg1.win w).isOut = false) :
    W3 m ρ c (Proc.devRef .tc r) = W2 m ρ c (Proc.devRef .tc r) := by
  by_cases hw : ∃ w : Fin cfg1.W, Pipeline.arrRef spec1 w = r
  · obtain ⟨w, rfl⟩ := hw
    exact (W3_arr m ρ c w).trans (((dat1 (V2 m ρ) c).arrAt_in w (h w rfl) _).trans (A_eq1 (V2 m ρ) c w))
  · exact W3_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (W3_of m ρ c a (argsIn1 a ha)).trans (W2_args m ρ c a ha)
/-- The same read at the TensorCore's references (region 1's exit contents). -/
abbrev V3 : (c : Dev nD) → (b : Ref sig .tc) → Buf (Elt F) ((c : Thread nD τ).loc b) := fun c b => W3 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W3`, the generator register at some state. -/
abbrev Tₙ (c : Dev nD) : sProp 𝕄 := iprop(StableHlo.held (c : Thread nD τ) (Pipeline.ucRefs τ sig) (W3 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W1`, left at `W2`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) (A_eq0 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Phi (V1 m ρ) c 0 from by dsimp only [pdats, dat0]; rfl]
    refine (show _ ⊢ (Pipeline.ΦA spec0 c : sProp 𝕄) from ?_).trans (Phi_of_start (V1 m ρ) c)
    unfold Pipeline.ΦA
    iintro ⟨Hp, -, Hr⟩
    isplitl [Hr]; · iexact Hr
    iexact Hp
  hout c := by
    rw [Pipeline.ownSems0_none, show (pdats m ρ 0 c).Φ (Fin.last _) = Phi (V1 m ρ) c 4 from by dsimp only [pdats, dat0]; rfl]
    refine (Phi_to_end (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W2`, left at `W3`
    (what the launch reads at the end). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) (A_eq1 (V2 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

/-- @main's 3 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide
-- `iapply`-style unification of the run's implicit arguments unfolds plain definitions in a metavariable's type
set_option backward.isDefEq.respectTransparency.types false in
/-- The run of both calls: every buffer ends at the last boundary's contents and every counter at zero. -/
theorem run : θ_run defs (onTc (τ := τ) (main (F := F))) ⟨m, fun _ => 0, ρ⟩
    (fun r => (∀ c : Dev nD, ∀ b ∈ Pipeline.ucRefs τ sig, r.2.mem (((c : Thread nD τ)).1, b) = W3 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h hz => ⟨h, funext fun g => hz g (.inr (no_unscoped g.2))⟩)

/-- The run leaves the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12))
      ∧ r.2.sem = fun _ => 0) :=
  (θ_run defs _ _).mono (fun r h => ⟨fun c =>
    have ha : ∀ a ∈ argRefs, ¬ (Proc.devRef .tc a : DevRef τ sig).isScoped → r.2.mem ((c.tc : Thread nD τ).loc a) = m ((c.tc : Thread nD τ).loc a) :=
      fun a hm hs => (h.1 c _ (mem_uc a hs)).trans (W3_args m ρ c a hm)
    ⟨ha main_arg0 (by decide) (by decide), ha main_arg1 (by decide) (by decide), ha main_arg2 (by decide) (by decide), ha main_arg3 (by decide) (by decide), ha main_arg4 (by decide) (by decide), ha main_arg5 (by decide) (by decide), ha main_arg6 (by decide) (by decide), ha main_arg7 (by decide) (by decide), ha main_arg8 (by decide) (by decide), ha main_arg9 (by decide) (by decide), ha main_arg10 (by decide) (by decide), ha main_arg11 (by decide) (by decide), ha main_arg12 (by decide) (by decide)⟩, h.2⟩) (run m ρ)

end Cert.ModelIdeal.Run
-- ==== Proof.V.Block.lean ====
/-
  The selective scan of one block of eight time steps, entry by entry: each step is
  `h' = exp2 (a * dt) * h + b * (dt * u)`, and a step's row is the sum of `c * h'` over the sixteen states, plus the
  skip, gated. Both sequences' unrolled blocks are this.
-/
module

public import proofs.«01_k».proof.Proof.PI.Steps
public import Idealize.ShloMosaic.Lib.Pointwise
public import Idealize.ShloMosaic.Lib.Claim

@[expose] public section

set_option maxRecDepth 16384

noncomputable section

namespace Cert.ModelIdeal.Run

open Cert.ModelIdeal Cert.ModelIdeal.Gen
open Idealize.ShloMosaic Idealize.ShloMosaic.TcCoe Idealize.ShloMosaic.Tactic

/-- One time step of the scan. -/
def stp (a : FVec Ideal S16x1536 .f32) (dt u : Vec Ideal S1x8x1536 .f32) (b : Vec Ideal S1x16x8 .f32) (i : Fin 8)
    (h : Fin 16 → Fin 1536 → EReal) (n : Fin 16) (d : Fin 1536) : EReal :=
  Ideal.exp2 (a (ix2 n d) * dt (ix3 0 i d)) * h n d + b (ix3 0 n i) * (dt (ix3 0 i d) * u (ix3 0 i d))

/-- The first `i` steps of a block. -/
def stps (a : FVec Ideal S16x1536 .f32) (dt u : Vec Ideal S1x8x1536 .f32) (b : Vec Ideal S1x16x8 .f32)
    (h : Fin 16 → Fin 1536 → EReal) : ℕ → Fin 16 → Fin 1536 → EReal
  | 0 => h
  | i + 1 => if hi : i < 8 then stp a dt u b ⟨i, hi⟩ (stps a dt u b h i) else stps a dt u b h i

/-- A sum over sixteen states, in its two halves. -/
theorem sum_halves (f : Fin 16 → EReal) :
    ∑ n, f n = ∑ x : Fin 8, f ⟨x.val, by omega⟩ + ∑ x : Fin 8, f ⟨8 + x.val, by omega⟩ :=
  Fin.sum_univ_add (a := 8) (b := 8) f

variable (a h : FVec Ideal S16x1536 .f32) (d0 : Vec Ideal S1x1x1536 .f32) (dt u : Vec Ideal S1x8x1536 .f32)
  (b cc : Vec Ideal S1x16x8 .f32) (zs : Vec Ideal S1x8x1536 .bf16) (n : Fin 16) (d : Fin 1536)

theorem hA2_apply : hA2 a h dt u b (ix2 n d) = stps a dt u b (fun n d => h (ix2 n d)) 3 n d := by
  unfold hA2
  unfold_payloads
  pointwise []
  simp only [dite_eq_ite, ite_self]
  rfl

theorem hA5_apply : hA5 a h dt u b (ix2 n d) = stps a dt u b (fun n d => h (ix2 n d)) 6 n d := by
  unfold hA5
  unfold_payloads
  pointwise []
  simp only [dite_eq_ite, ite_self, hA2_apply]
  rfl

theorem hA_apply : hA a h dt u b (ix2 n d) = stps a dt u b (fun n d => h (ix2 n d)) 8 n d := by
  unfold hA
  unfold_payloads
  pointwise []
  simp only [dite_eq_ite, ite_self, hA5_apply]
  rfl

/-- Step by step: what holds at each of the eight steps holds at every step. -/
theorem forall8 {p : Fin 8 → Prop} (h0 : p 0) (h1 : p 1) (h2 : p 2) (h3 : p 3) (h4 : p 4) (h5 : p 5) (h6 : p 6) (h7 : p 7) (i : Fin 8) :
    p i := by
  fin_cases i <;> assumption

/-- The gated row of step `i` of a block of the first sequence. -/
theorem yA_apply (i : Fin 8) : yA a d0 h dt u b cc zs (ix3 0 i d)
    = (∑ n, cc (ix3 0 n i) * stps a dt u b (fun n d => h (ix2 n d)) (i.val + 1) n d + u (ix3 0 i d) * d0 (ix3 0 0 d)) * zs (ix3 0 i d) := by
  rw [sum_halves]
  unfold yA
  unfold_payloads
  induction i using forall8 <;>
    (pointwise []; simp only [dite_eq_ite, ite_self, hA5_apply, hA2_apply]; rfl)

theorem hB0_apply : hB0 a h dt u b (ix2 n d) = stps a dt u b (fun n d => h (ix2 n d)) 1 n d := by
  unfold hB0
  unfold_payloads
  pointwise []
  simp only [dite_eq_ite, ite_self]
  rfl

theorem hB2_apply : hB2 a h dt u b (ix2 n d) = stps a dt u b (fun n d => h (ix2 n d)) 3 n d := by
  unfold hB2
  unfold_payloads
  pointwise []
  simp only [dite_eq_ite, ite_self, hB0_apply]
  rfl

theorem hB4_apply : hB4 a h dt u b (ix2 n d) = stps a dt u b (fun n d => h (ix2 n d)) 5 n d := by
  unfold hB4
  unfold_payloads
  pointwise []
  simp only [dite_eq_ite, ite_self, hB2_apply]
  rfl

theorem hB_apply : hB a h dt u b (ix2 n d) = stps a dt u b (fun n d => h (ix2 n d)) 8 n d := by
  unfold hB
  unfold_payloads
  pointwise []
  simp only [dite_eq_ite, ite_self, hB4_apply]
  rfl

/-- The gated row of step `i` of a block of the second sequence. -/
theorem yB_apply (i : Fin 8) : yB a d0 h dt u b cc zs (ix3 0 i d)
    = (∑ n, cc (ix3 0 n i) * stps a dt u b (fun n d => h (ix2 n d)) (i.val + 1) n d + u (ix3 0 i d) * d0 (ix3 0 0 d)) * zs (ix3 0 i d) := by
  rw [sum_halves]
  unfold yB
  unfold_payloads
  induction i using forall8 <;>
    (pointwise []; simp only [dite_eq_ite, ite_self, hB4_apply, hB2_apply, hB0_apply]; rfl)

end Cert.ModelIdeal.Run
-- ==== Proof.V.Pro.lean ====
/-
  The layers kernel before its scan, entry by entry: the normed rows' two projections, the causal convolution with its
  activation, the projections of it to the step width, `B` and `C`, and the decay rates. Row `512 b + t` of the stream
  is token `t` of sequence `b`.
-/
module

public import proofs.«01_k».proof.Proof.PI.Steps
public import proofs.«01_k».proof.Proof.V.Spec
public import Idealize.ShloMosaic.Lib.Pointwise
public import Idealize.ShloMosaic.Lib.Claim
public import Idealize.ShloMosaic.Lib.Pipeline.ValueKit

@[expose] public section

set_option maxRecDepth 16384

noncomputable section

namespace Cert.ModelIdeal.Run

open Cert.ModelIdeal Cert.ModelIdeal.Gen
open Idealize.ShloMosaic Idealize.ShloMosaic.TcCoe Idealize.ShloMosaic.Tactic

/-- A layer's parameters, read off the blocks of its weights. -/
def par (nw : Vec Ideal S1x1x768 .f32) (win : Vec Ideal S1x3072x768 .bf16) (cw : Vec Ideal S1x4x1536 .f32)
    (cb : Vec Ideal S1x1x1536 .f32) (xp : Vec Ideal S1x80x1536 .bf16) (wdt : Vec Ideal S1x1536x48 .bf16) (dtb : Vec Ideal S1x1x1536 .f32)
    (al : Vec Ideal S1x16x1536 .f32) (d : Vec Ideal S1x1x1536 .f32) (wo : Vec Ideal S1x768x1536 .bf16) : Mamba.Par where
  nw j := nw (ix3 0 0 j)
  win e k := win (ix3 0 e k)
  cw k j := cw (ix3 0 k j)
  cb j := cb (ix3 0 0 j)
  xp e j := xp (ix3 0 e j)
  wdt j r := wdt (ix3 0 j r)
  dtb j := dtb (ix3 0 0 j)
  al n j := al (ix3 0 n j)
  dd j := d (ix3 0 0 j)
  wo j e := wo (ix3 0 j e)

/-- A row of the stream. -/
def row (x : Vec Ideal S1024x768 .f32) (r : Fin 1024) : Fin 768 → EReal := fun j => x (ix2 r j)

/-- The rows of a sequence. -/
def seq (x : Vec Ideal S1024x768 .f32) (b : Fin 2) (t : ℕ) : Fin 768 → EReal :=
  if h : t < 512 then row x ⟨512 * b.val + t, by omega⟩ else fun _ => 0

theorem seq_eq (x : Vec Ideal S1024x768 .f32) (b : Fin 2) (t : ℕ) (r : Fin 1024) (ht : t < 512) (hr : 512 * b.val + t = r.val) :
    seq x b t = row x r := by
  unfold seq
  rw [dif_pos ht]
  congr 1
  exact Fin.ext hr

variable (x : Vec Ideal S1024x768 .f32) (nw : Vec Ideal S1x1x768 .f32) (win : Vec Ideal S1x3072x768 .bf16) (cw : Vec Ideal S1x4x1536 .f32)
  (cb : Vec Ideal S1x1x1536 .f32) (xp : Vec Ideal S1x80x1536 .bf16) (wdt : Vec Ideal S1x1536x48 .bf16) (dtb : Vec Ideal S1x1x1536 .f32)
  (al : Vec Ideal S1x16x1536 .f32) (dd : Vec Ideal S1x1x1536 .f32) (wo : Vec Ideal S1x768x1536 .bf16)

/-- The weights' loads, entry by entry. -/
theorem winU_apply (d : Fin 1536) (k : Fin 768) : winU win (ix3 0 d k) = win (ix3 0 ⟨d.val, by omega⟩ k) :=
  View.ld_unit_apply_of win _ _ _ _ _ fun a => match a with
    | 0 => rfl
    | 1 => (Nat.zero_add _).symm
    | 2 => (Nat.zero_add _).symm

theorem winZ_apply (d : Fin 1536) (k : Fin 768) : winZ win (ix3 0 d k) = win (ix3 0 ⟨1536 + d.val, by omega⟩ k) :=
  View.ld_unit_apply_of win _ _ _ _ _ fun a => match a with
    | 0 => rfl
    | 1 => rfl
    | 2 => (Nat.zero_add _).symm

theorem xpDt_apply (r : Fin 48) (d : Fin 1536) : xpDt xp (ix3 0 r d) = xp (ix3 0 ⟨r.val, by omega⟩ d) :=
  View.ld_unit_apply_of xp _ _ _ _ _ fun a => match a with
    | 0 => rfl
    | 1 => (Nat.zero_add _).symm
    | 2 => (Nat.zero_add _).symm

theorem xpB_apply (n : Fin 16) (d : Fin 1536) : xpB xp (ix3 0 n d) = xp (ix3 0 ⟨48 + n.val, by omega⟩ d) :=
  View.ld_unit_apply_of xp _ _ _ _ _ fun a => match a with
    | 0 => rfl
    | 1 => rfl
    | 2 => (Nat.zero_add _).symm

theorem xpC_apply (n : Fin 16) (d : Fin 1536) : xpC xp (ix3 0 n d) = xp (ix3 0 ⟨64 + n.val, by omega⟩ d) :=
  View.ld_unit_apply_of xp _ _ _ _ _ fun a => match a with
    | 0 => rfl
    | 1 => rfl
    | 2 => (Nat.zero_add _).symm

theorem tap0_apply (d : Fin 1536) : tap0 cw (ix3 0 0 d) = cw (ix3 0 0 d) :=
  View.ld_unit_apply_of cw _ _ _ _ _ fun a => match a with
    | 0 => rfl
    | 1 => rfl
    | 2 => (Nat.zero_add _).symm

theorem tap1_apply (d : Fin 1536) : tap1 cw (ix3 0 0 d) = cw (ix3 0 1 d) :=
  View.ld_unit_apply_of cw _ _ _ _ _ fun a => match a with
    | 0 => rfl
    | 1 => rfl
    | 2 => (Nat.zero_add _).symm

theorem tap2_apply (d : Fin 1536) : tap2 cw (ix3 0 0 d) = cw (ix3 0 2 d) :=
  View.ld_unit_apply_of cw _ _ _ _ _ fun a => match a with
    | 0 => rfl
    | 1 => rfl
    | 2 => (Nat.zero_add _).symm

theorem tap3_apply (d : Fin 1536) : tap3 cw (ix3 0 0 d) = cw (ix3 0 3 d) :=
  View.ld_unit_apply_of cw _ _ _ _ _ fun a => match a with
    | 0 => rfl
    | 1 => rfl
    | 2 => (Nat.zero_add _).symm

/-- The projections. -/
theorem pay72_apply (r : Fin 1024) (d : Fin 1536) : k0_pay72 x nw (winU win) (ix2 r d) = Mamba.xu (par nw win cw cb xp wdt dtb al dd wo) (row x r) d := by
  unfold_payloads
  pointwise []
  exact Finset.sum_congr rfl fun k _ => congrArg (_ * ·) (winU_apply win d k)

theorem pay73_apply (r : Fin 1024) (d : Fin 1536) : k0_pay73 x nw (winZ win) (ix2 r d) = Mamba.zz (par nw win cw cb xp wdt dtb al dd wo) (row x r) d := by
  unfold_payloads
  pointwise []
  exact Finset.sum_congr rfl fun k _ => congrArg (_ * ·) (winZ_apply win d k)

/-- The convolution's mask: a row's tap `s` back counts when its position is at least `s`. -/
theorem mask : ∀ (s : Fin 4) (r : Fin 1024), IntOp.cmpi .sge (IntOp.remsi .vector (BitVec.ofNat 32 r.val) 512#32) (BitVec.ofNat 32 s.val)
    = if s.val ≤ r.val % 512 then 1#1 else 0#1 := by
  decide +kernel

theorem pos_apply (r : Fin 1024) : k0_pay74 (ix2 r 0) = IntOp.remsi .vector (BitVec.ofNat 32 r.val) 512#32 := by
  unfold_payloads
  pointwise []

theorem taps_apply (v21 v31 v34 : FVec Ideal S1024x1536 .f32) (v27 : IVec S1024x1 32) (v41 v55 v69 : Vec Ideal S1x1x1536 .f32)
    (r : Fin 1024) (d : Fin 1536) : k0_pay77 v21 v27 v31 v34 v41 v55 v69 (ix2 r d)
      = v31 (ix2 r d) + Scalar.select (IntOp.cmpi .sge (v27 (ix2 r 0)) 1#32) (v34 (ix2 r d) * v41 (ix3 0 0 d)) 0
        + Scalar.select (IntOp.cmpi .sge (v27 (ix2 r 0)) 2#32)
            ((if h : r.val < 2 then 0 else v21 (ix2 ⟨r.val - 2, by omega⟩ d)) * v55 (ix3 0 0 d)) 0
        + Scalar.select (IntOp.cmpi .sge (v27 (ix2 r 0)) 3#32)
            ((if h : r.val < 3 then 0 else v21 (ix2 ⟨r.val - 3, by omega⟩ d)) * v69 (ix3 0 0 d)) 0 := by
  unfold_payloads
  pointwise []

theorem pay75_apply (v : Vec Ideal S1x1x1536 .f32) (r : Fin 1024) (d : Fin 1536) : k0_pay75 x nw (winU win) v (ix2 r d) = k0_pay72 x nw (winU win) (ix2 r d) * v (ix3 0 0 d) := by
  unfold k0_pay75
  pointwise []

theorem pay76_apply (r : Fin 1024) (d : Fin 1536) : k0_pay76 x nw (winU win) (ix2 r d)
    = if h : r.val < 1 then 0 else k0_pay72 x nw (winU win) (ix2 ⟨r.val - 1, by omega⟩ d) := by
  unfold k0_pay76
  pointwise []

/-- A masked tap. -/
theorem select_mask (s : Fin 4) (r : Fin 1024) (v w : EReal) :
    Scalar.select (IntOp.cmpi .sge (IntOp.remsi .vector (BitVec.ofNat 32 r.val) 512#32) (BitVec.ofNat 32 s.val)) v w
      = if s.val ≤ r.val % 512 then v else w := by
  rw [mask]
  split <;> rfl

/-- The convolution of sequence `b` at token `t`. -/
theorem conv_apply (b : Fin 2) (t : ℕ) (r : Fin 1024) (ht : t < 512) (hr : 512 * b.val + t = r.val) (d : Fin 1536) :
    conv x nw win cw (ix2 r d) = ∑ k : Fin 4, (if h : k.val < 3 then Mamba.carried (par nw win cw cb xp wdt dtb al dd wo) (seq x b) t ⟨k.val, h⟩ d
      else Mamba.xu (par nw win cw cb xp wdt dtb al dd wo) (seq x b t) d) * cw (ix3 0 k d) := by
  have hm : r.val % 512 = t := by omega
  have hs : ∀ (s : ℕ) (hst : s ≤ t), Mamba.xu (par nw win cw cb xp wdt dtb al dd wo) (row x ⟨r.val - s, by omega⟩) d = Mamba.xu (par nw win cw cb xp wdt dtb al dd wo) (seq x b (t - s)) d := fun s hst => by
    rw [seq_eq x b (t - s) ⟨r.val - s, by omega⟩ (by omega) (by show _ = r.val - s; omega)]
  have e1 := select_mask 1 r
  have e2 := select_mask 2 r
  have e3 := select_mask 3 r
  rw [hm] at e1 e2 e3
  unfold conv
  rw [taps_apply, pos_apply]
  erw [e1, e2, e3]
  rw [pay75_apply, pay76_apply]
  rw [show tap0 cw (ix3 0 0 d) = _ from tap0_apply cw d, show tap1 cw (ix3 0 0 d) = _ from tap1_apply cw d,
    show tap2 cw (ix3 0 0 d) = _ from tap2_apply cw d, show tap3 cw (ix3 0 0 d) = _ from tap3_apply cw d]
  simp only [pay72_apply x nw win cw cb xp wdt dtb al dd wo]
  rw [Fin.sum_univ_four, ← seq_eq x b t r ht hr]
  have hk : ∀ (k s : ℕ) (hks : k + s = 3) (hs' : 0 < s) (hrs : ¬ r.val < s → r.val - s < 1024) (w : EReal),
      (if s ≤ t then (if h : r.val < s then 0 else Mamba.xu (par nw win cw cb xp wdt dtb al dd wo) (row x ⟨r.val - s, hrs h⟩) d) * w else 0)
        = Mamba.carried (par nw win cw cb xp wdt dtb al dd wo) (seq x b) t ⟨k, by omega⟩ d * w := by
    intro k s hks hs' hrs w
    unfold Mamba.carried
    by_cases h : s ≤ t
    · rw [if_pos h, dif_neg (by omega), if_neg (by show ¬ t + k < 3; omega), hs s h]
      simp only [show t + k - 3 = t - s by omega]
    · rw [if_neg h, if_pos (by show t + k < 3; omega), zero_mul]
  have h0 := hk 0 3 rfl (by decide) (fun _ => by omega) (cw (ix3 0 0 d))
  have h1 := hk 1 2 rfl (by decide) (fun _ => by omega) (cw (ix3 0 1 d))
  have h2 := hk 2 1 rfl (by decide) (fun _ => by omega) (cw (ix3 0 2 d))
  show Mamba.xu (par nw win cw cb xp wdt dtb al dd wo) (seq x b t) d * cw (ix3 0 3 d)
    + (if 1 ≤ t then (if h : r.val < 1 then 0 else Mamba.xu (par nw win cw cb xp wdt dtb al dd wo) (row x ⟨r.val - 1, _⟩) d) * cw (ix3 0 2 d) else 0)
    + (if 2 ≤ t then (if h : r.val < 2 then 0 else Mamba.xu (par nw win cw cb xp wdt dtb al dd wo) (row x ⟨r.val - 2, _⟩) d) * cw (ix3 0 1 d) else 0)
    + (if 3 ≤ t then (if h : r.val < 3 then 0 else Mamba.xu (par nw win cw cb xp wdt dtb al dd wo) (row x ⟨r.val - 3, _⟩) d) * cw (ix3 0 0 d) else 0) = _
  rw [h0, h1, h2]
  simp only [dif_pos (show ((0 : Fin 4)).val < 3 by decide), dif_pos (show ((1 : Fin 4)).val < 3 by decide),
    dif_pos (show ((2 : Fin 4)).val < 3 by decide), dif_neg (show ¬ ((3 : Fin 4)).val < 3 by decide)]
  show _ = Mamba.carried (par nw win cw cb xp wdt dtb al dd wo) (seq x b) t ⟨0, by omega⟩ d * _ + Mamba.carried (par nw win cw cb xp wdt dtb al dd wo) (seq x b) t ⟨1, by omega⟩ d * _
    + Mamba.carried (par nw win cw cb xp wdt dtb al dd wo) (seq x b) t ⟨2, by omega⟩ d * _ + _
  ac_rfl

end Cert.ModelIdeal.Run
-- ==== Proof.V.Mid.lean ====
/-
  The layers kernel up to and after its scan, entry by entry: the scan's inputs are the formulas' of the same token, the
  decay `exp2 (-1/ln 2 * exp A * dt)` is the formulas' `exp (dt * -exp A)`, so the state carried from block to block is
  the formulas' state, each gated row the formulas' row, and the stream after the layer the formulas' stream.
-/
module

public import proofs.«01_k».proof.Proof.PI.Trip
public import proofs.«01_k».proof.Proof.PI.Whole
public import proofs.«01_k».proof.Proof.V.Block
public import proofs.«01_k».proof.Proof.V.Pro

@[expose] public section

set_option maxRecDepth 16384

noncomputable section

namespace Cert.ModelIdeal.Run

open Cert.ModelIdeal Cert.ModelIdeal.Gen
open Idealize.ShloMosaic Idealize.ShloMosaic.TcCoe Idealize.ShloMosaic.Tactic

variable (x : Vec Ideal S1024x768 .f32) (nw : Vec Ideal S1x1x768 .f32) (win : Vec Ideal S1x3072x768 .bf16) (cw : Vec Ideal S1x4x1536 .f32)
  (cb : Vec Ideal S1x1x1536 .f32) (xp : Vec Ideal S1x80x1536 .bf16) (wdt : Vec Ideal S1x1536x48 .bf16) (dtb : Vec Ideal S1x1x1536 .f32)
  (al : Vec Ideal S1x16x1536 .f32) (dd : Vec Ideal S1x1x1536 .f32) (wo : Vec Ideal S1x768x1536 .bf16)

/-! ### The two named constants -/

/-- The threshold of the softplus is never passed. -/
theorem never_eq : Named.named (F := Ideal) Cert.ModelIdeal.κ "never" (φ := .f32) 0x41A00000#32 = ⊤ := rfl

theorem rate_eq : (rate : Ideal .f32) = ((-((Real.log 2)⁻¹) : ℝ) : EReal) := rfl

/-- Base two at `-1/ln 2` times an exponent is base `e` at the exponent negated. -/
theorem exp2_rate (y : EReal) : Ideal.exp2 (((-((Real.log 2)⁻¹) : ℝ) : EReal) * y) = Ideal.exp (-y) := by
  have hl : 0 < Real.log 2 := Real.log_pos (by norm_num)
  have hc : -((Real.log 2)⁻¹) < 0 := neg_neg_of_pos (inv_pos.mpr hl)
  induction y using EReal.rec with
  | bot => rw [EReal.coe_mul_bot_of_neg hc, EReal.neg_bot]; rfl
  | top => rw [EReal.coe_mul_top_of_neg hc, EReal.neg_top]; rfl
  | coe r =>
    rw [← EReal.coe_mul, ← EReal.coe_neg]
    show ((Real.rpow 2 _ : ℝ) : EReal) = ((Real.exp _ : ℝ) : EReal)
    congr 1
    show (2 : ℝ) ^ (-(Real.log 2)⁻¹ * r : ℝ) = Real.exp (-r)
    rw [Real.rpow_def_of_pos (by norm_num)]
    congr 1
    field_simp

/-- The scan's decay rates. -/
theorem a_apply (n : Fin 16) (d : Fin 1536) : k0_pay1 (k0_pay342 al) rate (ix2 n d) = rate * Ideal.exp (al (ix3 0 n d)) := by
  unfold_payloads
  pointwise []

/-! ### The scan's inputs -/

/-- The activated convolution. -/
theorem vU_apply (b : Fin 2) (t : ℕ) (q : Fin 128) (i : Fin 8) (ht : t < 512) (hr : 512 * b.val + t = q.val * 8 + i.val) (d : Fin 1536) :
    vU x nw win cw cb (ix3 q i d) = Mamba.uAt (par nw win cw cb xp wdt dtb al dd wo) (seq x b) t d := by
  unfold vU
  unfold_payloads
  pointwise []
  rw [conv_apply x nw win cw cb xp wdt dtb al dd wo b t ⟨q.val * 8 + i.val, by omega⟩ ht hr d]
  rfl

/-- The gate. -/
theorem vZ_apply (b : Fin 2) (t : ℕ) (q : Fin 128) (i : Fin 8) (ht : t < 512) (hr : 512 * b.val + t = q.val * 8 + i.val) (d : Fin 1536) :
    vZ x nw win (ix3 q i d) = Mamba.silu (Mamba.zz (par nw win cw cb xp wdt dtb al dd wo) (seq x b t) d) := by
  have hz (cv : FVec Ideal S1024x1536 .f32) : k0_pay80 cv (ix3 q i d)
      = cv (ix2 ⟨q.val * 8 + i.val, by omega⟩ d) * Ideal.logistic (cv (ix2 ⟨q.val * 8 + i.val, by omega⟩ d)) := by
    unfold_payloads
    pointwise []
  unfold vZ
  rw [hz, pay73_apply x nw win cw cb xp wdt dtb al dd wo, ← seq_eq x b t ⟨q.val * 8 + i.val, by omega⟩ ht hr]
  rfl

/-- The activated convolution as the projections take it. -/
theorem act_apply (b : Fin 2) (t : ℕ) (r : Fin 1024) (ht : t < 512) (hr : 512 * b.val + t = r.val) (d : Fin 1536) :
    (conv x nw win cw (ix2 r d) + cb (ix3 0 0 d)) * Ideal.logistic (conv x nw win cw (ix2 r d) + cb (ix3 0 0 d))
      = Mamba.uAt (par nw win cw cb xp wdt dtb al dd wo) (seq x b) t d := by
  rw [conv_apply x nw win cw cb xp wdt dtb al dd wo b t r ht hr d]
  rfl

/-- The projection to the step's rank. -/
theorem low_apply (b : Fin 2) (t : ℕ) (r : Fin 1024) (ht : t < 512) (hr : 512 * b.val + t = r.val) (n : Fin 48) :
    k0_pay84 (conv x nw win cw) cb (xpDt xp) (ix2 r n) = Mamba.xd (par nw win cw cb xp wdt dtb al dd wo) (Mamba.uAt (par nw win cw cb xp wdt dtb al dd wo) (seq x b) t) ⟨n.val, by omega⟩ := by
  unfold_payloads
  pointwise []
  refine Finset.sum_congr rfl fun d _ => ?_
  rw [act_apply x nw win cw cb xp wdt dtb al dd wo b t r ht hr d]
  exact congrArg (_ * ·) (xpDt_apply xp n d)

/-- The step widths. -/
theorem vDt_apply (b : Fin 2) (t : ℕ) (q : Fin 128) (i : Fin 8) (ht : t < 512) (hr : 512 * b.val + t = q.val * 8 + i.val) (d : Fin 1536) :
    vDt x nw win cw cb xp wdt dtb (ix3 q i d) = Mamba.dt (par nw win cw cb xp wdt dtb al dd wo) (Mamba.uAt (par nw win cw cb xp wdt dtb al dd wo) (seq x b) t) d := by
  have hz (v : FVec Ideal S1024x48 .bf16) : k0_pay85 v wdt dtb (ix3 q i d)
      = Mamba.softplus (∑ k, v (ix2 ⟨q.val * 8 + i.val, by omega⟩ k) * wdt (ix3 0 d k) + dtb (ix3 0 0 d)) := by
    unfold_payloads
    pointwise [never_eq]
    rw [if_neg not_top_lt]
    rfl
  unfold vDt
  rw [hz]
  simp only [low_apply x nw win cw cb xp wdt dtb al dd wo b t ⟨q.val * 8 + i.val, by omega⟩ ht hr]
  rfl

/-- `B`. -/
theorem vB_apply (b : Fin 2) (t : ℕ) (q : Fin 128) (i : Fin 8) (ht : t < 512) (hr : 512 * b.val + t = q.val * 8 + i.val) (n : Fin 16) :
    vB x nw win cw cb xp (ix3 q n i) = Mamba.xd (par nw win cw cb xp wdt dtb al dd wo) (Mamba.uAt (par nw win cw cb xp wdt dtb al dd wo) (seq x b) t) ⟨48 + n.val, by omega⟩ := by
  have hz : k0_pay82 (conv x nw win cw) cb (xpB xp) (ix2 n ⟨8 * q.val + i.val, by omega⟩)
      = Mamba.xd (par nw win cw cb xp wdt dtb al dd wo) (Mamba.uAt (par nw win cw cb xp wdt dtb al dd wo) (seq x b) t) ⟨48 + n.val, by omega⟩ := by
    unfold_payloads
    pointwise []
    refine Finset.sum_congr rfl fun d _ => ?_
    rw [act_apply x nw win cw cb xp wdt dtb al dd wo b t ⟨8 * q.val + i.val, by omega⟩ ht (by show _ = 8 * q.val + i.val; omega) d, mul_comm]
    exact congrArg (_ * ·) (xpB_apply xp n d)
  exact hz

/-- `C`. -/
theorem vC_apply (b : Fin 2) (t : ℕ) (q : Fin 128) (i : Fin 8) (ht : t < 512) (hr : 512 * b.val + t = q.val * 8 + i.val) (n : Fin 16) :
    vC x nw win cw cb xp (ix3 q n i) = Mamba.xd (par nw win cw cb xp wdt dtb al dd wo) (Mamba.uAt (par nw win cw cb xp wdt dtb al dd wo) (seq x b) t) ⟨64 + n.val, by omega⟩ := by
  have hz : k0_pay83 (conv x nw win cw) cb (xpC xp) (ix2 n ⟨8 * q.val + i.val, by omega⟩)
      = Mamba.xd (par nw win cw cb xp wdt dtb al dd wo) (Mamba.uAt (par nw win cw cb xp wdt dtb al dd wo) (seq x b) t) ⟨64 + n.val, by omega⟩ := by
    unfold_payloads
    pointwise []
    refine Finset.sum_congr rfl fun d _ => ?_
    rw [act_apply x nw win cw cb xp wdt dtb al dd wo b t ⟨8 * q.val + i.val, by omega⟩ ht (by show _ = 8 * q.val + i.val; omega) d, mul_comm]
    exact congrArg (_ * ·) (xpC_apply xp n d)
  exact hz

end Cert.ModelIdeal.Run
-- ==== Proof.V.Scan.lean ====
/-
  The layers kernel's scan and the stream after it: the states before block `k` are the formulas' states before token
  `8 k`, each gated row is the formulas' row, and so a layer of the kernel is a layer of the formulas, sequence by sequence.
-/
module

public import proofs.«01_k».proof.Proof.V.Mid

@[expose] public section

set_option maxRecDepth 16384

noncomputable section

namespace Cert.ModelIdeal.Run

open Cert.ModelIdeal Cert.ModelIdeal.Gen
open Idealize.ShloMosaic Idealize.ShloMosaic.TcCoe Idealize.ShloMosaic.Tactic

/-! ### A block's loads, entry by entry -/

theorem k_lt (k : Fin k0_t1_loop.trips) : k.val < 64 := Nat.lt_of_lt_of_le k.isLt k0_t1_abs.2.1

theorem ldA {e : EltTy} (M : Vec Ideal S128x8x1536 e) (k : Fin k0_t1_loop.trips) (i : Fin 8) (d : Fin 1536) :
    View.ld (Val := Elt Ideal) (e' := e) M (rA k) (ix3 0 i d) = M (ix3 ⟨k.val, by have := k_lt k; omega⟩ i d) :=
  View.ld_unit_apply_of (Val := Elt Ideal) (e := e) M _ _ _ _ _ fun a => by
    refine Eq.trans ?_ (congrArg (· + _) (congrFun (offA k) a)).symm
    match a with
    | 0 => rfl
    | 1 => exact (Nat.zero_add _).symm
    | 2 => exact (Nat.zero_add _).symm

theorem ldB {e : EltTy} (M : Vec Ideal S128x8x1536 e) (k : Fin k0_t1_loop.trips) (i : Fin 8) (d : Fin 1536) :
    View.ld (Val := Elt Ideal) (e' := e) M (rB k) (ix3 0 i d) = M (ix3 ⟨64 + k.val, by have := k_lt k; omega⟩ i d) :=
  View.ld_unit_apply_of (Val := Elt Ideal) (e := e) M _ _ _ _ _ fun a => by
    refine Eq.trans ?_ (congrArg (· + _) (congrFun (offB k) a)).symm
    match a with
    | 0 => rfl
    | 1 => exact (Nat.zero_add _).symm
    | 2 => exact (Nat.zero_add _).symm

theorem colA (k : Fin k0_t1_loop.trips) : k0_off2 k 0#32 = ![k.val, 0, 0] := (k0_off2_eq k 0).trans (by simp)
theorem colB (k : Fin k0_t1_loop.trips) : k0_off2 k 64#32 = ![64 + k.val, 0, 0] := (k0_off2_eq k 1).trans (by simp)

theorem ldcA (M : Vec Ideal S128x16x8 .f32) (k : Fin k0_t1_loop.trips) (n : Fin 16) (i : Fin 8) :
    View.ld (Val := Elt Ideal) (e' := .f32) M (cA k) (ix3 0 n i) = M (ix3 ⟨k.val, by have := k_lt k; omega⟩ n i) :=
  View.ld_unit_apply_of (Val := Elt Ideal) (e := .f32) M _ _ _ _ _ fun a => by
    refine Eq.trans ?_ (congrArg (· + _) (congrFun (colA k) a)).symm
    match a with
    | 0 => rfl
    | 1 => exact (Nat.zero_add _).symm
    | 2 => exact (Nat.zero_add _).symm

theorem ldcB (M : Vec Ideal S128x16x8 .f32) (k : Fin k0_t1_loop.trips) (n : Fin 16) (i : Fin 8) :
    View.ld (Val := Elt Ideal) (e' := .f32) M (cB k) (ix3 0 n i) = M (ix3 ⟨64 + k.val, by have := k_lt k; omega⟩ n i) :=
  View.ld_unit_apply_of (Val := Elt Ideal) (e := .f32) M _ _ _ _ _ fun a => by
    refine Eq.trans ?_ (congrArg (· + _) (congrFun (colB k) a)).symm
    match a with
    | 0 => rfl
    | 1 => exact (Nat.zero_add _).symm
    | 2 => exact (Nat.zero_add _).symm

/-! ### One block -/

/-- The steps of a block whose inputs are the tokens' from `T` on take the state before `T` to the state before `T + i`. -/
theorem stps_state (p : Mamba.Par) (X : ℕ → Fin 768 → EReal) (T : ℕ) (a : FVec Ideal S16x1536 .f32) (dt u : Vec Ideal S1x8x1536 .f32)
    (b : Vec Ideal S1x16x8 .f32) (h : Fin 16 → Fin 1536 → EReal) (ha : ∀ n d, a (ix2 n d) = rate * Ideal.exp (p.al n d))
    (hh : ∀ n d, h n d = Mamba.state p X T d n)
    (hdt : ∀ (i : Fin 8) d, dt (ix3 0 i d) = Mamba.dt p (Mamba.uAt p X (T + i.val)) d)
    (hu : ∀ (i : Fin 8) d, u (ix3 0 i d) = Mamba.uAt p X (T + i.val) d)
    (hb : ∀ (i : Fin 8) (n : Fin 16), b (ix3 0 n i) = Mamba.xd p (Mamba.uAt p X (T + i.val)) ⟨48 + n.val, by omega⟩) :
    ∀ i ≤ 8, ∀ n d, stps a dt u b h i n d = Mamba.state p X (T + i) d n := by
  intro i
  induction i with
  | zero => exact fun _ n d => hh n d
  | succ i ih =>
    intro hi n d
    unfold stps
    rw [dif_pos (by omega)]
    unfold stp
    rw [ha, hdt, hu, hb, ih (by omega), rate_eq, mul_assoc, exp2_rate]
    show _ = Mamba.hh p (Mamba.uAt p X (T + i)) (Mamba.state p X (T + i)) d n
    unfold Mamba.hh
    rw [mul_neg, mul_comm (Ideal.exp (p.al n d))]
    ac_rfl

variable (x : Vec Ideal S1024x768 .f32) (nw : Vec Ideal S1x1x768 .f32) (win : Vec Ideal S1x3072x768 .bf16) (cw : Vec Ideal S1x4x1536 .f32)
  (cb : Vec Ideal S1x1x1536 .f32) (xp : Vec Ideal S1x80x1536 .bf16) (wdt : Vec Ideal S1x1536x48 .bf16) (dtb : Vec Ideal S1x1x1536 .f32)
  (al : Vec Ideal S1x16x1536 .f32) (dd : Vec Ideal S1x1x1536 .f32) (wo : Vec Ideal S1x768x1536 .bf16)

/-- The scan of block `k` of the first sequence. -/
theorem blockA (k : Fin k0_t1_loop.trips) (h : FVec Ideal S16x1536 .f32) (hh : ∀ n d, h (ix2 n d) = Mamba.state (par nw win cw cb xp wdt dtb al dd wo) (seq x 0) (8 * k.val) d n) :
    ∀ i ≤ 8, ∀ n d, stps (k0_pay1 (k0_pay342 al) (rate : Ideal .f32)) (View.ld (vDt x nw win cw cb xp wdt dtb) (rA k)) (View.ld (vU x nw win cw cb) (rA k)) (View.ld (vB x nw win cw cb xp) (cA k)) (fun n d => h (ix2 n d)) i n d
      = Mamba.state (par nw win cw cb xp wdt dtb al dd wo) (seq x 0) (8 * k.val + i) d n := by
  have hk := k_lt k
  refine stps_state (par nw win cw cb xp wdt dtb al dd wo) (seq x 0) (8 * k.val) _ _ _ _ _ (a_apply al) hh (fun i d => ?_) (fun i d => ?_) (fun i n => ?_)
  · exact (ldA (e := .f32) (vDt x nw win cw cb xp wdt dtb) k i d).trans
      (vDt_apply x nw win cw cb xp wdt dtb al dd wo 0 _ _ i (by omega) (by show 512 * 0 + _ = k.val * 8 + _; omega) d)
  · exact (ldA (e := .f32) (vU x nw win cw cb) k i d).trans
      (vU_apply x nw win cw cb xp wdt dtb al dd wo 0 _ _ i (by omega) (by show 512 * 0 + _ = k.val * 8 + _; omega) d)
  · exact (ldcA (vB x nw win cw cb xp) k n i).trans
      (vB_apply x nw win cw cb xp wdt dtb al dd wo 0 _ _ i (by omega) (by show 512 * 0 + _ = k.val * 8 + _; omega) n)

/-- The scan of block `k` of the second sequence. -/
theorem blockB (k : Fin k0_t1_loop.trips) (h : FVec Ideal S16x1536 .f32) (hh : ∀ n d, h (ix2 n d) = Mamba.state (par nw win cw cb xp wdt dtb al dd wo) (seq x 1) (8 * k.val) d n) :
    ∀ i ≤ 8, ∀ n d, stps (k0_pay1 (k0_pay342 al) (rate : Ideal .f32)) (View.ld (vDt x nw win cw cb xp wdt dtb) (rB k)) (View.ld (vU x nw win cw cb) (rB k)) (View.ld (vB x nw win cw cb xp) (cB k)) (fun n d => h (ix2 n d)) i n d
      = Mamba.state (par nw win cw cb xp wdt dtb al dd wo) (seq x 1) (8 * k.val + i) d n := by
  have hk := k_lt k
  refine stps_state (par nw win cw cb xp wdt dtb al dd wo) (seq x 1) (8 * k.val) _ _ _ _ _ (a_apply al) hh (fun i d => ?_) (fun i d => ?_) (fun i n => ?_)
  · exact (ldB (e := .f32) (vDt x nw win cw cb xp wdt dtb) k i d).trans
      (vDt_apply x nw win cw cb xp wdt dtb al dd wo 1 _ _ i (by omega) (by show 512 * 1 + _ = (64 + k.val) * 8 + _; omega) d)
  · exact (ldB (e := .f32) (vU x nw win cw cb) k i d).trans
      (vU_apply x nw win cw cb xp wdt dtb al dd wo 1 _ _ i (by omega) (by show 512 * 1 + _ = (64 + k.val) * 8 + _; omega) d)
  · exact (ldcB (vB x nw win cw cb xp) k n i).trans
      (vB_apply x nw win cw cb xp wdt dtb al dd wo 1 _ _ i (by omega) (by show 512 * 1 + _ = (64 + k.val) * 8 + _; omega) n)

/-! ### Block after block -/

theorem start_apply (n : Fin 16) (d : Fin 1536) : k0_pay3 (F := Ideal) (ix2 n d) = 0 := by
  unfold_payloads
  pointwise []

/-- The states before block `k` are the states before token `8 k`. -/
theorem states_apply : ∀ k ≤ 64, (∀ n d, (states (k0_pay1 (k0_pay342 al) (rate : Ideal .f32)) (vDt x nw win cw cb xp wdt dtb) (vU x nw win cw cb) (vB x nw win cw cb xp) k).1 (ix2 n d) = Mamba.state (par nw win cw cb xp wdt dtb al dd wo) (seq x 0) (8 * k) d n)
    ∧ ∀ n d, (states (k0_pay1 (k0_pay342 al) (rate : Ideal .f32)) (vDt x nw win cw cb xp wdt dtb) (vU x nw win cw cb) (vB x nw win cw cb xp) k).2 (ix2 n d) = Mamba.state (par nw win cw cb xp wdt dtb al dd wo) (seq x 1) (8 * k) d n := by
  intro k
  induction k with
  | zero => exact fun _ => ⟨start_apply, start_apply⟩
  | succ k ih =>
    intro hk
    obtain ⟨h1, h2⟩ := ih (by omega)
    have hs := states_succ (k0_pay1 (k0_pay342 al) (rate : Ideal .f32)) (vDt x nw win cw cb xp wdt dtb) (vU x nw win cw cb) (vB x nw win cw cb xp) ⟨k, by rw [trips_eq]; omega⟩
    refine ⟨fun n d => ?_, fun n d => ?_⟩
    · refine (congrArg (fun s : FVec Ideal S16x1536 .f32 × FVec Ideal S16x1536 .f32 => s.1 (ix2 n d)) hs).trans ?_
      refine (hA_apply _ _ _ _ _ n d).trans ?_
      exact blockA x nw win cw cb xp wdt dtb al dd wo _ _ h1 8 le_rfl n d
    · refine (congrArg (fun s : FVec Ideal S16x1536 .f32 × FVec Ideal S16x1536 .f32 => s.2 (ix2 n d)) hs).trans ?_
      refine (hB_apply _ _ _ _ _ n d).trans ?_
      exact blockB x nw win cw cb xp wdt dtb al dd wo _ _ h2 8 le_rfl n d

/-! ### The gated rows -/

theorem rowsA_apply (k : Fin k0_t1_loop.trips) (i : Fin 8) (d : Fin 1536) :
    rowsA (k0_pay1 (k0_pay342 al) (rate : Ideal .f32)) dd (vDt x nw win cw cb xp wdt dtb) (vU x nw win cw cb) (vB x nw win cw cb xp) (vC x nw win cw cb xp) (vZ x nw win) k (ix3 0 i d)
      = Mamba.yy (par nw win cw cb xp wdt dtb al dd wo) (seq x 0 (8 * k.val + i.val)) (Mamba.uAt (par nw win cw cb xp wdt dtb al dd wo) (seq x 0) (8 * k.val + i.val))
          (Mamba.state (par nw win cw cb xp wdt dtb al dd wo) (seq x 0) (8 * k.val + i.val + 1)) d := by
  have hk := k_lt k
  have hq : 512 * (0 : Fin 2).val + (8 * k.val + i.val) = k.val * 8 + i.val := by show 512 * 0 + _ = _; omega
  have ht : 8 * k.val + i.val < 512 := by omega
  unfold rowsA
  rw [yA_apply]
  unfold Mamba.yy
  refine congrArg₂ (· * ·) (congrArg₂ (· + ·) (Finset.sum_congr rfl fun n _ => ?_) (congrArg (· * _) ?_)) ?_
  · rw [blockA x nw win cw cb xp wdt dtb al dd wo k _ (states_apply x nw win cw cb xp wdt dtb al dd wo k.val (by omega)).1 (i.val + 1)
      (by omega) n d, mul_comm]
    exact congrArg (_ * ·) ((ldcA (vC x nw win cw cb xp) k n i).trans (vC_apply x nw win cw cb xp wdt dtb al dd wo 0 _ _ i ht hq n))
  · exact (ldA (e := .f32) (vU x nw win cw cb) k i d).trans (vU_apply x nw win cw cb xp wdt dtb al dd wo 0 _ _ i ht hq d)
  · exact (ldA (e := .bf16) (vZ x nw win) k i d).trans (vZ_apply x nw win cw cb xp wdt dtb al dd wo 0 _ _ i ht hq d)

theorem rowsB_apply (k : Fin k0_t1_loop.trips) (i : Fin 8) (d : Fin 1536) :
    rowsB (k0_pay1 (k0_pay342 al) (rate : Ideal .f32)) dd (vDt x nw win cw cb xp wdt dtb) (vU x nw win cw cb) (vB x nw win cw cb xp) (vC x nw win cw cb xp) (vZ x nw win) k (ix3 0 i d)
      = Mamba.yy (par nw win cw cb xp wdt dtb al dd wo) (seq x 1 (8 * k.val + i.val)) (Mamba.uAt (par nw win cw cb xp wdt dtb al dd wo) (seq x 1) (8 * k.val + i.val))
          (Mamba.state (par nw win cw cb xp wdt dtb al dd wo) (seq x 1) (8 * k.val + i.val + 1)) d := by
  have hk := k_lt k
  have hq : 512 * (1 : Fin 2).val + (8 * k.val + i.val) = (64 + k.val) * 8 + i.val := by show 512 * 1 + _ = _; omega
  have ht : 8 * k.val + i.val < 512 := by omega
  unfold rowsB
  rw [yB_apply]
  unfold Mamba.yy
  refine congrArg₂ (· * ·) (congrArg₂ (· + ·) (Finset.sum_congr rfl fun n _ => ?_) (congrArg (· * _) ?_)) ?_
  · rw [blockB x nw win cw cb xp wdt dtb al dd wo k _ (states_apply x nw win cw cb xp wdt dtb al dd wo k.val (by omega)).2 (i.val + 1)
      (by omega) n d, mul_comm]
    exact congrArg (_ * ·) ((ldcB (vC x nw win cw cb xp) k n i).trans (vC_apply x nw win cw cb xp wdt dtb al dd wo 1 _ _ i ht hq n))
  · exact (ldB (e := .f32) (vU x nw win cw cb) k i d).trans (vU_apply x nw win cw cb xp wdt dtb al dd wo 1 _ _ i ht hq d)
  · exact (ldB (e := .bf16) (vZ x nw win) k i d).trans (vZ_apply x nw win cw cb xp wdt dtb al dd wo 1 _ _ i ht hq d)

/-- The gated row of token `t` of sequence `b`. -/
theorem vY_apply (b : Fin 2) (t : ℕ) (q : Fin 128) (i : Fin 8) (ht : t < 512) (hr : 512 * b.val + t = q.val * 8 + i.val) (d : Fin 1536) :
    vY x nw win cw cb xp wdt dtb al dd (ix3 q i d)
      = Mamba.yy (par nw win cw cb xp wdt dtb al dd wo) (seq x b t) (Mamba.uAt (par nw win cw cb xp wdt dtb al dd wo) (seq x b) t) (Mamba.state (par nw win cw cb xp wdt dtb al dd wo) (seq x b) (t + 1)) d := by
  have hix : (Fin.cons ⟨0, by decide⟩ (Fin.cons (ix3 q i d 1) (Fin.cons (ix3 q i d 2) (fun a => a.elim0))) : S1x8x1536.Idx) = ix3 0 i d :=
    funext fun a => match a with
      | 0 => rfl
      | 1 => rfl
      | 2 => rfl
  have hk : q.val % 64 < k0_t1_loop.trips := by rw [trips_eq]; omega
  have hg : vY x nw win cw cb xp wdt dtb al dd (ix3 q i d)
      = if q.val < 64 then rowsA (k0_pay1 (k0_pay342 al) (rate : Ideal .f32)) dd (vDt x nw win cw cb xp wdt dtb) (vU x nw win cw cb) (vB x nw win cw cb xp) (vC x nw win cw cb xp) (vZ x nw win) ⟨q.val % 64, hk⟩ (ix3 0 i d)
        else rowsB (k0_pay1 (k0_pay342 al) (rate : Ideal .f32)) dd (vDt x nw win cw cb xp wdt dtb) (vU x nw win cw cb) (vB x nw win cw cb xp) (vC x nw win cw cb xp) (vZ x nw win) ⟨q.val % 64, hk⟩ (ix3 0 i d) := by
    rw [← hix]
    rfl
  rw [hg]
  match b, hr with
  | 0, hr =>
    have hr' : t = q.val * 8 + i.val := by simpa using hr
    rw [if_pos (by omega), rowsA_apply x nw win cw cb xp wdt dtb al dd wo]
    simp only [show 8 * (q.val % 64) + i.val = t by omega]
  | 1, hr =>
    have hr' : 512 + t = q.val * 8 + i.val := by simpa using hr
    rw [if_neg (by omega), rowsB_apply x nw win cw cb xp wdt dtb al dd wo]
    simp only [show 8 * (q.val % 64) + i.val = t by omega]

/-! ### The stream after the layer -/

theorem pay5_apply (y : Vec Ideal S128x8x1536 .bf16) (r : Fin 1024) (e : Fin 768) : k0_pay5 x y wo (ix2 r e)
    = x (ix2 r e) + ∑ d, y (ix3 ⟨r.val / 8, by omega⟩ ⟨r.val % 8, by omega⟩ d) * wo (ix3 0 e d) := by
  unfold_payloads
  pointwise []

/-- Row `512 b + t` after the layer. -/
theorem pay5_layer (b : Fin 2) (t : ℕ) (r : Fin 1024) (ht : t < 512) (hr : 512 * b.val + t = r.val) (e : Fin 768) :
    k0_pay5 x (vY x nw win cw cb xp wdt dtb al dd) wo (ix2 r e) = Mamba.layer (par nw win cw cb xp wdt dtb al dd wo) (seq x b) t e := by
  rw [pay5_apply]
  simp only [vY_apply x nw win cw cb xp wdt dtb al dd wo b t ⟨r.val / 8, by omega⟩ ⟨r.val % 8, by omega⟩ ht
    (by show _ = r.val / 8 * 8 + r.val % 8; omega)]
  unfold Mamba.layer Mamba.xx
  rw [seq_eq x b t r ht hr]
  rfl

/-- The stream after the layer, sequence by sequence. -/
theorem layerOut_apply (b : Fin 2) (t : ℕ) (ht : t < 512) :
    seq (layerOut x nw win cw cb xp wdt dtb al dd wo) b t = Mamba.layer (par nw win cw cb xp wdt dtb al dd wo) (seq x b) t := by
  unfold seq
  rw [dif_pos ht]
  funext e
  unfold row layerOut k0_pay6
  rw [shapeCast_id]
  exact pay5_layer x nw win cw cb xp wdt dtb al dd wo b t _ ht rfl e

/-- The normed stream after the layer. -/
theorem normedOut_apply (nf : Vec Ideal S1x1x768 .f32) (b : Fin 2) (t : ℕ) (r : Fin 1024) (ht : t < 512) (hr : 512 * b.val + t = r.val) (e : Fin 768) :
    normedOut x nw win cw cb xp wdt dtb al dd wo nf (ix2 r e)
      = Mamba.rms (fun j => nf (ix3 0 0 j)) (Mamba.layer (par nw win cw cb xp wdt dtb al dd wo) (seq x b) t) e := by
  unfold normedOut k0_pay7
  pointwise [pay5_layer x nw win cw cb xp wdt dtb al dd wo b t r ht hr]
  rfl

end Cert.ModelIdeal.Run
-- ==== Proof.V.Final.lean ====
/-
  The layers call's result array when it ends, as the formula of `Stack` over the arrays the call finds: the window blocks
  at point `t` are layer `t`'s slices of the stacked weights, so the scratch holds the rows after `t` layers.
-/
module

public import proofs.«01_k».proof.Proof.PI.CallRun
public import proofs.«01_k».proof.Proof.V.Scan
public import proofs.«01_k».proof.Proof.V.Stack

@[expose] public section

set_option maxRecDepth 16384

noncomputable section

namespace Cert.ModelIdeal.Run

open Cert.ModelIdeal Cert.ModelIdeal.Gen
open Idealize.ShloMosaic Idealize.ShloMosaic.TcCoe Idealize.ShloMosaic.Tactic Idealize.SL.Sem

variable (V : (c : Dev nD) → (b : Ref sig .tc) → Buf (Elt Ideal) ((c : Thread nD τ).loc b)) (c : Dev nD)

/-- Where each window's block sits at point `t`: the stream, the norm's weight and the result whole, the weights at layer `t`. -/
theorem idx (t : Fin cfg0.N) : win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![0, 0, 0] ∧ win0_12.index t = ![0, 0] :=
  (by decide +kernel : ∀ t : Fin grid0.N, win0_0.index t = ![0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] ∧ win0_10.index t = ![t.val, 0, 0]
    ∧ win0_11.index t = ![0, 0, 0] ∧ win0_12.index t = ![0, 0]) t

/-- The layers' parameters of the arrays the call finds. -/
def P : Fin 4 → Mamba.Par :=
  Mamba.params (V c main_arg1) (V c main_arg2) (V c main_arg3)
    (V c main_arg4) (V c main_arg5) (V c main_arg6)
    (V c main_arg7) (V c main_arg8) (V c main_arg9)
    (V c main_arg10)

/-! ### The blocks at a point -/

theorem blk0_eq (t : Fin cfg0.N) : blk0 V c t = V c main_arg0 := by
  funext y
  idx_vars y
  unfold blk0
  blk_point [iblk0, idx t]

theorem blk11_apply (t : Fin cfg0.N) (j : Fin 768) : blk11 V c t (ix3 0 0 j) = V c main_v0 (ix3 0 0 j) := by
  unfold blk11
  blk_point [iblk0, idx t]

/-- The weights' blocks at point `t` are layer `t`'s. -/
theorem par_eq (t : Fin cfg0.N) :
    par (blk1 V c t) (blk2 V c t) (blk3 V c t) (blk4 V c t) (blk5 V c t) (blk6 V c t) (blk7 V c t) (blk8 V c t) (blk9 V c t) (blk10 V c t)
      = P V c ⟨t.val, t.isLt⟩ := by
  unfold par P Mamba.params
  congr 1 <;> funext a <;> first | (funext b) | skip
  · unfold blk1; blk_point [iblk0, idx t]
  · unfold blk2; blk_point [iblk0, idx t]
  · unfold blk3; blk_point [iblk0, idx t]
  · unfold blk4; blk_point [iblk0, idx t]
  · unfold blk5; blk_point [iblk0, idx t]
  · unfold blk6; blk_point [iblk0, idx t]
  · unfold blk7; blk_point [iblk0, idx t]
  · unfold blk8; blk_point [iblk0, idx t]
  · unfold blk9; blk_point [iblk0, idx t]
  · unfold blk10; blk_point [iblk0, idx t]

/-! ### The stream and the result -/

/-- Before point `n` the stream is the rows after the first `n` layers. -/
theorem streamAt_apply (b : Fin 2) : ∀ n : ℕ, n ≤ 4 → ∀ t, t < 512 →
    seq (streamAt V c n) b t = Mamba.stack (P V c) (Mamba.tokens (V c main_arg0) b) n t
  | 0, _, t, _ => by
    show seq (blk0 V c ⟨0, by decide⟩) b t = _
    rw [blk0_eq]
    rfl
  | n + 1, hn, t, ht => by
    rw [streamAt_succ V c ⟨n, hn⟩, layerOut_apply _ _ _ _ _ _ _ _ _ _ _ b t ht, par_eq, Mamba.stack_succ (P V c) _ ⟨n, hn⟩]
    exact Mamba.layer_congr _ fun s hs => streamAt_apply b n (by omega) s (by omega)

/-- When the call ends its result array holds the rows after all four layers, normed. -/
theorem final : (dat0 V c).arrAt 12 cfg0.N
    = Mamba.result (P V c) (V c main_arg0) (fun j => V c main_v0 (ix3 0 0 (j 0))) := by
  refine (dat0 V c).arrAt_eq_of_covers 12 _ (by decide +kernel) fun t hf y => ?_
  have ht : t.val = 3 := by
    have h1 := (flush0_12 t).mp hf
    have h2 : t.val < 4 := t.isLt
    omega
  blk_simp
  show outAt V c t _ = _
  idx_vars y
  have hi : ∀ g : S1024x768.Idx → EReal, g (ix2 y0 y1) = g (((View.whole main_v1).slice (win0_12.rect t)).emb (ix2 y0 y1)) := fun g => by
    blk_point [idx t]
  refine Eq.trans ?_ (hi _)
  have hd : y0.val / 512 < 2 := Nat.div_lt_of_lt_mul y0.isLt
  refine (normedOut_apply _ _ _ _ _ _ _ _ _ _ _ _ ⟨y0.val / 512, hd⟩ (y0.val % 512) y0 (Nat.mod_lt _ (by decide)) (Nat.div_add_mod _ _) y1).trans ?_
  unfold Mamba.result
  refine congrArg₂ (fun a b => Mamba.rms a b y1) (funext fun j => blk11_apply V c t j) ?_
  rw [par_eq]
  refine Eq.trans ?_ (congrFun ((Mamba.stack_succ (P V c) _ ⟨t.val, t.isLt⟩).symm.trans (congrArg (Mamba.stack (P V c) _) (show t.val + 1 = 4 by omega))) _)
  exact Mamba.layer_congr _ fun s hs => streamAt_apply V c _ t.val (by omega) s (lt_of_le_of_lt hs (Nat.mod_lt _ (by decide)))

end Cert.ModelIdeal.Run
-- ==== Proof.V.FinalHead.lean ====
/-
  The head call's result array when it ends: the logits, one formula of the two arrays the call finds.
-/
module

public import proofs.«01_k».proof.Proof.PI.HeadRun
public import proofs.«01_k».proof.Proof.V.Stack
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.ShloMosaic.Tactic Idealize.SL.Sem

namespace Cert.ModelIdeal.Run

open Cert.ModelIdeal Cert.ModelIdeal.Gen

variable (V : (c : Dev nD) → (b : Ref sig .tc) → Buf (Elt Ideal) ((c : Thread nD τ).loc b)) (c : Dev nD)

/-- Where each window's block sits at point `t`: the rows whole, the table and the result at tile `t`. -/
theorem idxHead (t : Fin cfg1.N) : win1_0.index t = ![0, 0] ∧ win1_1.index t = ![t.val, 0] ∧ win1_2.index t = ![0, t.val] :=
  (by decide +kernel : ∀ t : Fin grid1.N, win1_0.index t = ![0, 0] ∧ win1_1.index t = ![t.val, 0] ∧ win1_2.index t = ![0, t.val]) t

/-- When the call ends its result array holds the logits. -/
theorem finalHead : (dat1 V c).arrAt 2 cfg1.N = Mamba.logits (V c main_v1) (V c main_arg12) := by
  refine (dat1 V c).arrAt_eq_of_covers 2 _ (by decide +kernel) fun t hf y => ?_
  blk_simp
  rw [after1_2]
  unfold out1_2
  frame_out
  idx_vars y
  unfold_payloads
  unfold Mamba.logits
  pointwise []
  blk_point [iblk1, idxHead t]

end Cert.ModelIdeal.Run
-- ==== Proof.V.RefLayer.lean ====
/-
  One layer of the reference's trip, as operations of the token's rows, the layer's two carried arrays and its
  parameters. The four layers of a trip are these same operations at the four layers' slices.
-/
module

public import proofs.«01_k».proof.Proof.Gen.ModelRefIdeal.Step
public import Idealize.ShloMosaic.Lib.Pointwise

@[expose] public section

noncomputable section

namespace Cert.ModelRefIdeal.Layer

open Idealize.ShloMosaic Cert.ModelRefIdeal Cert.ModelRefIdeal.Gen Cert.ModelRefIdeal.Step

/-- The normalized rows. -/
def hn (x : FVec Ideal S2x768 .f32) (nw : FVec Ideal S1x768 .f32) : FVec Ideal S2x768 .f32 :=
  mulf (mulf x (broadcastInDim S2x768 ![0, 1] bcast_S2x1_S2x768_0_1 (Host.rsqrt (addf (Host.divf
    (broadcastInDim S2x1 ![0] bcast_S2_S2x1_0 (Host.reduceAdd (mulf x x) (constant S_ .f32 0x00000000#32) reducesTo_S2x768_S2_d1 h_S_))
    (broadcastInDim S2x1 ![] bcast_S_S2x1 (constant S_ .f32 0x44400000#32)))
    (broadcastInDim S2x1 ![] bcast_S_S2x1 (constant S_ .f32 0x3727C5AC#32))))))
    (broadcastInDim S2x768 ![0, 1] bcast_S1x768_S2x768_0_1 nw)

/-- The input projection. -/
def xz (hn : FVec Ideal S2x768 .f32) (win : FVec Ideal S3072x768 .f32) : FVec Ideal S2x3072 .f32 :=
  Host.dotGeneral dot_S2x768_S3072x768_S2x3072_1_1_0_0_n_n none hn win

/-- The convolution's four inputs: the three carried, then this token's. -/
def up (cv : FVec Ideal S2x3x1536 .f32) (xz : FVec Ideal S2x3072 .f32) : FVec Ideal S2x4x1536 .f32 :=
  concatenate S2x4x1536 1 [⟨S2x3x1536, cv⟩, ⟨S2x1x1536, broadcastInDim S2x1x1536 ![0, 2] bcast_S2x1536_S2x1x1536_0_2
    (extractStridedSlice S2x1536 ![0, 0] xz slices_S2x3072_S2x1536_0_0)⟩] concatenates_S2x3x1536_S2x1x1536_S2x4x1536_d1

/-- The convolution with its bias. -/
def uc (up : FVec Ideal S2x4x1536 .f32) (cw : FVec Ideal S4x1536 .f32) (cb : FVec Ideal S1x1536 .f32) : FVec Ideal S2x1536 .f32 :=
  addf (Host.reduceAdd (mulf up (broadcastInDim S2x4x1536 ![0, 1, 2] bcast_S1x4x1536_S2x4x1536_0_1_2
      (broadcastInDim S1x4x1536 ![1, 2] bcast_S4x1536_S1x4x1536_1_2 cw))) (constant S_ .f32 0x00000000#32) reducesTo_S2x4x1536_S2x1536_d1 h_S_)
    (broadcastInDim S2x1536 ![0, 1] bcast_S1x1536_S2x1536_0_1 cb)

/-- `v * logistic v`. -/
def silu (v : FVec Ideal S2x1536 .f32) : FVec Ideal S2x1536 .f32 :=
  mulf v (Host.divf (broadcastInDim S2x1536 ![] bcast_S_S2x1536 (constant S_ .f32 0x3F800000#32))
    (addf (broadcastInDim S2x1536 ![] bcast_S_S2x1536 (constant S_ .f32 0x3F800000#32)) (Host.exp (Host.negf v))))

/-- The projection to the step's rank, `B` and `C`. -/
def xdbl (u : FVec Ideal S2x1536 .f32) (xp : FVec Ideal S80x1536 .f32) : FVec Ideal S2x80 .f32 :=
  Host.dotGeneral dot_S2x1536_S80x1536_S2x80_1_1_0_0_n_n none u xp

/-- The step before its softplus. -/
def pre (xd : FVec Ideal S2x80 .f32) (wdt : FVec Ideal S1536x48 .f32) (dtb : FVec Ideal S1x1536 .f32) : FVec Ideal S2x1536 .f32 :=
  addf (Host.dotGeneral dot_S2x48_S1536x48_S2x1536_1_1_0_0_n_n none (extractStridedSlice S2x48 ![0, 0] xd slices_S2x80_S2x48_0_0) wdt)
    (broadcastInDim S2x1536 ![0, 1] bcast_S1x1536_S2x1536_0_1 dtb)

/-- The zero row `softplus` compares with. -/
def zero : FVec Ideal S2x1536 .f32 := broadcastInDim S2x1536 ![] bcast_S_S2x1536 (constant S_ .f32 0x00000000#32)

/-- `log (1 + exp v)`, as the host library writes it. -/
def softplus (v : FVec Ideal S2x1536 .f32) : FVec Ideal S2x1536 .f32 :=
  select (cmpf .une (subf v zero) (subf v zero)) (addf v zero)
    (addf (maximumf v zero) (Host.log1p (Host.exp (Host.negf (Host.absf (subf v zero))))))

/-- The state after the token. -/
def hNew (dt : FVec Ideal S2x1536 .f32) (al : FVec Ideal S16x1536 .f32) (h : FVec Ideal S2x1536x16 .f32) (xd : FVec Ideal S2x80 .f32)
    (u : FVec Ideal S2x1536 .f32) : FVec Ideal S2x1536x16 .f32 :=
  addf (mulf (Host.exp (mulf
      (broadcastInDim S2x1536x16 ![0, 1, 2] bcast_S2x1536x1_S2x1536x16_0_1_2 (broadcastInDim S2x1536x1 ![0, 1] bcast_S2x1536_S2x1536x1_0_1 dt))
      (broadcastInDim S2x1536x16 ![0, 1, 2] bcast_S1x1536x16_S2x1536x16_0_1_2 (broadcastInDim S1x1536x16 ![1, 2] bcast_S1536x16_S1x1536x16_1_2
        (Host.negf (Host.exp (transpose S1536x16 [1, 0] al transposes_S16x1536_S1536x16_1_0))))))) h)
    (mulf (mulf
      (broadcastInDim S2x1536x16 ![0, 1, 2] bcast_S2x1536x1_S2x1536x16_0_1_2 (broadcastInDim S2x1536x1 ![0, 1] bcast_S2x1536_S2x1536x1_0_1 dt))
      (broadcastInDim S2x1536x16 ![0, 1, 2] bcast_S2x1x16_S2x1536x16_0_1_2 (broadcastInDim S2x1x16 ![0, 2] bcast_S2x16_S2x1x16_0_2
        (extractStridedSlice S2x16 ![0, 48] xd slices_S2x80_S2x16_0_48))))
      (broadcastInDim S2x1536x16 ![0, 1, 2] bcast_S2x1536x1_S2x1536x16_0_1_2 (broadcastInDim S2x1536x1 ![0, 1] bcast_S2x1536_S2x1536x1_0_1 u)))

/-- What the token reads off the state, gated. -/
def yOut (h : FVec Ideal S2x1536x16 .f32) (xd : FVec Ideal S2x80 .f32) (u : FVec Ideal S2x1536 .f32) (d : FVec Ideal S1x1536 .f32)
    (xz : FVec Ideal S2x3072 .f32) : FVec Ideal S2x1536 .f32 :=
  mulf (addf (Host.dotGeneral dot_S2x1536x16_S2x16_S2x1536_2_1_1_n_0_0 none h (extractStridedSlice S2x16 ![0, 64] xd slices_S2x80_S2x16_0_64))
      (mulf u (broadcastInDim S2x1536 ![0, 1] bcast_S1x1536_S2x1536_0_1 d)))
    (silu (extractStridedSlice S2x1536 ![0, 1536] xz slices_S2x3072_S2x1536_0_1536))

/-- The stream after the layer. -/
def xNew (x : FVec Ideal S2x768 .f32) (y : FVec Ideal S2x1536 .f32) (wo : FVec Ideal S768x1536 .f32) : FVec Ideal S2x768 .f32 :=
  addf x (Host.dotGeneral dot_S2x1536_S768x1536_S2x768_1_1_0_0_n_n none y wo)

variable (j : ℕ) (s : State Ideal)

/-- A layer's carried convolution inputs after the token. -/
def cvNew (up : FVec Ideal S2x4x1536 .f32) : FVec Ideal S2x3x1536 .f32 := extractStridedSlice S2x3x1536 ![0, 1, 0] up slices_S2x4x1536_S2x3x1536_0_1_0

/-- The activated convolution, from the layer's inputs. -/
def U (x : FVec Ideal S2x768 .f32) (cv : FVec Ideal S2x3x1536 .f32) (nw : FVec Ideal S1x768 .f32) (win : FVec Ideal S3072x768 .f32)
    (cw : FVec Ideal S4x1536 .f32) (cb : FVec Ideal S1x1536 .f32) : FVec Ideal S2x1536 .f32 :=
  silu (uc (up cv (xz (hn x nw) win)) cw cb)

/-- The state after the token, from the layer's inputs. -/
def H (x : FVec Ideal S2x768 .f32) (cv : FVec Ideal S2x3x1536 .f32) (h : FVec Ideal S2x1536x16 .f32) (nw : FVec Ideal S1x768 .f32)
    (win : FVec Ideal S3072x768 .f32) (cw : FVec Ideal S4x1536 .f32) (cb : FVec Ideal S1x1536 .f32) (xp : FVec Ideal S80x1536 .f32)
    (wdt : FVec Ideal S1536x48 .f32) (dtb : FVec Ideal S1x1536 .f32) (al : FVec Ideal S16x1536 .f32) : FVec Ideal S2x1536x16 .f32 :=
  hNew (softplus (pre (xdbl (U x cv nw win cw cb) xp) wdt dtb)) al h (xdbl (U x cv nw win cw cb) xp) (U x cv nw win cw cb)

/-- The stream after the layer, from the layer's inputs. -/
def X (x : FVec Ideal S2x768 .f32) (cv : FVec Ideal S2x3x1536 .f32) (h : FVec Ideal S2x1536x16 .f32) (nw : FVec Ideal S1x768 .f32)
    (win : FVec Ideal S3072x768 .f32) (cw : FVec Ideal S4x1536 .f32) (cb : FVec Ideal S1x1536 .f32) (xp : FVec Ideal S80x1536 .f32)
    (wdt : FVec Ideal S1536x48 .f32) (dtb : FVec Ideal S1x1536 .f32) (al : FVec Ideal S16x1536 .f32) (d : FVec Ideal S1x1536 .f32)
    (wo : FVec Ideal S768x1536 .f32) : FVec Ideal S2x768 .f32 :=
  xNew x (yOut (H x cv h nw win cw cb xp wdt dtb al) (xdbl (U x cv nw win cw cb) xp) (U x cv nw win cw cb) d (xz (hn x nw) win)) wo

/-! ### The trip's values are these, layer by layer -/

private theorem l0_hn : b38 j s = hn (b3 j s) (b5 j s) := rfl
private theorem l0_xz : b39 j s = xz (b38 j s) (b7 j s) := rfl
private theorem l0_up : b43 j s = up s.main_v9_12 (b39 j s) := rfl
private theorem l0_uc : b50 j s = uc (b43 j s) (b9 j s) (b11 j s) := rfl
private theorem l0_u : b59 j s = silu (b50 j s) := rfl
private theorem l0_xd : b60 j s = xdbl (b59 j s) (b13 j s) := rfl
private theorem l0_pre : b66 j s = pre (b60 j s) (b15 j s) (b17 j s) := rfl
private theorem l0_dt : b80 j s = softplus (b66 j s) := rfl
private theorem l0_hh : b99 j s = hNew (b80 j s) (b19 j s) s.main_v9_16 (b60 j s) (b59 j s) := rfl
private theorem l0_y : b113 j s = yOut (b99 j s) (b60 j s) (b59 j s) (b21 j s) (b39 j s) := rfl
private theorem l0_xx : b115 j s = xNew (b3 j s) (b113 j s) (b23 j s) := rfl
private theorem l0_cc : b116 j s = cvNew (b43 j s) := rfl

theorem layer0_h : b99 j s = H (b3 j s) s.main_v9_12 s.main_v9_16 (b5 j s) (b7 j s) (b9 j s) (b11 j s) (b13 j s) (b15 j s) (b17 j s) (b19 j s) := by
  rw [l0_hh, l0_dt, l0_pre, l0_xd, l0_u, l0_uc, l0_up, l0_xz, l0_hn]; rfl
theorem layer0_x : b115 j s = X (b3 j s) s.main_v9_12 s.main_v9_16 (b5 j s) (b7 j s) (b9 j s) (b11 j s) (b13 j s) (b15 j s) (b17 j s) (b19 j s) (b21 j s) (b23 j s) := by
  rw [l0_xx, l0_y, layer0_h, l0_xd, l0_u, l0_uc, l0_up, l0_xz, l0_hn]; rfl
theorem layer0_cv : b116 j s = cvNew (up s.main_v9_12 (xz (hn (b3 j s) (b5 j s)) (b7 j s))) := by
  rw [l0_cc, l0_up, l0_xz, l0_hn]

private theorem l1_hn : b151 j s = hn (b115 j s) (b118 j s) := rfl
private theorem l1_xz : b152 j s = xz (b151 j s) (b120 j s) := rfl
private theorem l1_up : b156 j s = up s.main_v9_13 (b152 j s) := rfl
private theorem l1_uc : b163 j s = uc (b156 j s) (b122 j s) (b124 j s) := rfl
private theorem l1_u : b172 j s = silu (b163 j s) := rfl
private theorem l1_xd : b173 j s = xdbl (b172 j s) (b126 j s) := rfl
private theorem l1_pre : b179 j s = pre (b173 j s) (b128 j s) (b130 j s) := rfl
private theorem l1_dt : b193 j s = softplus (b179 j s) := rfl
private theorem l1_hh : b212 j s = hNew (b193 j s) (b132 j s) s.main_v9_17 (b173 j s) (b172 j s) := rfl
private theorem l1_y : b226 j s = yOut (b212 j s) (b173 j s) (b172 j s) (b134 j s) (b152 j s) := rfl
private theorem l1_xx : b228 j s = xNew (b115 j s) (b226 j s) (b136 j s) := rfl
private theorem l1_cc : b229 j s = cvNew (b156 j s) := rfl

theorem layer1_h : b212 j s = H (b115 j s) s.main_v9_13 s.main_v9_17 (b118 j s) (b120 j s) (b122 j s) (b124 j s) (b126 j s) (b128 j s) (b130 j s) (b132 j s) := by
  rw [l1_hh, l1_dt, l1_pre, l1_xd, l1_u, l1_uc, l1_up, l1_xz, l1_hn]; rfl
theorem layer1_x : b228 j s = X (b115 j s) s.main_v9_13 s.main_v9_17 (b118 j s) (b120 j s) (b122 j s) (b124 j s) (b126 j s) (b128 j s) (b130 j s) (b132 j s) (b134 j s) (b136 j s) := by
  rw [l1_xx, l1_y, layer1_h, l1_xd, l1_u, l1_uc, l1_up, l1_xz, l1_hn]; rfl
theorem layer1_cv : b229 j s = cvNew (up s.main_v9_13 (xz (hn (b115 j s) (b118 j s)) (b120 j s))) := by
  rw [l1_cc, l1_up, l1_xz, l1_hn]

private theorem l2_hn : b264 j s = hn (b228 j s) (b231 j s) := rfl
private theorem l2_xz : b265 j s = xz (b264 j s) (b233 j s) := rfl
private theorem l2_up : b269 j s = up s.main_v9_14 (b265 j s) := rfl
private theorem l2_uc : b276 j s = uc (b269 j s) (b235 j s) (b237 j s) := rfl
private theorem l2_u : b285 j s = silu (b276 j s) := rfl
private theorem l2_xd : b286 j s = xdbl (b285 j s) (b239 j s) := rfl
private theorem l2_pre : b292 j s = pre (b286 j s) (b241 j s) (b243 j s) := rfl
private theorem l2_dt : b306 j s = softplus (b292 j s) := rfl
private theorem l2_hh : b325 j s = hNew (b306 j s) (b245 j s) s.main_v9_18 (b286 j s) (b285 j s) := rfl
private theorem l2_y : b339 j s = yOut (b325 j s) (b286 j s) (b285 j s) (b247 j s) (b265 j s) := rfl
private theorem l2_xx : b341 j s = xNew (b228 j s) (b339 j s) (b249 j s) := rfl
private theorem l2_cc : b342 j s = cvNew (b269 j s) := rfl

theorem layer2_h : b325 j s = H (b228 j s) s.main_v9_14 s.main_v9_18 (b231 j s) (b233 j s) (b235 j s) (b237 j s) (b239 j s) (b241 j s) (b243 j s) (b245 j s) := by
  rw [l2_hh, l2_dt, l2_pre, l2_xd, l2_u, l2_uc, l2_up, l2_xz, l2_hn]; rfl
theorem layer2_x : b341 j s = X (b228 j s) s.main_v9_14 s.main_v9_18 (b231 j s) (b233 j s) (b235 j s) (b237 j s) (b239 j s) (b241 j s) (b243 j s) (b245 j s) (b247 j s) (b249 j s) := by
  rw [l2_xx, l2_y, layer2_h, l2_xd, l2_u, l2_uc, l2_up, l2_xz, l2_hn]; rfl
theorem layer2_cv : b342 j s = cvNew (up s.main_v9_14 (xz (hn (b228 j s) (b231 j s)) (b233 j s))) := by
  rw [l2_cc, l2_up, l2_xz, l2_hn]

private theorem l3_hn : b377 j s = hn (b341 j s) (b344 j s) := rfl
private theorem l3_xz : b378 j s = xz (b377 j s) (b346 j s) := rfl
private theorem l3_up : b382 j s = up s.main_v9_15 (b378 j s) := rfl
private theorem l3_uc : b389 j s = uc (b382 j s) (b348 j s) (b350 j s) := rfl
private theorem l3_u : b398 j s = silu (b389 j s) := rfl
private theorem l3_xd : b399 j s = xdbl (b398 j s) (b352 j s) := rfl
private theorem l3_pre : b405 j s = pre (b399 j s) (b354 j s) (b356 j s) := rfl
private theorem l3_dt : b419 j s = softplus (b405 j s) := rfl
private theorem l3_hh : b438 j s = hNew (b419 j s) (b358 j s) s.main_v9_19 (b399 j s) (b398 j s) := rfl
private theorem l3_y : b452 j s = yOut (b438 j s) (b399 j s) (b398 j s) (b360 j s) (b378 j s) := rfl
private theorem l3_xx : b454 j s = xNew (b341 j s) (b452 j s) (b362 j s) := rfl
private theorem l3_cc : b455 j s = cvNew (b382 j s) := rfl

theorem layer3_h : b438 j s = H (b341 j s) s.main_v9_15 s.main_v9_19 (b344 j s) (b346 j s) (b348 j s) (b350 j s) (b352 j s) (b354 j s) (b356 j s) (b358 j s) := by
  rw [l3_hh, l3_dt, l3_pre, l3_xd, l3_u, l3_uc, l3_up, l3_xz, l3_hn]; rfl
theorem layer3_x : b454 j s = X (b341 j s) s.main_v9_15 s.main_v9_19 (b344 j s) (b346 j s) (b348 j s) (b350 j s) (b352 j s) (b354 j s) (b356 j s) (b358 j s) (b360 j s) (b362 j s) := by
  rw [l3_xx, l3_y, layer3_h, l3_xd, l3_u, l3_uc, l3_up, l3_xz, l3_hn]; rfl
theorem layer3_cv : b455 j s = cvNew (up s.main_v9_15 (xz (hn (b341 j s) (b344 j s)) (b346 j s))) := by
  rw [l3_cc, l3_up, l3_xz, l3_hn]

end Cert.ModelRefIdeal.Layer
-- ==== Proof.V.RefPoint.lean ====
/-
  The reference's trip through one layer, entry by entry: each of its stages is the stage of the formulas in
  `Spec`, for the parameters `par` reads off the layer's slices.
-/
module

public import proofs.«01_k».proof.Proof.V.RefLayer
public import proofs.«01_k».proof.Proof.V.Spec

@[expose] public section

set_option maxRecDepth 16384

noncomputable section

namespace Cert.ModelRefIdeal.Layer

open Idealize.ShloMosaic Cert.ModelRefIdeal Cert.ModelRefIdeal.Gen Cert.ModelRefIdeal.Step

/-- A layer's parameters, read off its slices. -/
def par (nw : FVec Ideal S1x768 .f32) (win : FVec Ideal S3072x768 .f32) (cw : FVec Ideal S4x1536 .f32) (cb : FVec Ideal S1x1536 .f32)
    (xp : FVec Ideal S80x1536 .f32) (wdt : FVec Ideal S1536x48 .f32) (dtb : FVec Ideal S1x1536 .f32) (al : FVec Ideal S16x1536 .f32)
    (d : FVec Ideal S1x1536 .f32) (wo : FVec Ideal S768x1536 .f32) : Mamba.Par where
  nw j := nw (ix2 0 j)
  win e k := win (ix2 e k)
  cw k j := cw (ix2 k j)
  cb j := cb (ix2 0 j)
  xp e j := xp (ix2 e j)
  wdt j r := wdt (ix2 j r)
  dtb j := dtb (ix2 0 j)
  al n j := al (ix2 n j)
  dd j := d (ix2 0 j)
  wo j e := wo (ix2 j e)

variable (x : FVec Ideal S2x768 .f32) (cv : FVec Ideal S2x3x1536 .f32) (h : FVec Ideal S2x1536x16 .f32)
  (nw : FVec Ideal S1x768 .f32) (win : FVec Ideal S3072x768 .f32) (cw : FVec Ideal S4x1536 .f32) (cb : FVec Ideal S1x1536 .f32)
  (xp : FVec Ideal S80x1536 .f32) (wdt : FVec Ideal S1536x48 .f32) (dtb : FVec Ideal S1x1536 .f32) (al : FVec Ideal S16x1536 .f32)
  (d : FVec Ideal S1x1536 .f32) (wo : FVec Ideal S768x1536 .f32)

theorem hn_apply (b : Fin 2) (j : Fin 768) : hn x nw (ix2 b j) = Mamba.rms (fun j => nw (ix2 0 j)) (fun j => x (ix2 b j)) j := by
  unfold hn
  pointwise [Mamba.rms]

theorem xz_apply (b : Fin 2) (e : Fin 3072) :
    xz (hn x nw) win (ix2 b e) = Mamba.xz (par nw win cw cb xp wdt dtb al d wo) (fun j => x (ix2 b j)) e := by
  unfold xz
  pointwise [hn_apply]
  rfl

theorem up_apply (b : Fin 2) (k : Fin 4) (j : Fin 1536) :
    up cv (xz (hn x nw) win) (ix3 b k j) = if hk : k.val < 3 then cv (ix3 b ⟨k.val, hk⟩ j)
      else Mamba.xu (par nw win cw cb xp wdt dtb al d wo) (fun j => x (ix2 b j)) j := by
  unfold up
  pointwise [xz_apply x nw win cw cb xp wdt dtb al d wo]
  rfl

theorem silu_apply (v : FVec Ideal S2x1536 .f32) (b : Fin 2) (j : Fin 1536) : silu v (ix2 b j) = Mamba.silu (v (ix2 b j)) := by
  unfold silu
  pointwise [Mamba.silu]

theorem softplus_apply (v : FVec Ideal S2x1536 .f32) (b : Fin 2) (j : Fin 1536) : softplus v (ix2 b j) = Mamba.softplus (v (ix2 b j)) := by
  rw [← Mamba.softplus_guarded]
  unfold softplus zero
  pointwise []
  rw [if_neg (by simp)]
  rfl

theorem U_apply (b : Fin 2) (j : Fin 1536) :
    U x cv nw win cw cb (ix2 b j)
      = Mamba.uu (par nw win cw cb xp wdt dtb al d wo) (fun j => x (ix2 b j)) (fun k j => cv (ix3 b k j)) j := by
  unfold U
  rw [silu_apply]
  unfold uc
  pointwise [up_apply x cv nw win cw cb xp wdt dtb al d wo]
  unfold Mamba.uu
  simp only [Fin.sum_univ_four, Fin.sum_univ_three, Fin.sum_univ_one]
  rfl

theorem xd_apply (b : Fin 2) (e : Fin 80) :
    xdbl (U x cv nw win cw cb) xp (ix2 b e)
      = Mamba.xd (par nw win cw cb xp wdt dtb al d wo)
          (Mamba.uu (par nw win cw cb xp wdt dtb al d wo) (fun j => x (ix2 b j)) (fun k j => cv (ix3 b k j))) e := by
  unfold xdbl
  pointwise [U_apply x cv nw win cw cb xp wdt dtb al d wo]
  rfl

theorem dt_apply (b : Fin 2) (j : Fin 1536) :
    softplus (pre (xdbl (U x cv nw win cw cb) xp) wdt dtb) (ix2 b j)
      = Mamba.dt (par nw win cw cb xp wdt dtb al d wo)
          (Mamba.uu (par nw win cw cb xp wdt dtb al d wo) (fun j => x (ix2 b j)) (fun k j => cv (ix3 b k j))) j := by
  rw [softplus_apply]
  unfold pre
  pointwise [xd_apply x cv nw win cw cb xp wdt dtb al d wo]
  rfl

/-- The state after the token. -/
theorem H_apply (b : Fin 2) (j : Fin 1536) (n : Fin 16) :
    H x cv h nw win cw cb xp wdt dtb al (ix3 b j n)
      = Mamba.hh (par nw win cw cb xp wdt dtb al d wo)
          (Mamba.uu (par nw win cw cb xp wdt dtb al d wo) (fun j => x (ix2 b j)) (fun k j => cv (ix3 b k j)))
          (fun j n => h (ix3 b j n)) j n := by
  unfold H hNew
  pointwise [xd_apply x cv nw win cw cb xp wdt dtb al d wo, dt_apply x cv nw win cw cb xp wdt dtb al d wo,
    U_apply x cv nw win cw cb xp wdt dtb al d wo]
  rfl

/-- The row after the layer. -/
theorem X_apply (b : Fin 2) (j : Fin 768) :
    X x cv h nw win cw cb xp wdt dtb al d wo (ix2 b j)
      = Mamba.xx (par nw win cw cb xp wdt dtb al d wo) (fun j => x (ix2 b j))
          (Mamba.yy (par nw win cw cb xp wdt dtb al d wo) (fun j => x (ix2 b j))
            (Mamba.uu (par nw win cw cb xp wdt dtb al d wo) (fun j => x (ix2 b j)) (fun k j => cv (ix3 b k j)))
            (Mamba.hh (par nw win cw cb xp wdt dtb al d wo)
              (Mamba.uu (par nw win cw cb xp wdt dtb al d wo) (fun j => x (ix2 b j)) (fun k j => cv (ix3 b k j)))
              (fun j n => h (ix3 b j n)))) j := by
  unfold X xNew yOut
  pointwise [xd_apply x cv nw win cw cb xp wdt dtb al d wo, H_apply x cv h nw win cw cb xp wdt dtb al d wo,
    U_apply x cv nw win cw cb xp wdt dtb al d wo, silu_apply, xz_apply x nw win cw cb xp wdt dtb al d wo]
  rfl

/-- The carried inputs after the token. -/
theorem cv_apply (b : Fin 2) (k : Fin 3) (j : Fin 1536) :
    cvNew (up cv (xz (hn x nw) win)) (ix3 b k j) = if hk : 1 + k.val < 3 then cv (ix3 b ⟨1 + k.val, hk⟩ j)
      else Mamba.xu (par nw win cw cb xp wdt dtb al d wo) (fun j => x (ix2 b j)) j := by
  unfold cvNew
  pointwise [up_apply x cv nw win cw cb xp wdt dtb al d wo]

end Cert.ModelRefIdeal.Layer
-- ==== Proof.V.RefRun.lean ====
/-
  The reference's trips: before trip `n` its carried state is, layer by layer, the convolution's last three inputs and
  the state-space state of the sequences in `Stack`, and the last `n` rows it holds are those after all four layers.
-/
module

public import proofs.«01_k».proof.Proof.V.RefPoint
public import proofs.«01_k».proof.Proof.V.Stack
public import proofs.«01_k».proof.Proof.Gen.ModelRefIdeal.StepRun
public import Idealize.ShloMosaic.Lib.DynamicIndex
public import Idealize.ShloMosaic.Lib.Pointwise

@[expose] public section

set_option maxRecDepth 16384

noncomputable section

namespace Cert.ModelRefIdeal.Layer

open Idealize.ShloMosaic Cert.ModelRefIdeal Cert.ModelRefIdeal.Gen Cert.ModelRefIdeal.Step

/-- The parameters the state carries, which no trip changes. -/
def P (s : State Ideal) : Fin 4 → Mamba.Par :=
  Mamba.params s.main_v9_1 s.main_v9_2 s.main_v9_3 s.main_v9_4 s.main_v9_5 s.main_v9_6 s.main_v9_7 s.main_v9_8 s.main_v9_9 s.main_v9_10

variable (j : ℕ) (s : State Ideal)

/-! ### The slices a trip takes of the parameters are the layers' parameters -/

theorem par0 : par (b5 j s) (b7 j s) (b9 j s) (b11 j s) (b13 j s) (b15 j s) (b17 j s) (b19 j s) (b21 j s) (b23 j s) = P s 0 := by
  unfold par P Mamba.params
  congr 1 <;> funext a <;> first | (funext b) | skip
  · unfold b5 b4; pointwise []
  · unfold b7 b6; pointwise []
  · unfold b9 b8; pointwise []
  · unfold b11 b10; pointwise []
  · unfold b13 b12; pointwise []
  · unfold b15 b14; pointwise []
  · unfold b17 b16; pointwise []
  · unfold b19 b18; pointwise []
  · unfold b21 b20; pointwise []
  · unfold b23 b22; pointwise []

theorem par1 : par (b118 j s) (b120 j s) (b122 j s) (b124 j s) (b126 j s) (b128 j s) (b130 j s) (b132 j s) (b134 j s) (b136 j s) = P s 1 := by
  unfold par P Mamba.params
  congr 1 <;> funext a <;> first | (funext b) | skip
  · unfold b118 b117; pointwise []
  · unfold b120 b119; pointwise []
  · unfold b122 b121; pointwise []
  · unfold b124 b123; pointwise []
  · unfold b126 b125; pointwise []
  · unfold b128 b127; pointwise []
  · unfold b130 b129; pointwise []
  · unfold b132 b131; pointwise []
  · unfold b134 b133; pointwise []
  · unfold b136 b135; pointwise []

theorem par2 : par (b231 j s) (b233 j s) (b235 j s) (b237 j s) (b239 j s) (b241 j s) (b243 j s) (b245 j s) (b247 j s) (b249 j s) = P s 2 := by
  unfold par P Mamba.params
  congr 1 <;> funext a <;> first | (funext b) | skip
  · unfold b231 b230; pointwise []
  · unfold b233 b232; pointwise []
  · unfold b235 b234; pointwise []
  · unfold b237 b236; pointwise []
  · unfold b239 b238; pointwise []
  · unfold b241 b240; pointwise []
  · unfold b243 b242; pointwise []
  · unfold b245 b244; pointwise []
  · unfold b247 b246; pointwise []
  · unfold b249 b248; pointwise []

theorem par3 : par (b344 j s) (b346 j s) (b348 j s) (b350 j s) (b352 j s) (b354 j s) (b356 j s) (b358 j s) (b360 j s) (b362 j s) = P s 3 := by
  unfold par P Mamba.params
  congr 1 <;> funext a <;> first | (funext b) | skip
  · unfold b344 b343; pointwise []
  · unfold b346 b345; pointwise []
  · unfold b348 b347; pointwise []
  · unfold b350 b349; pointwise []
  · unfold b352 b351; pointwise []
  · unfold b354 b353; pointwise []
  · unfold b356 b355; pointwise []
  · unfold b358 b357; pointwise []
  · unfold b360 b359; pointwise []
  · unfold b362 b361; pointwise []

/-- Trip `j` reads token `j`'s rows. -/
theorem b3_apply (hj : j < 512) (b : Fin 2) (e : Fin 768) : b3 j s (ix2 b e) = s.main_v9_0 (ix3 ⟨j, hj⟩ b e) := by
  unfold b3 b2
  rw [Host.dynamicSlice_eq_extractStridedSlice S1x2x768 s.main_v9_0 _ ![j, 0, 0] _
    ⟨rfl, fun a => match a with
      | 0 => by show j + 1 ≤ 512; omega
      | 1 => by show 0 + 2 ≤ 2; omega
      | 2 => by show 0 + 768 ≤ 768; omega⟩
    fun a => match a with
      | 0 => toInt_ofNat_of_lt (by omega)
      | 1 => rfl
      | 2 => rfl]
  pointwise []

/-! ### A layer's trip over its sequence -/

section Layer

variable (x : FVec Ideal S2x768 .f32) (cv : FVec Ideal S2x3x1536 .f32) (h : FVec Ideal S2x1536x16 .f32)
  (nw : FVec Ideal S1x768 .f32) (win : FVec Ideal S3072x768 .f32) (cw : FVec Ideal S4x1536 .f32) (cb : FVec Ideal S1x1536 .f32)
  (xp : FVec Ideal S80x1536 .f32) (wdt : FVec Ideal S1536x48 .f32) (dtb : FVec Ideal S1x1536 .f32) (al : FVec Ideal S16x1536 .f32)
  (d : FVec Ideal S1x1536 .f32) (wo : FVec Ideal S768x1536 .f32)
  (Y : Fin 2 → ℕ → Fin 768 → EReal) (n : ℕ) (p : Mamba.Par) (hp : par nw win cw cb xp wdt dtb al d wo = p)
  (hx : ∀ b e, x (ix2 b e) = Y b n e) (hcv : ∀ b k e, cv (ix3 b k e) = Mamba.carried p (Y b) n k e)

include hp hx hcv

theorem cv_trip (b : Fin 2) (k : Fin 3) (e : Fin 1536) :
    cvNew (up cv (xz (hn x nw) win)) (ix3 b k e) = Mamba.carried p (Y b) (n + 1) k e := by
  rw [cv_apply x cv nw win cw cb xp wdt dtb al d wo, hp, Mamba.carried_succ]
  simp only [hx, hcv]

theorem H_trip (hh : ∀ b e r, h (ix3 b e r) = Mamba.state p (Y b) n e r) (b : Fin 2) (e : Fin 1536) (r : Fin 16) :
    H x cv h nw win cw cb xp wdt dtb al (ix3 b e r) = Mamba.state p (Y b) (n + 1) e r := by
  rw [H_apply x cv h nw win cw cb xp wdt dtb al d wo, hp]
  simp only [hx, hcv, hh]
  rfl

theorem X_trip (hh : ∀ b e r, h (ix3 b e r) = Mamba.state p (Y b) n e r) (b : Fin 2) (e : Fin 768) :
    X x cv h nw win cw cb xp wdt dtb al d wo (ix2 b e) = Mamba.layer p (Y b) n e := by
  rw [X_apply x cv h nw win cw cb xp wdt dtb al d wo, hp]
  simp only [hx, hcv, hh]
  rfl

end Layer

/-! ### The invariant -/

/-- What the state before trip `n` holds, of the parameters `Q` and the sequences `T`. -/
structure Inv (Q : Fin 4 → Mamba.Par) (T : Fin 2 → ℕ → Fin 768 → EReal) (n : ℕ) (s : State Ideal) : Prop where
  q : P s = Q
  xs : ∀ (t : Fin 512) b e, s.main_v9_0 (ix3 t b e) = T b t.val e
  cv0 : ∀ b k e, s.main_v9_12 (ix3 b k e) = Mamba.carried (Q 0) (Mamba.stack Q (T b) 0) n k e
  cv1 : ∀ b k e, s.main_v9_13 (ix3 b k e) = Mamba.carried (Q 1) (Mamba.stack Q (T b) 1) n k e
  cv2 : ∀ b k e, s.main_v9_14 (ix3 b k e) = Mamba.carried (Q 2) (Mamba.stack Q (T b) 2) n k e
  cv3 : ∀ b k e, s.main_v9_15 (ix3 b k e) = Mamba.carried (Q 3) (Mamba.stack Q (T b) 3) n k e
  h0 : ∀ b e r, s.main_v9_16 (ix3 b e r) = Mamba.state (Q 0) (Mamba.stack Q (T b) 0) n e r
  h1 : ∀ b e r, s.main_v9_17 (ix3 b e r) = Mamba.state (Q 1) (Mamba.stack Q (T b) 1) n e r
  h2 : ∀ b e r, s.main_v9_18 (ix3 b e r) = Mamba.state (Q 2) (Mamba.stack Q (T b) 2) n e r
  h3 : ∀ b e r, s.main_v9_19 (ix3 b e r) = Mamba.state (Q 3) (Mamba.stack Q (T b) 3) n e r
  ys : ∀ (i : Fin 512) b e, 512 ≤ i.val + n → s.main_v9_20 (ix3 i b e) = Mamba.stack Q (T b) 4 (i.val + n - 512) e

/-- The rows held move up by one and the new row comes last. -/
theorem b458_apply (i : Fin 512) (b : Fin 2) (e : Fin 768) :
    b458 j s (ix3 i b e) = if h : i.val < 511 then s.main_v9_20 (ix3 ⟨1 + i.val, by omega⟩ b e) else b454 j s (ix2 b e) := by
  unfold b458 b457 b456
  pointwise []

/-- A trip keeps the invariant. -/
theorem Inv.step {Q : Fin 4 → Mamba.Par} {T : Fin 2 → ℕ → Fin 768 → EReal} {n : ℕ} {s : State Ideal} (hn : n < 512)
    (v : Inv Q T n s) : Inv Q T (n + 1) (step n s) := by
  have x0 : ∀ b e, b3 n s (ix2 b e) = Mamba.stack Q (T b) 0 n e := fun b e => (b3_apply n s hn b e).trans (v.xs ⟨n, hn⟩ b e)
  have p0 := (par0 n s).trans (congrFun v.q 0)
  have x1 : ∀ b e, b115 n s (ix2 b e) = Mamba.stack Q (T b) 1 n e := fun b e => by
    rw [layer0_x]
    exact (X_trip _ _ _ _ _ _ _ _ _ _ _ _ _ (fun b => Mamba.stack Q (T b) 0) n _ p0 x0 v.cv0 v.h0 b e).trans
      (congrFun (congrFun (Mamba.stack_succ Q (T b) 0).symm n) e)
  have p1 := (par1 n s).trans (congrFun v.q 1)
  have x2 : ∀ b e, b228 n s (ix2 b e) = Mamba.stack Q (T b) 2 n e := fun b e => by
    rw [layer1_x]
    exact (X_trip _ _ _ _ _ _ _ _ _ _ _ _ _ (fun b => Mamba.stack Q (T b) 1) n _ p1 x1 v.cv1 v.h1 b e).trans
      (congrFun (congrFun (Mamba.stack_succ Q (T b) 1).symm n) e)
  have p2 := (par2 n s).trans (congrFun v.q 2)
  have x3 : ∀ b e, b341 n s (ix2 b e) = Mamba.stack Q (T b) 3 n e := fun b e => by
    rw [layer2_x]
    exact (X_trip _ _ _ _ _ _ _ _ _ _ _ _ _ (fun b => Mamba.stack Q (T b) 2) n _ p2 x2 v.cv2 v.h2 b e).trans
      (congrFun (congrFun (Mamba.stack_succ Q (T b) 2).symm n) e)
  have p3 := (par3 n s).trans (congrFun v.q 3)
  have x4 : ∀ b e, b454 n s (ix2 b e) = Mamba.stack Q (T b) 4 n e := fun b e => by
    rw [layer3_x]
    exact (X_trip _ _ _ _ _ _ _ _ _ _ _ _ _ (fun b => Mamba.stack Q (T b) 3) n _ p3 x3 v.cv3 v.h3 b e).trans
      (congrFun (congrFun (Mamba.stack_succ Q (T b) 3).symm n) e)
  refine ⟨v.q, v.xs, fun b k e => ?_, fun b k e => ?_, fun b k e => ?_, fun b k e => ?_, fun b e r => ?_, fun b e r => ?_, fun b e r => ?_, fun b e r => ?_, fun i b e hi => ?_⟩
  · rw [step_main_v9_12, layer0_cv]
    exact cv_trip _ _ _ _ _ _ _ _ _ _ _ _ (fun b => Mamba.stack Q (T b) 0) n _ p0 x0 v.cv0 b k e
  · rw [step_main_v9_13, layer1_cv]
    exact cv_trip _ _ _ _ _ _ _ _ _ _ _ _ (fun b => Mamba.stack Q (T b) 1) n _ p1 x1 v.cv1 b k e
  · rw [step_main_v9_14, layer2_cv]
    exact cv_trip _ _ _ _ _ _ _ _ _ _ _ _ (fun b => Mamba.stack Q (T b) 2) n _ p2 x2 v.cv2 b k e
  · rw [step_main_v9_15, layer3_cv]
    exact cv_trip _ _ _ _ _ _ _ _ _ _ _ _ (fun b => Mamba.stack Q (T b) 3) n _ p3 x3 v.cv3 b k e
  · rw [step_main_v9_16, layer0_h]
    exact H_trip _ _ _ _ _ _ _ _ _ _ _ _ _ (fun b => Mamba.stack Q (T b) 0) n _ p0 x0 v.cv0 v.h0 b e r
  · rw [step_main_v9_17, layer1_h]
    exact H_trip _ _ _ _ _ _ _ _ _ _ _ _ _ (fun b => Mamba.stack Q (T b) 1) n _ p1 x1 v.cv1 v.h1 b e r
  · rw [step_main_v9_18, layer2_h]
    exact H_trip _ _ _ _ _ _ _ _ _ _ _ _ _ (fun b => Mamba.stack Q (T b) 2) n _ p2 x2 v.cv2 v.h2 b e r
  · rw [step_main_v9_19, layer3_h]
    exact H_trip _ _ _ _ _ _ _ _ _ _ _ _ _ (fun b => Mamba.stack Q (T b) 3) n _ p3 x3 v.cv3 v.h3 b e r
  · rw [step_main_v9_20, b458_apply]
    split
    · rename_i hi'
      exact (v.ys ⟨1 + i.val, by omega⟩ b e (by show 512 ≤ 1 + i.val + n; omega)).trans
        (congrArg (fun k => Mamba.stack Q (T b) 4 k e) (by show 1 + i.val + n - 512 = i.val + (n + 1) - 512; omega))
    · rw [x4, show i.val + (n + 1) - 512 = n by omega]

/-! ### The run -/

/-- The states the reference's loop goes through on core `c`. -/
def refIter (m : (ℓ : Loc nD τ sig) → Buf (Elt Ideal) ℓ) (c : Dev nD) : ℕ → State Ideal
  | 0 => StepRun.initState m c
  | n + 1 => step n (refIter m c n)

variable (m : (ℓ : Loc nD τ sig) → Buf (Elt Ideal) ℓ) (c : Dev nD)

/-- The layers' parameters of the argument arrays. -/
def Pm : Fin 4 → Mamba.Par :=
  Mamba.params (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10))

theorem inv_zero : Inv (Pm m c) (Mamba.tokens (m ((c.tc : Thread nD τ).loc main_arg0))) 0 (StepRun.initState m c) := by
  refine ⟨rfl, fun t b e => ?_, fun b k e => ?_, fun b k e => ?_, fun b k e => ?_, fun b k e => ?_,
    fun b e r => ?_, fun b e r => ?_, fun b e r => ?_, fun b e r => ?_, fun i b e hi => absurd hi (by omega)⟩
  · dsimp only [StepRun.initState, init]
    unfold A_main_v8 A_main_v7
    pointwise []
    unfold Mamba.tokens
    rw [dif_pos t.isLt]
    exact congrArg (fun r => m ((c.tc : Thread nD τ).loc main_arg0) (ix2 r e)) (Fin.ext (by show b.val * 512 + t.val = 512 * b.val + t.val; omega))
  iterate 4
    · dsimp only [StepRun.initState, init]
      unfold K_main_v4 K_main_cst Mamba.carried
      pointwise []
  all_goals
    dsimp only [StepRun.initState, init]
    unfold K_main_v5 K_main_cst_0 Mamba.state
    pointwise []

theorem inv (n : ℕ) (hn : n ≤ 512) : Inv (Pm m c) (Mamba.tokens (m ((c.tc : Thread nD τ).loc main_arg0))) n (refIter m c n) := by
  induction n with
  | zero => exact inv_zero m c
  | succ n ih => exact (ih (by omega)).step hn

/-- What the reference returns. -/
theorem result_eq : R_main_v25 (refIter m c 512) (m ((c.tc : Thread nD τ).loc main_arg11)) (m ((c.tc : Thread nD τ).loc main_arg12))
    = Mamba.logits (Mamba.result (Pm m c) (m ((c.tc : Thread nD τ).loc main_arg0)) (m ((c.tc : Thread nD τ).loc main_arg11)))
        (m ((c.tc : Thread nD τ).loc main_arg12)) := by
  funext y
  idx_vars y
  unfold R_main_v25 Mamba.logits Mamba.result
  pointwise []
  refine Finset.sum_congr rfl fun k _ => congrArg (· * _) ?_
  rw [show Mamba.stack (Pm m c) (Mamba.tokens (m ((c.tc : Thread nD τ).loc main_arg0)) ⟨y0.val / 512, Nat.div_lt_of_lt_mul y0.isLt⟩) 4 (y0.val % 512)
      = fun e => (refIter m c 512).main_v9_20 (ix3 ⟨y0.val % 512, Nat.mod_lt _ (by decide)⟩ ⟨y0.val / 512, Nat.div_lt_of_lt_mul y0.isLt⟩ e) from
    funext fun e => ((inv m c 512 le_rfl).ys ⟨y0.val % 512, Nat.mod_lt _ (by decide)⟩ ⟨y0.val / 512, Nat.div_lt_of_lt_mul y0.isLt⟩ e (by omega)).symm]
  rfl

end Cert.ModelRefIdeal.Layer
-- ==== Proof.V.Algebraic.lean ====
/-
  The program and its reference end with the same logits: both results are one formula over argument arrays that agree.
-/
module

public import proofs.«01_k».proof.Defs
public import proofs.«01_k».proof.Proof.PI.Regions
public import proofs.«01_k».proof.Proof.V.Final
public import proofs.«01_k».proof.Proof.V.FinalHead
public import proofs.«01_k».proof.Proof.V.RefRun

@[expose] public section

set_option maxRecDepth 16384

noncomputable section

open Idealize.ShloMosaic Idealize.ShloMosaic.TcCoe Idealize.ShloMosaic.Tactic Idealize.SL.Sem

namespace Cert.ModelIdeal.Run

open Cert.ModelIdeal Cert.ModelIdeal.Gen

variable (m : (ℓ : Loc nD τ sig) → Buf (Elt Ideal) ℓ) (ρ : Dev nD → PrngReg) (c : Dev nD)

/-- The reshaped weight of the final norm. -/
theorem norm_weight (j : (⟨1, ![768]⟩ : Shape).Idx) :
    V1 m ρ c main_v0 (ix3 0 0 (j 0)) = m ((c : Thread nD τ).loc main_arg11) j := by
  idx_vars j
  show shapeCast S1x1x768 (m ((c : Thread nD τ).loc main_arg11)) _ _ = _
  pointwise []

/-- The layers' parameters of the argument arrays. -/
def Pm : Fin 4 → Mamba.Par :=
  Mamba.params (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7)) (m ((c : Thread nD τ).loc main_arg8)) (m ((c : Thread nD τ).loc main_arg9))
    (m ((c : Thread nD τ).loc main_arg10))

theorem P_V1 : P (V1 m ρ) c = Pm m c := by
  have h := W1_args m ρ c
  unfold P Pm
  dsimp only [V1]
  rw [h main_arg1 (by decide), h main_arg2 (by decide), h main_arg3 (by decide), h main_arg4 (by decide), h main_arg5 (by decide),
    h main_arg6 (by decide), h main_arg7 (by decide), h main_arg8 (by decide), h main_arg9 (by decide), h main_arg10 (by decide)]

/-- The rows the layers call hands to the head call. -/
theorem rows_eq : V2 m ρ c main_v1 = Mamba.result (Pm m c) (m ((c : Thread nD τ).loc main_arg0)) (m ((c : Thread nD τ).loc main_arg11)) := by
  refine (W2_arr m ρ c 12).trans ((final (V1 m ρ) c).trans ?_)
  rw [P_V1, show (fun j : (⟨1, ![768]⟩ : Shape).Idx => V1 m ρ c main_v0 (ix3 0 0 (j 0))) = m ((c : Thread nD τ).loc main_arg11) from
    funext fun j => norm_weight m ρ c j, show V1 m ρ c main_arg0 = m ((c : Thread nD τ).loc main_arg0) from W1_args m ρ c main_arg0 (by decide)]

/-- The result array at the end of the run. -/
theorem result_eq : W3 m ρ c (Proc.devRef .tc main_v2)
    = Mamba.logits (Mamba.result (Pm m c) (m ((c : Thread nD τ).loc main_arg0)) (m ((c : Thread nD τ).loc main_arg11))) (m ((c : Thread nD τ).loc main_arg12)) := by
  refine (W3_arr m ρ c 2).trans ((finalHead (V2 m ρ) c).trans ?_)
  rw [rows_eq, show V2 m ρ c main_arg12 = m ((c : Thread nD τ).loc main_arg12) from W2_args m ρ c main_arg12 (by decide)]

/-- The run, read at the result. -/
theorem run_result : θ_run (Cert.ModelIdeal.defs (F := Ideal)) (onTc (τ := τ) (main (F := Ideal))) ⟨m, fun _ => 0, ρ⟩ (fun r => ∀ c : Dev nD,
    r.2.mem ((c.tc : Thread nD τ).loc main_v2)
      = Mamba.logits (Mamba.result (Pm m c) (m ((c : Thread nD τ).loc main_arg0)) (m ((c : Thread nD τ).loc main_arg11))) (m ((c : Thread nD τ).loc main_arg12))) :=
  (θ_run (Cert.ModelIdeal.defs (F := Ideal)) _ _).mono (fun _ h c => (h.1 c _ (mem_uc main_v2 (by decide))).trans (result_eq m ρ c)) (run m ρ)

/-- The run, read at the arguments. -/
theorem run_args : θ_run (Cert.ModelIdeal.defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run (Cert.ModelIdeal.defs (F := Ideal)) _ _).mono (fun _ h => h.1) (frame m ρ)

end Cert.ModelIdeal.Run

namespace Cert.Mamba

/-- The two programs end with the same logits. -/
theorem algebraic : Cert.algebraic_ModelIdeal_ModelRefIdeal := by
  pair_intro
  · run_from Cert.ModelIdeal.Run.run_result m g & Cert.ModelIdeal.Run.run_args m g
  · run_from Cert.ModelRefIdeal.StepRun.run_iter m' g' (Cert.ModelRefIdeal.Layer.refIter m') (fun _ => rfl) (fun _ _ => rfl)
    obtain ⟨a0, a1, a2, a3, a4, a5, a6, a7, a8, a9, a10, a11, a12⟩ := hagree c
    have hP : Cert.ModelRefIdeal.Layer.Pm m' c = Cert.ModelIdeal.Run.Pm m c := by
      unfold Cert.ModelRefIdeal.Layer.Pm Cert.ModelIdeal.Run.Pm
      rw [a1, a2, a3, a4, a5, a6, a7, a8, a9, a10]
    rw [← a11, ← a12, Cert.ModelRefIdeal.Layer.result_eq, hP, a0, a11, a12]

end Cert.Mamba
-- ==== Proof.lean ====
/-
  The certificate, for the two calls as one program and for the head call alone: the frames of the program, its
  idealization and the reference, that the idealization preserves the program, and that the idealized program and the
  reference end with the same logits.
-/
module

public import proofs.«01_k».proof.Defs
public import proofs.«01_k».proof.Proof.Gen.Model.Launch
public import proofs.«01_k».proof.Proof.Gen.Model.Skeleton
public import proofs.«01_k».proof.Proof.Gen.Model.Points
public import proofs.«01_k».proof.Proof.Gen.ModelIdeal.Launch
public import proofs.«01_k».proof.Proof.Gen.ModelIdeal.Skeleton
public import proofs.«01_k».proof.Proof.Gen.ModelIdeal.Points
public import proofs.«01_k».proof.Proof.Gen.ModelRefIdeal.StepRun
public import proofs.«01_k».proof.Proof.Gen.Head.Skeleton
public import proofs.«01_k».proof.Proof.Gen.Head.Frame
public import proofs.«01_k».proof.Proof.Gen.HeadIdeal.Frame
public import proofs.«01_k».proof.Proof.Gen.HeadIdeal.Value
public import proofs.«01_k».proof.Proof.Gen.HeadRefIdeal.Run
public import proofs.«01_k».proof.Proof.V.HeadAlone
public import proofs.«01_k».proof.Proof.P.Regions
public import proofs.«01_k».proof.Proof.PI.Regions
public import proofs.«01_k».proof.Proof.V.Algebraic
public import Idealize.ShloMosaic.Adequacy
public import Idealize.ShloMosaic.Init

@[expose] public section

noncomputable section

namespace Cert.Proof

open Idealize.ShloMosaic Idealize.SL.Sem

theorem claim : Cert.Claim :=
  ⟨Cert.Model.Gen.facts, Cert.ModelIdeal.Gen.facts, Cert.ModelRefIdeal.Gen.facts,
    Cert.Head.Gen.facts, Cert.HeadIdeal.Gen.facts, Cert.HeadRefIdeal.Gen.facts,
    fun m ρ _ => Cert.Model.Run.frame m ρ,
    fun m ρ _ => Cert.ModelIdeal.Run.frame m ρ,
    fun m ρ _ => (θ_run Cert.ModelRefIdeal.defs _ _).mono (fun r h => ⟨fun c => (h c).2,
      Idealize.ShloMosaic.sem_eq_zero_of_no_sems (by decide) r.2⟩)
      (Cert.ModelRefIdeal.StepRun.run_iter m ρ (Cert.ModelRefIdeal.Layer.refIter m) (fun _ => rfl) (fun _ _ => rfl)),
    fun m ρ _ => Cert.Head.Gen.frame m ρ,
    fun m ρ _ => Cert.HeadIdeal.Gen.frame m ρ,
    fun m ρ _ => (θ_run Cert.HeadRefIdeal.defs _ _).mono (fun r h => ⟨fun c => (h c).2,
      Idealize.ShloMosaic.sem_eq_zero_of_no_sems (by decide) r.2⟩)
      (Cert.HeadRefIdeal.Value.run (F := Ideal) m ρ),
    ⟨IdealRules.named_const.statement Cert.ModelIdeal.κ "never" .f32 0x41A00000#32 ⊤ rfl,
      IdealRules.named_const.statement Cert.ModelIdeal.κ "neg_log2_e" .f32 0xBFB8AA3B#32 ((-((Real.log 2)⁻¹) : ℝ) : EReal) rfl⟩,
    Cert.Mamba.algebraic, trivial, Cert.HeadIdeal.Val.algebraic⟩

end Cert.Proof

end
